-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ExpertKernel [hPre_in_range : Cert.Pre_in_range.Facts] (m : (ℓ : Loc Cert.ExpertKernel.nD Cert.ExpertKernel.τ Cert.ExpertKernel.sig) → Buf (Elt Bits) ℓ) : Prop :=
  ∀ c : Dev Cert.ExpertKernel.nD,
    (Cert.Pre_in_range.fn (F := Bits) (m ((c.tc : Thread Cert.ExpertKernel.nD Cert.ExpertKernel.τ).loc Cert.ExpertKernel.main_arg0)) (m ((c.tc : Thread Cert.ExpertKernel.nD Cert.ExpertKernel.τ).loc Cert.ExpertKernel.main_arg1)) (m ((c.tc : Thread Cert.ExpertKernel.nD Cert.ExpertKernel.τ).loc Cert.ExpertKernel.main_arg2)) (m ((c.tc : Thread Cert.ExpertKernel.nD Cert.ExpertKernel.τ).loc Cert.ExpertKernel.main_arg3)) (m ((c.tc : Thread Cert.ExpertKernel.nD Cert.ExpertKernel.τ).loc Cert.ExpertKernel.main_arg4)) (m ((c.tc : Thread Cert.ExpertKernel.nD Cert.ExpertKernel.τ).loc Cert.ExpertKernel.main_arg5)) (m ((c.tc : Thread Cert.ExpertKernel.nD Cert.ExpertKernel.τ).loc Cert.ExpertKernel.main_arg6))) = (fun _ => 1#1)

def Pre_ExpertKernelIdeal [hPre_in_range : Cert.Pre_in_range.Facts] (m : (ℓ : Loc Cert.ExpertKernelIdeal.nD Cert.ExpertKernelIdeal.τ Cert.ExpertKernelIdeal.sig) → Buf (Elt Ideal) ℓ) : Prop :=
  ∀ c : Dev Cert.ExpertKernelIdeal.nD,
    (Cert.Pre_in_range.fn (F := Ideal) (m ((c.tc : Thread Cert.ExpertKernelIdeal.nD Cert.ExpertKernelIdeal.τ).loc Cert.ExpertKernelIdeal.main_arg0)) (m ((c.tc : Thread Cert.ExpertKernelIdeal.nD Cert.ExpertKernelIdeal.τ).loc Cert.ExpertKernelIdeal.main_arg1)) (m ((c.tc : Thread Cert.ExpertKernelIdeal.nD Cert.ExpertKernelIdeal.τ).loc Cert.ExpertKernelIdeal.main_arg2)) (m ((c.tc : Thread Cert.ExpertKernelIdeal.nD Cert.ExpertKernelIdeal.τ).loc Cert.ExpertKernelIdeal.main_arg3)) (m ((c.tc : Thread Cert.ExpertKernelIdeal.nD Cert.ExpertKernelIdeal.τ).loc Cert.ExpertKernelIdeal.main_arg4)) (m ((c.tc : Thread Cert.ExpertKernelIdeal.nD Cert.ExpertKernelIdeal.τ).loc Cert.ExpertKernelIdeal.main_arg5)) (m ((c.tc : Thread Cert.ExpertKernelIdeal.nD Cert.ExpertKernelIdeal.τ).loc Cert.ExpertKernelIdeal.main_arg6))) = (fun _ => 1#1)

def Pre_ExpertReferenceIdeal (m : (ℓ : Loc Cert.ExpertReferenceIdeal.nD Cert.ExpertReferenceIdeal.τ Cert.ExpertReferenceIdeal.sig) → Buf (Elt Ideal) ℓ) : Prop :=
  True

def Pre_ExpertReferenceIdeal_in_range [hPre_in_range : Cert.Pre_in_range.Facts] (m : (ℓ : Loc Cert.ExpertReferenceIdeal.nD Cert.ExpertReferenceIdeal.τ Cert.ExpertReferenceIdeal.sig) → Buf (Elt Ideal) ℓ) : Prop :=
  ∀ c : Dev Cert.ExpertReferenceIdeal.nD,
    (Cert.Pre_in_range.fn (F := Ideal) (m ((c.tc : Thread Cert.ExpertReferenceIdeal.nD Cert.ExpertReferenceIdeal.τ).loc Cert.ExpertReferenceIdeal.main_arg0)) (m ((c.tc : Thread Cert.ExpertReferenceIdeal.nD Cert.ExpertReferenceIdeal.τ).loc Cert.ExpertReferenceIdeal.main_arg1)) (m ((c.tc : Thread Cert.ExpertReferenceIdeal.nD Cert.ExpertReferenceIdeal.τ).loc Cert.ExpertReferenceIdeal.main_arg2)) (m ((c.tc : Thread Cert.ExpertReferenceIdeal.nD Cert.ExpertReferenceIdeal.τ).loc Cert.ExpertReferenceIdeal.main_arg3)) (m ((c.tc : Thread Cert.ExpertReferenceIdeal.nD Cert.ExpertReferenceIdeal.τ).loc Cert.ExpertReferenceIdeal.main_arg4)) (m ((c.tc : Thread Cert.ExpertReferenceIdeal.nD Cert.ExpertReferenceIdeal.τ).loc Cert.ExpertReferenceIdeal.main_arg5)) (m ((c.tc : Thread Cert.ExpertReferenceIdeal.nD Cert.ExpertReferenceIdeal.τ).loc Cert.ExpertReferenceIdeal.main_arg6))) = (fun _ => 1#1)

def Pre_CombineKernel [hPre_rows_in_range : Cert.Pre_rows_in_range.Facts] (m : (ℓ : Loc Cert.CombineKernel.nD Cert.CombineKernel.τ Cert.CombineKernel.sig) → Buf (Elt Bits) ℓ) : Prop :=
  ∀ c : Dev Cert.CombineKernel.nD,
    (Cert.Pre_rows_in_range.fn (F := Bits) (m ((c.tc : Thread Cert.CombineKernel.nD Cert.CombineKernel.τ).loc Cert.CombineKernel.main_arg0)) (m ((c.tc : Thread Cert.CombineKernel.nD Cert.CombineKernel.τ).loc Cert.CombineKernel.main_arg1)) (m ((c.tc : Thread Cert.CombineKernel.nD Cert.CombineKernel.τ).loc Cert.CombineKernel.main_arg2)) (m ((c.tc : Thread Cert.CombineKernel.nD Cert.CombineKernel.τ).loc Cert.CombineKernel.main_arg3)) (m ((c.tc : Thread Cert.CombineKernel.nD Cert.CombineKernel.τ).loc Cert.CombineKernel.main_arg4)) (m ((c.tc : Thread Cert.CombineKernel.nD Cert.CombineKernel.τ).loc Cert.CombineKernel.main_arg5))) = (fun _ => 1#1)

def Pre_CombineKernelIdeal [hPre_rows_in_range : Cert.Pre_rows_in_range.Facts] (m : (ℓ : Loc Cert.CombineKernelIdeal.nD Cert.CombineKernelIdeal.τ Cert.CombineKernelIdeal.sig) → Buf (Elt Ideal) ℓ) : Prop :=
  ∀ c : Dev Cert.CombineKernelIdeal.nD,
    (Cert.Pre_rows_in_range.fn (F := Ideal) (m ((c.tc : Thread Cert.CombineKernelIdeal.nD Cert.CombineKernelIdeal.τ).loc Cert.CombineKernelIdeal.main_arg0)) (m ((c.tc : Thread Cert.CombineKernelIdeal.nD Cert.CombineKernelIdeal.τ).loc Cert.CombineKernelIdeal.main_arg1)) (m ((c.tc : Thread Cert.CombineKernelIdeal.nD Cert.CombineKernelIdeal.τ).loc Cert.CombineKernelIdeal.main_arg2)) (m ((c.tc : Thread Cert.CombineKernelIdeal.nD Cert.CombineKernelIdeal.τ).loc Cert.CombineKernelIdeal.main_arg3)) (m ((c.tc : Thread Cert.CombineKernelIdeal.nD Cert.CombineKernelIdeal.τ).loc Cert.CombineKernelIdeal.main_arg4)) (m ((c.tc : Thread Cert.CombineKernelIdeal.nD Cert.CombineKernelIdeal.τ).loc Cert.CombineKernelIdeal.main_arg5))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_rows_in_range [hPre_rows_in_range : Cert.Pre_rows_in_range.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_rows_in_range.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4)) (m ((c.tc : Thread Cert.CombineReferenceIdeal.nD Cert.CombineReferenceIdeal.τ).loc Cert.CombineReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11)
      ∧ r.2.mem ((c.tc : Thread Cert.MergeKernel.nD Cert.MergeKernel.τ).loc Cert.MergeKernel.main_arg12) = m ((c.tc : Thread Cert.MergeKernel.nD Cert.MergeKernel.τ).loc Cert.MergeKernel.main_arg12))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_ExpertKernel [hExpertKernel : Cert.ExpertKernel.Facts] [hPre_in_range : Cert.Pre_in_range.Facts] : Prop :=
  ∀ (m : (ℓ : Loc Cert.ExpertKernel.nD Cert.ExpertKernel.τ Cert.ExpertKernel.sig) → Buf (Elt Bits) ℓ) (g : Dev Cert.ExpertKernel.nD → PrngReg), Pre_ExpertKernel m →
    θ_run (Cert.ExpertKernel.defs (F := Bits)) (onTc (τ := Cert.ExpertKernel.τ) (Cert.ExpertKernel.main (F := Bits))) ⟨m, fun _ => 0, g⟩ (fun r => (∀ c : Dev Cert.ExpertKernel.nD,
      r.2.mem ((c.tc : Thread Cert.ExpertKernel.nD Cert.ExpertKernel.τ).loc Cert.ExpertKernel.main_arg0) = m ((c.tc : Thread Cert.ExpertKernel.nD Cert.ExpertKernel.τ).loc Cert.ExpertKernel.main_arg0)
      ∧ r.2.mem ((c.tc : Thread Cert.ExpertKernel.nD Cert.ExpertKernel.τ).loc Cert.ExpertKernel.main_arg1) = m ((c.tc : Thread Cert.ExpertKernel.nD Cert.ExpertKernel.τ).loc Cert.ExpertKernel.main_arg1)
      ∧ r.2.mem ((c.tc : Thread Cert.ExpertKernel.nD Cert.ExpertKernel.τ).loc Cert.ExpertKernel.main_arg2) = m ((c.tc : Thread Cert.ExpertKernel.nD Cert.ExpertKernel.τ).loc Cert.ExpertKernel.main_arg2)
      ∧ r.2.mem ((c.tc : Thread Cert.ExpertKernel.nD Cert.ExpertKernel.τ).loc Cert.ExpertKernel.main_arg3) = m ((c.tc : Thread Cert.ExpertKernel.nD Cert.ExpertKernel.τ).loc Cert.ExpertKernel.main_arg3)
      ∧ r.2.mem ((c.tc : Thread Cert.ExpertKernel.nD Cert.ExpertKernel.τ).loc Cert.ExpertKernel.main_arg4) = m ((c.tc : Thread Cert.ExpertKernel.nD Cert.ExpertKernel.τ).loc Cert.ExpertKernel.main_arg4)
      ∧ r.2.mem ((c.tc : Thread Cert.ExpertKernel.nD Cert.ExpertKernel.τ).loc Cert.ExpertKernel.main_arg5) = m ((c.tc : Thread Cert.ExpertKernel.nD Cert.ExpertKernel.τ).loc Cert.ExpertKernel.main_arg5)
      ∧ r.2.mem ((c.tc : Thread Cert.ExpertKernel.nD Cert.ExpertKernel.τ).loc Cert.ExpertKernel.main_arg6) = m ((c.tc : Thread Cert.ExpertKernel.nD Cert.ExpertKernel.τ).loc Cert.ExpertKernel.main_arg6))
      ∧ r.2.sem = fun _ => 0)

def quiescent_ExpertKernelIdeal [hExpertKernelIdeal : Cert.ExpertKernelIdeal.Facts] [hPre_in_range : Cert.Pre_in_range.Facts] : Prop :=
  ∀ (m : (ℓ : Loc Cert.ExpertKernelIdeal.nD Cert.ExpertKernelIdeal.τ Cert.ExpertKernelIdeal.sig) → Buf (Elt Ideal) ℓ) (g : Dev Cert.ExpertKernelIdeal.nD → PrngReg), Pre_ExpertKernelIdeal m →
    θ_run (Cert.ExpertKernelIdeal.defs (F := Ideal)) (onTc (τ := Cert.ExpertKernelIdeal.τ) (Cert.ExpertKernelIdeal.main (F := Ideal))) ⟨m, fun _ => 0, g⟩ (fun r => (∀ c : Dev Cert.ExpertKernelIdeal.nD,
      r.2.mem ((c.tc : Thread Cert.ExpertKernelIdeal.nD Cert.ExpertKernelIdeal.τ).loc Cert.ExpertKernelIdeal.main_arg0) = m ((c.tc : Thread Cert.ExpertKernelIdeal.nD Cert.ExpertKernelIdeal.τ).loc Cert.ExpertKernelIdeal.main_arg0)
      ∧ r.2.mem ((c.tc : Thread Cert.ExpertKernelIdeal.nD Cert.ExpertKernelIdeal.τ).loc Cert.ExpertKernelIdeal.main_arg1) = m ((c.tc : Thread Cert.ExpertKernelIdeal.nD Cert.ExpertKernelIdeal.τ).loc Cert.ExpertKernelIdeal.main_arg1)
      ∧ r.2.mem ((c.tc : Thread Cert.ExpertKernelIdeal.nD Cert.ExpertKernelIdeal.τ).loc Cert.ExpertKernelIdeal.main_arg2) = m ((c.tc : Thread Cert.ExpertKernelIdeal.nD Cert.ExpertKernelIdeal.τ).loc Cert.ExpertKernelIdeal.main_arg2)
      ∧ r.2.mem ((c.tc : Thread Cert.ExpertKernelIdeal.nD Cert.ExpertKernelIdeal.τ).loc Cert.ExpertKernelIdeal.main_arg3) = m ((c.tc : Thread Cert.ExpertKernelIdeal.nD Cert.ExpertKernelIdeal.τ).loc Cert.ExpertKernelIdeal.main_arg3)
      ∧ r.2.mem ((c.tc : Thread Cert.ExpertKernelIdeal.nD Cert.ExpertKernelIdeal.τ).loc Cert.ExpertKernelIdeal.main_arg4) = m ((c.tc : Thread Cert.ExpertKernelIdeal.nD Cert.ExpertKernelIdeal.τ).loc Cert.ExpertKernelIdeal.main_arg4)
      ∧ r.2.mem ((c.tc : Thread Cert.ExpertKernelIdeal.nD Cert.ExpertKernelIdeal.τ).loc Cert.ExpertKernelIdeal.main_arg5) = m ((c.tc : Thread Cert.ExpertKernelIdeal.nD Cert.ExpertKernelIdeal.τ).loc Cert.ExpertKernelIdeal.main_arg5)
      ∧ r.2.mem ((c.tc : Thread Cert.ExpertKernelIdeal.nD Cert.ExpertKernelIdeal.τ).loc Cert.ExpertKernelIdeal.main_arg6) = m ((c.tc : Thread Cert.ExpertKernelIdeal.nD Cert.ExpertKernelIdeal.τ).loc Cert.ExpertKernelIdeal.main_arg6))
      ∧ r.2.sem = fun _ => 0)

def quiescent_ExpertReferenceIdeal [hExpertReferenceIdeal : Cert.ExpertReferenceIdeal.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4)
      ∧ r.2.mem ((c.tc : Thread Cert.ExpertReferenceIdeal.nD Cert.ExpertReferenceIdeal.τ).loc Cert.ExpertReferenceIdeal.main_arg5) = m ((c.tc : Thread Cert.ExpertReferenceIdeal.nD Cert.ExpertReferenceIdeal.τ).loc Cert.ExpertReferenceIdeal.main_arg5)
      ∧ r.2.mem ((c.tc : Thread Cert.ExpertReferenceIdeal.nD Cert.ExpertReferenceIdeal.τ).loc Cert.ExpertReferenceIdeal.main_arg6) = m ((c.tc : Thread Cert.ExpertReferenceIdeal.nD Cert.ExpertReferenceIdeal.τ).loc Cert.ExpertReferenceIdeal.main_arg6))
      ∧ r.2.sem = fun _ => 0)

def quiescent_ExpertReferenceIdeal_pre_in_range [hExpertReferenceIdeal : Cert.ExpertReferenceIdeal.Facts] [hPre_in_range : Cert.Pre_in_range.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal_in_range m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4)
      ∧ r.2.mem ((c.tc : Thread Cert.ExpertReferenceIdeal.nD Cert.ExpertReferenceIdeal.τ).loc Cert.ExpertReferenceIdeal.main_arg5) = m ((c.tc : Thread Cert.ExpertReferenceIdeal.nD Cert.ExpertReferenceIdeal.τ).loc Cert.ExpertReferenceIdeal.main_arg5)
      ∧ r.2.mem ((c.tc : Thread Cert.ExpertReferenceIdeal.nD Cert.ExpertReferenceIdeal.τ).loc Cert.ExpertReferenceIdeal.main_arg6) = m ((c.tc : Thread Cert.ExpertReferenceIdeal.nD Cert.ExpertReferenceIdeal.τ).loc Cert.ExpertReferenceIdeal.main_arg6))
      ∧ r.2.sem = fun _ => 0)

def quiescent_CombineKernel [hCombineKernel : Cert.CombineKernel.Facts] [hPre_rows_in_range : Cert.Pre_rows_in_range.Facts] : Prop :=
  ∀ (m : (ℓ : Loc Cert.CombineKernel.nD Cert.CombineKernel.τ Cert.CombineKernel.sig) → Buf (Elt Bits) ℓ) (g : Dev Cert.CombineKernel.nD → PrngReg), Pre_CombineKernel m →
    θ_run (Cert.CombineKernel.defs (F := Bits)) (onTc (τ := Cert.CombineKernel.τ) (Cert.CombineKernel.main (F := Bits))) ⟨m, fun _ => 0, g⟩ (fun r => (∀ c : Dev Cert.CombineKernel.nD,
      r.2.mem ((c.tc : Thread Cert.CombineKernel.nD Cert.CombineKernel.τ).loc Cert.CombineKernel.main_arg0) = m ((c.tc : Thread Cert.CombineKernel.nD Cert.CombineKernel.τ).loc Cert.CombineKernel.main_arg0)
      ∧ r.2.mem ((c.tc : Thread Cert.CombineKernel.nD Cert.CombineKernel.τ).loc Cert.CombineKernel.main_arg1) = m ((c.tc : Thread Cert.CombineKernel.nD Cert.CombineKernel.τ).loc Cert.CombineKernel.main_arg1)
      ∧ r.2.mem ((c.tc : Thread Cert.CombineKernel.nD Cert.CombineKernel.τ).loc Cert.CombineKernel.main_arg2) = m ((c.tc : Thread Cert.CombineKernel.nD Cert.CombineKernel.τ).loc Cert.CombineKernel.main_arg2)
      ∧ r.2.mem ((c.tc : Thread Cert.CombineKernel.nD Cert.CombineKernel.τ).loc Cert.CombineKernel.main_arg3) = m ((c.tc : Thread Cert.CombineKernel.nD Cert.CombineKernel.τ).loc Cert.CombineKernel.main_arg3)
      ∧ r.2.mem ((c.tc : Thread Cert.CombineKernel.nD Cert.CombineKernel.τ).loc Cert.CombineKernel.main_arg4) = m ((c.tc : Thread Cert.CombineKernel.nD Cert.CombineKernel.τ).loc Cert.CombineKernel.main_arg4)
      ∧ r.2.mem ((c.tc : Thread Cert.CombineKernel.nD Cert.CombineKernel.τ).loc Cert.CombineKernel.main_arg5) = m ((c.tc : Thread Cert.CombineKernel.nD Cert.CombineKernel.τ).loc Cert.CombineKernel.main_arg5))
      ∧ r.2.sem = fun _ => 0)

def quiescent_CombineKernelIdeal [hCombineKernelIdeal : Cert.CombineKernelIdeal.Facts] [hPre_rows_in_range : Cert.Pre_rows_in_range.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg), Pre_CombineKernelIdeal m →
    θ_run (Cert.CombineKernelIdeal.defs (F := Ideal)) (onTc (τ := Cert.CombineKernelIdeal.τ) (Cert.CombineKernelIdeal.main (F := Ideal))) ⟨m, fun _ => 0, g⟩ (fun r => (∀ c : Dev Cert.CombineKernelIdeal.nD,
      r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
      ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
      ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
      ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
      ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
      ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_CombineReferenceIdeal_pre_rows_in_range [hCombineReferenceIdeal : Cert.CombineReferenceIdeal.Facts] [hPre_rows_in_range : Cert.Pre_rows_in_range.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_rows_in_range m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3DD105EC#32 (((Real.sqrt 96)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)
      ∧ m' ((c.tc : Thread Cert.MergeReferenceIdeal.nD Cert.MergeReferenceIdeal.τ).loc Cert.MergeReferenceIdeal.main_arg12) = m ((c.tc : Thread Cert.MergeKernelIdeal.nD Cert.MergeKernelIdeal.τ).loc Cert.MergeKernelIdeal.main_arg12)) →
    ∃ (v0 : (c : Dev Cert.MergeKernelIdeal.nD) → Buf (Elt Ideal) ((c.tc : Thread Cert.MergeKernelIdeal.nD Cert.MergeKernelIdeal.τ).loc Cert.MergeKernelIdeal.main_v0)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
          ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v61) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_ExpertKernel_ExpertKernelIdeal : Prop :=
  True

def algebraic_ExpertKernelIdeal_ExpertReferenceIdeal [hExpertKernelIdeal : Cert.ExpertKernelIdeal.Facts] [hExpertReferenceIdeal : Cert.ExpertReferenceIdeal.Facts] [hPre_in_range : Cert.Pre_in_range.Facts] : Prop :=
  ∀ (m : (ℓ : Loc Cert.ExpertKernelIdeal.nD Cert.ExpertKernelIdeal.τ Cert.ExpertKernelIdeal.sig) → Buf (Elt Ideal) ℓ) (g : Dev Cert.ExpertKernelIdeal.nD → PrngReg)
    (m' : (ℓ : Loc Cert.ExpertReferenceIdeal.nD Cert.ExpertReferenceIdeal.τ Cert.ExpertReferenceIdeal.sig) → Buf (Elt Ideal) ℓ) (g' : Dev Cert.ExpertReferenceIdeal.nD → PrngReg), Pre_ExpertKernelIdeal m →
    (∀ c : Dev Cert.ExpertKernelIdeal.nD,
      m' ((c.tc : Thread Cert.ExpertReferenceIdeal.nD Cert.ExpertReferenceIdeal.τ).loc Cert.ExpertReferenceIdeal.main_arg0) = m ((c.tc : Thread Cert.ExpertKernelIdeal.nD Cert.ExpertKernelIdeal.τ).loc Cert.ExpertKernelIdeal.main_arg0)
      ∧ m' ((c.tc : Thread Cert.ExpertReferenceIdeal.nD Cert.ExpertReferenceIdeal.τ).loc Cert.ExpertReferenceIdeal.main_arg1) = m ((c.tc : Thread Cert.ExpertKernelIdeal.nD Cert.ExpertKernelIdeal.τ).loc Cert.ExpertKernelIdeal.main_arg1)
      ∧ m' ((c.tc : Thread Cert.ExpertReferenceIdeal.nD Cert.ExpertReferenceIdeal.τ).loc Cert.ExpertReferenceIdeal.main_arg2) = m ((c.tc : Thread Cert.ExpertKernelIdeal.nD Cert.ExpertKernelIdeal.τ).loc Cert.ExpertKernelIdeal.main_arg2)
      ∧ m' ((c.tc : Thread Cert.ExpertReferenceIdeal.nD Cert.ExpertReferenceIdeal.τ).loc Cert.ExpertReferenceIdeal.main_arg3) = m ((c.tc : Thread Cert.ExpertKernelIdeal.nD Cert.ExpertKernelIdeal.τ).loc Cert.ExpertKernelIdeal.main_arg3)
      ∧ m' ((c.tc : Thread Cert.ExpertReferenceIdeal.nD Cert.ExpertReferenceIdeal.τ).loc Cert.ExpertReferenceIdeal.main_arg4) = m ((c.tc : Thread Cert.ExpertKernelIdeal.nD Cert.ExpertKernelIdeal.τ).loc Cert.ExpertKernelIdeal.main_arg4)
      ∧ m' ((c.tc : Thread Cert.ExpertReferenceIdeal.nD Cert.ExpertReferenceIdeal.τ).loc Cert.ExpertReferenceIdeal.main_arg5) = m ((c.tc : Thread Cert.ExpertKernelIdeal.nD Cert.ExpertKernelIdeal.τ).loc Cert.ExpertKernelIdeal.main_arg5)
      ∧ m' ((c.tc : Thread Cert.ExpertReferenceIdeal.nD Cert.ExpertReferenceIdeal.τ).loc Cert.ExpertReferenceIdeal.main_arg6) = m ((c.tc : Thread Cert.ExpertKernelIdeal.nD Cert.ExpertKernelIdeal.τ).loc Cert.ExpertKernelIdeal.main_arg6)) →
    ∃ (v0 : (c : Dev Cert.ExpertKernelIdeal.nD) → Buf (Elt Ideal) ((c.tc : Thread Cert.ExpertKernelIdeal.nD Cert.ExpertKernelIdeal.τ).loc Cert.ExpertKernelIdeal.main_v0)),
      θ_run (Cert.ExpertKernelIdeal.defs (F := Ideal)) (onTc (τ := Cert.ExpertKernelIdeal.τ) (Cert.ExpertKernelIdeal.main (F := Ideal))) ⟨m, fun _ => 0, g⟩ (fun r => ∀ c : Dev Cert.ExpertKernelIdeal.nD,
          r.2.mem ((c.tc : Thread Cert.ExpertKernelIdeal.nD Cert.ExpertKernelIdeal.τ).loc Cert.ExpertKernelIdeal.main_v0) = v0 c
          ∧ r.2.mem ((c.tc : Thread Cert.ExpertKernelIdeal.nD Cert.ExpertKernelIdeal.τ).loc Cert.ExpertKernelIdeal.main_arg0) = m ((c.tc : Thread Cert.ExpertKernelIdeal.nD Cert.ExpertKernelIdeal.τ).loc Cert.ExpertKernelIdeal.main_arg0)
          ∧ r.2.mem ((c.tc : Thread Cert.ExpertKernelIdeal.nD Cert.ExpertKernelIdeal.τ).loc Cert.ExpertKernelIdeal.main_arg1) = m ((c.tc : Thread Cert.ExpertKernelIdeal.nD Cert.ExpertKernelIdeal.τ).loc Cert.ExpertKernelIdeal.main_arg1)
          ∧ r.2.mem ((c.tc : Thread Cert.ExpertKernelIdeal.nD Cert.ExpertKernelIdeal.τ).loc Cert.ExpertKernelIdeal.main_arg2) = m ((c.tc : Thread Cert.ExpertKernelIdeal.nD Cert.ExpertKernelIdeal.τ).loc Cert.ExpertKernelIdeal.main_arg2)
          ∧ r.2.mem ((c.tc : Thread Cert.ExpertKernelIdeal.nD Cert.ExpertKernelIdeal.τ).loc Cert.ExpertKernelIdeal.main_arg3) = m ((c.tc : Thread Cert.ExpertKernelIdeal.nD Cert.ExpertKernelIdeal.τ).loc Cert.ExpertKernelIdeal.main_arg3)
          ∧ r.2.mem ((c.tc : Thread Cert.ExpertKernelIdeal.nD Cert.ExpertKernelIdeal.τ).loc Cert.ExpertKernelIdeal.main_arg4) = m ((c.tc : Thread Cert.ExpertKernelIdeal.nD Cert.ExpertKernelIdeal.τ).loc Cert.ExpertKernelIdeal.main_arg4)
          ∧ r.2.mem ((c.tc : Thread Cert.ExpertKernelIdeal.nD Cert.ExpertKernelIdeal.τ).loc Cert.ExpertKernelIdeal.main_arg5) = m ((c.tc : Thread Cert.ExpertKernelIdeal.nD Cert.ExpertKernelIdeal.τ).loc Cert.ExpertKernelIdeal.main_arg5)
          ∧ r.2.mem ((c.tc : Thread Cert.ExpertKernelIdeal.nD Cert.ExpertKernelIdeal.τ).loc Cert.ExpertKernelIdeal.main_arg6) = m ((c.tc : Thread Cert.ExpertKernelIdeal.nD Cert.ExpertKernelIdeal.τ).loc Cert.ExpertKernelIdeal.main_arg6))
      ∧ θ_run (Cert.ExpertReferenceIdeal.defs (F := Ideal)) (onTc (τ := Cert.ExpertReferenceIdeal.τ) (Cert.ExpertReferenceIdeal.main (F := Ideal))) ⟨m', fun _ => 0, g'⟩ (fun r => ∀ c : Dev Cert.ExpertReferenceIdeal.nD,
          r.2.mem ((c.tc : Thread Cert.ExpertReferenceIdeal.nD Cert.ExpertReferenceIdeal.τ).loc Cert.ExpertReferenceIdeal.main_v61) = v0 c
          ∧ r.2.mem ((c.tc : Thread Cert.ExpertReferenceIdeal.nD Cert.ExpertReferenceIdeal.τ).loc Cert.ExpertReferenceIdeal.main_arg0) = m' ((c.tc : Thread Cert.ExpertReferenceIdeal.nD Cert.ExpertReferenceIdeal.τ).loc Cert.ExpertReferenceIdeal.main_arg0)
          ∧ r.2.mem ((c.tc : Thread Cert.ExpertReferenceIdeal.nD Cert.ExpertReferenceIdeal.τ).loc Cert.ExpertReferenceIdeal.main_arg1) = m' ((c.tc : Thread Cert.ExpertReferenceIdeal.nD Cert.ExpertReferenceIdeal.τ).loc Cert.ExpertReferenceIdeal.main_arg1)
          ∧ r.2.mem ((c.tc : Thread Cert.ExpertReferenceIdeal.nD Cert.ExpertReferenceIdeal.τ).loc Cert.ExpertReferenceIdeal.main_arg2) = m' ((c.tc : Thread Cert.ExpertReferenceIdeal.nD Cert.ExpertReferenceIdeal.τ).loc Cert.ExpertReferenceIdeal.main_arg2)
          ∧ r.2.mem ((c.tc : Thread Cert.ExpertReferenceIdeal.nD Cert.ExpertReferenceIdeal.τ).loc Cert.ExpertReferenceIdeal.main_arg3) = m' ((c.tc : Thread Cert.ExpertReferenceIdeal.nD Cert.ExpertReferenceIdeal.τ).loc Cert.ExpertReferenceIdeal.main_arg3)
          ∧ r.2.mem ((c.tc : Thread Cert.ExpertReferenceIdeal.nD Cert.ExpertReferenceIdeal.τ).loc Cert.ExpertReferenceIdeal.main_arg4) = m' ((c.tc : Thread Cert.ExpertReferenceIdeal.nD Cert.ExpertReferenceIdeal.τ).loc Cert.ExpertReferenceIdeal.main_arg4)
          ∧ r.2.mem ((c.tc : Thread Cert.ExpertReferenceIdeal.nD Cert.ExpertReferenceIdeal.τ).loc Cert.ExpertReferenceIdeal.main_arg5) = m' ((c.tc : Thread Cert.ExpertReferenceIdeal.nD Cert.ExpertReferenceIdeal.τ).loc Cert.ExpertReferenceIdeal.main_arg5)
          ∧ r.2.mem ((c.tc : Thread Cert.ExpertReferenceIdeal.nD Cert.ExpertReferenceIdeal.τ).loc Cert.ExpertReferenceIdeal.main_arg6) = m' ((c.tc : Thread Cert.ExpertReferenceIdeal.nD Cert.ExpertReferenceIdeal.τ).loc Cert.ExpertReferenceIdeal.main_arg6))

def preserves_CombineKernel_CombineKernelIdeal : Prop :=
  True

def algebraic_CombineKernelIdeal_CombineReferenceIdeal [hCombineKernelIdeal : Cert.CombineKernelIdeal.Facts] [hCombineReferenceIdeal : Cert.CombineReferenceIdeal.Facts] [hPre_rows_in_range : Cert.Pre_rows_in_range.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineKernelIdeal m →
    (∀ c : Dev Cert.CombineKernelIdeal.nD,
      m' ((c.tc : Thread Cert.CombineReferenceIdeal.nD Cert.CombineReferenceIdeal.τ).loc Cert.CombineReferenceIdeal.main_arg0) = m ((c.tc : Thread Cert.CombineKernelIdeal.nD Cert.CombineKernelIdeal.τ).loc Cert.CombineKernelIdeal.main_arg0)
      ∧ m' ((c.tc : Thread Cert.CombineReferenceIdeal.nD Cert.CombineReferenceIdeal.τ).loc Cert.CombineReferenceIdeal.main_arg1) = m ((c.tc : Thread Cert.CombineKernelIdeal.nD Cert.CombineKernelIdeal.τ).loc Cert.CombineKernelIdeal.main_arg1)
      ∧ m' ((c.tc : Thread Cert.CombineReferenceIdeal.nD Cert.CombineReferenceIdeal.τ).loc Cert.CombineReferenceIdeal.main_arg2) = m ((c.tc : Thread Cert.CombineKernelIdeal.nD Cert.CombineKernelIdeal.τ).loc Cert.CombineKernelIdeal.main_arg2)
      ∧ m' ((c.tc : Thread Cert.CombineReferenceIdeal.nD Cert.CombineReferenceIdeal.τ).loc Cert.CombineReferenceIdeal.main_arg3) = m ((c.tc : Thread Cert.CombineKernelIdeal.nD Cert.CombineKernelIdeal.τ).loc Cert.CombineKernelIdeal.main_arg3)
      ∧ m' ((c.tc : Thread Cert.CombineReferenceIdeal.nD Cert.CombineReferenceIdeal.τ).loc Cert.CombineReferenceIdeal.main_arg4) = m ((c.tc : Thread Cert.CombineKernelIdeal.nD Cert.CombineKernelIdeal.τ).loc Cert.CombineKernelIdeal.main_arg4)
      ∧ m' ((c.tc : Thread Cert.CombineReferenceIdeal.nD Cert.CombineReferenceIdeal.τ).loc Cert.CombineReferenceIdeal.main_arg5) = m ((c.tc : Thread Cert.CombineKernelIdeal.nD Cert.CombineKernelIdeal.τ).loc Cert.CombineKernelIdeal.main_arg5)) →
    ∃ (v0 : (c : Dev Cert.CombineKernelIdeal.nD) → Buf (Elt Ideal) ((c.tc : Thread Cert.CombineKernelIdeal.nD Cert.CombineKernelIdeal.τ).loc Cert.CombineKernelIdeal.main_v0_0)) (v1 : (c : Dev Cert.CombineKernelIdeal.nD) → Buf (Elt Ideal) ((c.tc : Thread Cert.CombineKernelIdeal.nD Cert.CombineKernelIdeal.τ).loc Cert.CombineKernelIdeal.main_v0_1)),
      θ_run (Cert.CombineKernelIdeal.defs (F := Ideal)) (onTc (τ := Cert.CombineKernelIdeal.τ) (Cert.CombineKernelIdeal.main (F := Ideal))) ⟨m, fun _ => 0, g⟩ (fun r => ∀ c : Dev Cert.CombineKernelIdeal.nD,
          r.2.mem ((c.tc : Thread Cert.CombineKernelIdeal.nD Cert.CombineKernelIdeal.τ).loc Cert.CombineKernelIdeal.main_v0_0) = v0 c
          ∧ r.2.mem ((c.tc : Thread Cert.CombineKernelIdeal.nD Cert.CombineKernelIdeal.τ).loc Cert.CombineKernelIdeal.main_v0_1) = v1 c
          ∧ r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
          ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
          ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
          ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
          ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
          ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v39) = v0 c
          ∧ r.2.mem ((c.tc : Thread Cert.CombineReferenceIdeal.nD Cert.CombineReferenceIdeal.τ).loc Cert.CombineReferenceIdeal.main_v40) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def Claim : Prop :=
  ∃ (hKernel : Cert.Kernel.Facts) (hKernelIdeal : Cert.KernelIdeal.Facts) (hReferenceIdeal : Cert.ReferenceIdeal.Facts) (hProjKernel : Cert.ProjKernel.Facts) (hProjKernelIdeal : Cert.ProjKernelIdeal.Facts) (hProjReferenceIdeal : Cert.ProjReferenceIdeal.Facts) (hMergeKernel : Cert.MergeKernel.Facts) (hMergeKernelIdeal : Cert.MergeKernelIdeal.Facts) (hMergeReferenceIdeal : Cert.MergeReferenceIdeal.Facts) (hExpertKernel : Cert.ExpertKernel.Facts) (hExpertKernelIdeal : Cert.ExpertKernelIdeal.Facts) (hExpertReferenceIdeal : Cert.ExpertReferenceIdeal.Facts) (hCombineKernel : Cert.CombineKernel.Facts) (hCombineKernelIdeal : Cert.CombineKernelIdeal.Facts) (hCombineReferenceIdeal : Cert.CombineReferenceIdeal.Facts) (hPre_finite_scores : Cert.Pre_finite_scores.Facts) (hPre_in_range : Cert.Pre_in_range.Facts) (hPre_rows_in_range : Cert.Pre_rows_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_ExpertKernel (hExpertKernel := hExpertKernel) (hPre_in_range := hPre_in_range)
    ∧ quiescent_ExpertKernelIdeal (hExpertKernelIdeal := hExpertKernelIdeal) (hPre_in_range := hPre_in_range)
    ∧ quiescent_ExpertReferenceIdeal (hExpertReferenceIdeal := hExpertReferenceIdeal)
    ∧ quiescent_ExpertReferenceIdeal_pre_in_range (hExpertReferenceIdeal := hExpertReferenceIdeal) (hPre_in_range := hPre_in_range)
    ∧ quiescent_CombineKernel (hCombineKernel := hCombineKernel) (hPre_rows_in_range := hPre_rows_in_range)
    ∧ quiescent_CombineKernelIdeal (hCombineKernelIdeal := hCombineKernelIdeal) (hPre_rows_in_range := hPre_rows_in_range)
    ∧ quiescent_CombineReferenceIdeal (hCombineReferenceIdeal := hCombineReferenceIdeal)
    ∧ quiescent_CombineReferenceIdeal_pre_rows_in_range (hCombineReferenceIdeal := hCombineReferenceIdeal) (hPre_rows_in_range := hPre_rows_in_range)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_ProjKernel_ProjKernelIdeal
    ∧ algebraic_ProjKernelIdeal_ProjReferenceIdeal (hProjKernelIdeal := hProjKernelIdeal) (hProjReferenceIdeal := hProjReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_ExpertKernel_ExpertKernelIdeal
    ∧ algebraic_ExpertKernelIdeal_ExpertReferenceIdeal (hExpertKernelIdeal := hExpertKernelIdeal) (hExpertReferenceIdeal := hExpertReferenceIdeal) (hPre_in_range := hPre_in_range)
    ∧ preserves_CombineKernel_CombineKernelIdeal
    ∧ algebraic_CombineKernelIdeal_CombineReferenceIdeal (hCombineKernelIdeal := hCombineKernelIdeal) (hCombineReferenceIdeal := hCombineReferenceIdeal) (hPre_rows_in_range := hPre_rows_in_range)
-- ==== Pre_finite_scores.lean ====
abbrev S4x8192x1024 : Shape := ⟨3, ![4, 8192, 1024]⟩
abbrev S4x8192x512 : Shape := ⟨3, ![4, 8192, 512]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel

variable [Facts]

def fn {F : FTy → Type} [FloatOps F] (main_arg0 : FVec F S4x8192x1024 .bf16) (main_arg1 : FVec F S4x8192x1024 .bf16) (main_arg2 : FVec F S4x8192x512 .bf16) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x8192x1024 .f32 := (extf .f32 · bitsLt_bf16_f32) main_arg1
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v4 main_v9
  main_v10
-- ==== Pre_in_range.lean ====
abbrev S288 : Shape := ⟨1, ![288]⟩
abbrev S288x1x512 : Shape := ⟨3, ![288, 1, 512]⟩
abbrev S32768x1024 : Shape := ⟨2, ![32768, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S288x1x512 : S_.BroadcastsInDim S288x1x512 (![] : Fin 0 → Fin S288x1x512.rank)
  reducesTo_S288x1x512_S_d0_1_2 : S288x1x512.ReducesTo [0, 1, 2] S_

variable [Facts]

def fn {F : FTy → Type} [FloatOps F] (main_arg0 : IVec S288 32) (main_arg1 : IVec S288x1x512 32) (main_arg2 : FVec F S32768x1024 .f32) (main_arg3 : FVec F S32x1024x2048 .bf16) (main_arg4 : FVec F S32x1x2048 .f32) (main_arg5 : FVec F S32x1024x1024 .bf16) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 1 := constantI S_ 1 1#1
  let main_v2 : IVec S_ 1 := (fun x v => Host.reduce IntOp.andi x v reducesTo_S288_S_d0 h_S_) main_v1 main_c_0
  let main_c_1 : IVec S_ 32 := constantI S_ 32 32#32
  let main_v3 : IVec S288 32 := broadcastInDim S288 ![] bcast_S_S288 main_c_1
  let main_v4 : IVec S288 1 := cmpi .slt main_arg0 main_v3
  let main_c_2 : IVec S_ 1 := constantI S_ 1 1#1
  let main_v5 : IVec S_ 1 := (fun x v => Host.reduce IntOp.andi x v reducesTo_S288_S_d0 h_S_) main_v4 main_c_2
  let main_v6 : IVec S_ 1 := andi main_v2 main_v5
  let main_c_3 : IVec S_ 32 := constantI S_ 32 0#32
  let main_v7 : IVec S288x1x512 32 := broadcastInDim S288x1x512 ![] bcast_S_S288x1x512 main_c_3
  let main_v8 : IVec S288x1x512 1 := cmpi .sge main_arg1 main_v7
  let main_c_4 : IVec S_ 1 := constantI S_ 1 1#1
  let main_v9 : IVec S_ 1 := (fun x v => Host.reduce IntOp.andi x v reducesTo_S288x1x512_S_d0_1_2 h_S_) main_v8 main_c_4
  let main_v10 : IVec S_ 1 := andi main_v6 main_v9
  let main_c_5 : IVec S_ 32 := constantI S_ 32 32768#32
  let main_v11 : IVec S288x1x512 32 := broadcastInDim S288x1x512 ![] bcast_S_S288x1x512 main_c_5
  let main_v12 : IVec S288x1x512 1 := cmpi .slt main_arg1 main_v11
  let main_c_6 : IVec S_ 1 := constantI S_ 1 1#1
  let main_v13 : IVec S_ 1 := (fun x v => Host.reduce IntOp.andi x v reducesTo_S288x1x512_S_d0_1_2 h_S_) main_v12 main_c_6
  let main_v14 : IVec S_ 1 := andi main_v10 main_v13
  main_v14
-- ==== Pre_rows_in_range.lean ====
abbrev S256x1x512 : Shape := ⟨3, ![256, 1, 512]⟩
abbrev S147456x1024 : Shape := ⟨2, ![147456, 1024]⟩
abbrev S32768x128 : Shape := ⟨2, ![32768, 128]⟩
abbrev S32768x1024 : Shape := ⟨2, ![32768, 1024]⟩
abbrev S1x1024 : Shape := ⟨2, ![1, 1024]⟩
abbrev S_ : Shape := ⟨0, ![]⟩

class Facts : Prop where
  bcast_S_S256x1x512 : S_.BroadcastsInDim S256x1x512 (![] : Fin 0 → Fin S256x1x512.rank)
  reducesTo_S256x1x512_S_d0_1_2 : S256x1x512.ReducesTo [0, 1, 2] S_
  h_S_ : 0 < S_.numel

variable [Facts]

def fn {F : FTy → Type} [FloatOps F] (main_arg0 : IVec S256x1x512 32) (main_arg1 : FVec F S147456x1024 .f32) (main_arg2 : FVec F S32768x128 .f32) (main_arg3 : FVec F S32768x1024 .f32) (main_arg4 : FVec F S1x1024 .f32) (main_arg5 : FVec F S1x1024 .f32) : IVec S_ 1 :=
  let main_c : IVec S_ 32 := constantI S_ 32 0#32
  let main_v0 : IVec S256x1x512 32 := broadcastInDim S256x1x512 ![] bcast_S_S256x1x512 main_c
  let main_v1 : IVec S256x1x512 1 := cmpi .sge main_arg0 main_v0
  let main_c_0 : IVec S_ 1 := constantI S_ 1 1#1
  let main_v2 : IVec S_ 1 := (fun x v => Host.reduce IntOp.andi x v reducesTo_S256x1x512_S_d0_1_2 h_S_) main_v1 main_c_0
  let main_c_1 : IVec S_ 32 := constantI S_ 32 147456#32
  let main_v3 : IVec S256x1x512 32 := broadcastInDim S256x1x512 ![] bcast_S_S256x1x512 main_c_1
  let main_v4 : IVec S256x1x512 1 := cmpi .slt main_arg0 main_v3
  let main_c_2 : IVec S_ 1 := constantI S_ 1 1#1
  let main_v5 : IVec S_ 1 := (fun x v => Host.reduce IntOp.andi x v reducesTo_S256x1x512_S_d0_1_2 h_S_) main_v4 main_c_2
  let main_v6 : IVec S_ 1 := andi main_v2 main_v5
  main_v6
-- ==== Kernel.lean ====
abbrev S4x8192x1024 : Shape := ⟨3, ![4, 8192, 1024]⟩
abbrev S4x8192x512 : Shape := ⟨3, ![4, 8192, 512]⟩
abbrev S1x256x256 : Shape := ⟨3, ![1, 256, 256]⟩
abbrev S1x8192x256 : Shape := ⟨3, ![1, 8192, 256]⟩
abbrev S1x8192x128 : Shape := ⟨3, ![1, 8192, 128]⟩
abbrev S1x256x128 : Shape := ⟨3, ![1, 256, 128]⟩
abbrev S1x128 : Shape := ⟨2, ![1, 128]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 32], ![false, false, false]⟩

@[reducible] def k0_t1_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  ⟨c0_i32, v12, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c256_i32_39 : BitVec 32 := 256#32
  let v102 : BitVec 32 := Scalar.muli arg7 c256_i32_39
  v102
def k0_off1 (i : grid0.Coords) (k0_t1 : Fin (k0_t1_loop i).trips) : Fin 3 → Nat :=
  let c0_40 : Index := 0#32
  let c0_i32 : BitVec 32 := 0#32
  let c1_i32_4 : BitVec 32 := 1#32
  let arg7 : BitVec 32 := Scf.iv c0_i32 c1_i32_4 k0_t1
  let c256_i32_39 : BitVec 32 := 256#32
  let v102 : BitVec 32 := Scalar.muli arg7 c256_i32_39
  let v103 : BitVec 32 := v102
  let v104 : Index := Scalar.indexCast v103
  let c0_41 : Index := 0#32
  ![0, v104.toNat, 0]
def k0_off2 (i : grid0.Coords) (k0_t1 : Fin (k0_t1_loop i).trips) : Fin 3 → Nat :=
  let c0_46 : Index := 0#32
  let c0_i32 : BitVec 32 := 0#32
  let c1_i32_4 : BitVec 32 := 1#32
  let arg7 : BitVec 32 := Scf.iv c0_i32 c1_i32_4 k0_t1
  let c256_i32_39 : BitVec 32 := 256#32
  let v102 : BitVec 32 := Scalar.muli arg7 c256_i32_39
  let v103 : BitVec 32 := v102
  let v125 : Index := Scalar.indexCast v103
  let c0_47 : Index := 0#32
  ![0, v125.toNat, 0]
@[reducible] def k0_t2_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_5 : BitVec 32 := 1#32
  ⟨v12, v9, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg7 : BitVec 32 := Scf.iv v12 c1_i32_5 k0_t2
  let c256_i32_39 : BitVec 32 := 256#32
  let v102 : BitVec 32 := Scalar.muli arg7 c256_i32_39
  v102
def k0_off3 (i : grid0.Coords) (k0_t2 : Fin (k0_t2_loop i).trips) : Fin 3 → Nat :=
  let c0_40 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg7 : BitVec 32 := Scf.iv v12 c1_i32_5 k0_t2
  let c256_i32_39 : BitVec 32 := 256#32
  let v102 : BitVec 32 := Scalar.muli arg7 c256_i32_39
  let v103 : BitVec 32 := v102
  let v104 : Index := Scalar.indexCast v103
  let c0_41 : Index := 0#32
  ![0, v104.toNat, 0]
def k0_off4 (i : grid0.Coords) (k0_t2 : Fin (k0_t2_loop i).trips) : Fin 3 → Nat :=
  let c0_46 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_5 : BitVec 32 := 1#32
  let arg7 : BitVec 32 := Scf.iv v12 c1_i32_5 k0_t2
  let c256_i32_39 : BitVec 32 := 256#32
  let v102 : BitVec 32 := Scalar.muli arg7 c256_i32_39
  let v103 : BitVec 32 := v102
  let v125 : Index := Scalar.indexCast v103
  let c0_47 : Index := 0#32
  ![0, v125.toNat, 0]
def k0_mult3 (i : grid0.Coords) : BitVec 32 :=
  let arg2 : BitVec 32 := BitVec.ofNat 32 (i 2).val
  let c256_i32 : BitVec 32 := 256#32
  let v15 : BitVec 32 := Scalar.muli arg2 c256_i32
  v15
def k0_off5 (i : grid0.Coords) : Fin 3 → Nat :=
  let c0_6 : Index := 0#32
  let arg2 : BitVec 32 := BitVec.ofNat 32 (i 2).val
  let c256_i32 : BitVec 32 := 256#32
  let v15 : BitVec 32 := Scalar.muli arg2 c256_i32
  let v16 : BitVec 32 := v15
  let v17 : Index := Scalar.indexCast v16
  let c0_7 : Index := 0#32
  ![0, v17.toNat, 0]
def k0_off6 (i : grid0.Coords) : Fin 3 → Nat :=
  let c0_13 : Index := 0#32
  let arg2 : BitVec 32 := BitVec.ofNat 32 (i 2).val
  let c256_i32 : BitVec 32 := 256#32
  let v15 : BitVec 32 := Scalar.muli arg2 c256_i32
  let v16 : BitVec 32 := v15
  let v41 : Index := Scalar.indexCast v16
  let c0_14 : Index := 0#32
  ![0, v41.toNat, 0]
@[reducible] def k0_t3_loop (i : grid0.Coords) : Scf.Loop 32 :=
  let c0_i32_21 : BitVec 32 := 0#32
  let arg2 : BitVec 32 := BitVec.ofNat 32 (i 2).val
  let v53 : BitVec 32 := Scalar.subi arg2 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let c1_i32_23 : BitVec 32 := 1#32
  ⟨c0_i32_21, v57, c1_i32_23⟩
def k0_mult4 (i : grid0.Coords) (k0_t3 : Fin (k0_t3_loop i).trips) : BitVec 32 :=
  let c0_i32_21 : BitVec 32 := 0#32
  let c1_i32_23 : BitVec 32 := 1#32
  let arg7 : BitVec 32 := Scf.iv c0_i32_21 c1_i32_23 k0_t3
  let c256_i32_39 : BitVec 32 := 256#32
  let v102 : BitVec 32 := Scalar.muli arg7 c256_i32_39
  v102
def k0_off7 (i : grid0.Coords) (k0_t3 : Fin (k0_t3_loop i).trips) : Fin 3 → Nat :=
  let c0_40 : Index := 0#32
  let c0_i32_21 : BitVec 32 := 0#32
  let c1_i32_23 : BitVec 32 := 1#32
  let arg7 : BitVec 32 := Scf.iv c0_i32_21 c1_i32_23 k0_t3
  let c256_i32_39 : BitVec 32 := 256#32
  let v102 : BitVec 32 := Scalar.muli arg7 c256_i32_39
  let v103 : BitVec 32 := v102
  let v104 : Index := Scalar.indexCast v103
  let c128_41 : Index := 128#32
  ![0, v104.toNat, 128]
def k0_off8 (i : grid0.Coords) (k0_t3 : Fin (k0_t3_loop i).trips) : Fin 3 → Nat :=
  let c0_46 : Index := 0#32
  let c0_i32_21 : BitVec 32 := 0#32
  let c1_i32_23 : BitVec 32 := 1#32
  let arg7 : BitVec 32 := Scf.iv c0_i32_21 c1_i32_23 k0_t3
  let c256_i32_39 : BitVec 32 := 256#32
  let v102 : BitVec 32 := Scalar.muli arg7 c256_i32_39
  let v103 : BitVec 32 := v102
  let v125 : Index := Scalar.indexCast v103
  let c0_47 : Index := 0#32
  ![0, v125.toNat, 0]
@[reducible] def k0_t4_loop (i : grid0.Coords) : Scf.Loop 32 :=
  let c0_i32_21 : BitVec 32 := 0#32
  let arg2 : BitVec 32 := BitVec.ofNat 32 (i 2).val
  let v53 : BitVec 32 := Scalar.subi arg2 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let v54 : BitVec 32 := Scalar.addi c0_i32_21 v53
  let c1_i32_24 : BitVec 32 := 1#32
  ⟨v57, v54, c1_i32_24⟩
def k0_mult5 (i : grid0.Coords) (k0_t4 : Fin (k0_t4_loop i).trips) : BitVec 32 :=
  let c0_i32_21 : BitVec 32 := 0#32
  let arg2 : BitVec 32 := BitVec.ofNat 32 (i 2).val
  let v53 : BitVec 32 := Scalar.subi arg2 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let c1_i32_24 : BitVec 32 := 1#32
  let arg7 : BitVec 32 := Scf.iv v57 c1_i32_24 k0_t4
  let c256_i32_39 : BitVec 32 := 256#32
  let v102 : BitVec 32 := Scalar.muli arg7 c256_i32_39
  v102
def k0_off9 (i : grid0.Coords) (k0_t4 : Fin (k0_t4_loop i).trips) : Fin 3 → Nat :=
  let c0_40 : Index := 0#32
  let c0_i32_21 : BitVec 32 := 0#32
  let arg2 : BitVec 32 := BitVec.ofNat 32 (i 2).val
  let v53 : BitVec 32 := Scalar.subi arg2 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let c1_i32_24 : BitVec 32 := 1#32
  let arg7 : BitVec 32 := Scf.iv v57 c1_i32_24 k0_t4
  let c256_i32_39 : BitVec 32 := 256#32
  let v102 : BitVec 32 := Scalar.muli arg7 c256_i32_39
  let v103 : BitVec 32 := v102
  let v104 : Index := Scalar.indexCast v103
  let c128_41 : Index := 128#32
  ![0, v104.toNat, 128]
def k0_off10 (i : grid0.Coords) (k0_t4 : Fin (k0_t4_loop i).trips) : Fin 3 → Nat :=
  let c0_46 : Index := 0#32
  let c0_i32_21 : BitVec 32 := 0#32
  let arg2 : BitVec 32 := BitVec.ofNat 32 (i 2).val
  let v53 : BitVec 32 := Scalar.subi arg2 c0_i32_21
  let c1_i32_22 : BitVec 32 := 1#32
  let v55 : BitVec 32 := Scalar.divsi v53 c1_i32_22
  let v56 : BitVec 32 := Scalar.muli v55 c1_i32_22
  let v57 : BitVec 32 := Scalar.addi c0_i32_21 v56
  let c1_i32_24 : BitVec 32 := 1#32
  let arg7 : BitVec 32 := Scf.iv v57 c1_i32_24 k0_t4
  let c256_i32_39 : BitVec 32 := 256#32
  let v102 : BitVec 32 := Scalar.muli arg7 c256_i32_39
  let v103 : BitVec 32 := v102
  let v125 : Index := Scalar.indexCast v103
  let c0_47 : Index := 0#32
  ![0, v125.toNat, 0]
def k0_mult6 (i : grid0.Coords) : BitVec 32 :=
  let arg2 : BitVec 32 := BitVec.ofNat 32 (i 2).val
  let c256_i32_25 : BitVec 32 := 256#32
  let v60 : BitVec 32 := Scalar.muli arg2 c256_i32_25
  v60
def k0_off11 (i : grid0.Coords) : Fin 3 → Nat :=
  let c0_26 : Index := 0#32
  let arg2 : BitVec 32 := BitVec.ofNat 32 (i 2).val
  let c256_i32_25 : BitVec 32 := 256#32
  let v60 : BitVec 32 := Scalar.muli arg2 c256_i32_25
  let v61 : BitVec 32 := v60
  let v62 : Index := Scalar.indexCast v61
  let c128_27 : Index := 128#32
  ![0, v62.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "scale" => some (((Real.sqrt 96)⁻¹ : ℝ) : EReal)
  | _ => none
-- ==== ReferenceIdeal.lean ====
abbrev S4x8192x1024 : Shape := ⟨3, ![4, 8192, 1024]⟩
abbrev S4x8192x512 : Shape := ⟨3, ![4, 8192, 512]⟩
abbrev S4x8192x8x128 : Shape := ⟨4, ![4, 8192, 8, 128]⟩
abbrev S4x8192x8x64 : Shape := ⟨4, ![4, 8192, 8, 64]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x1024, .f32⟩
  | .hbm, ⟨4, _⟩ => ⟨S4x8192x8x128, .f32⟩
  | .hbm, ⟨5, _⟩ => ⟨S4x8192x1024, .f32⟩
  | .hbm, ⟨6, _⟩ => ⟨S4x8192x8x128, .f32⟩
  | .hbm, ⟨7, _⟩ => ⟨S4x8192x512, .f32⟩
  | .hbm, ⟨8, _⟩ => ⟨S4x8192x8x64, .f32⟩
  | .hbm, ⟨9, _⟩ => ⟨S4x8x8192x8192, .f32⟩
  | .hbm, ⟨10, _⟩ => ⟨S_, .f32⟩
  | .hbm, ⟨11, _⟩ => ⟨S_, .f32⟩
  | .hbm, ⟨12, _⟩ => ⟨S4x8x8192x8192, .f32⟩
  | .hbm, ⟨13, _⟩ => ⟨S4x8x8192x8192, .f32⟩
  | .hbm, ⟨14, _⟩ => ⟨S8192, .i32⟩
  | .hbm, ⟨15, _⟩ => ⟨S1x8192, .i32⟩
  | .hbm, ⟨16, _⟩ => ⟨S8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S4x8x8192x8192, .i1⟩
  | .hbm, ⟨24, _⟩ => ⟨S4x8x8192x8192, .f32⟩
  | .hbm, ⟨25, _⟩ => ⟨S4x8x8192x8192, .f32⟩
  | .hbm, ⟨26, _⟩ => ⟨S_, .f32⟩
  | .hbm, ⟨27, _⟩ => ⟨S4x8x8192, .f32⟩
  | .hbm, ⟨28, _⟩ => ⟨S_, .f32⟩
  | .hbm, ⟨29, _⟩ => ⟨S4x8x8192, .f32⟩
  | .hbm, ⟨30, _⟩ => ⟨S4x8x8192, .f32⟩
  | .hbm, ⟨31, _⟩ => ⟨S4x8x8192x1, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S_, .f32⟩
  | .hbm, ⟨36, _⟩ => ⟨S4x8x8192, .f32⟩
  | .hbm, ⟨37, _⟩ => ⟨S4x8x8192x1, .f32⟩
  | .hbm, ⟨38, _⟩ => ⟨S4x8x8192x8192, .f32⟩
  | .hbm, ⟨39, _⟩ => ⟨S4x8x8192x8192, .f32⟩
  | .hbm, ⟨40, _⟩ => ⟨S4x8x64x8192, .f32⟩
  | .hbm, ⟨41, _⟩ => ⟨S4x8192x8x64, .f32⟩
  | .hbm, ⟨42, _⟩ => ⟨S4x8192x512, .f32⟩
  | .hbm, ⟨43, _⟩ => ⟨S4x8192x512, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== ProjKernel.lean ====
abbrev S32768x1024 : Shape := ⟨2, ![32768, 1024]⟩
abbrev S1024x8448 : Shape := ⟨2, ![1024, 8448]⟩
abbrev S32768x8448 : Shape := ⟨2, ![32768, 8448]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S1024x8448, .bf16⟩
  | .hbm, ⟨2, _⟩ => ⟨S32768x8448, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S32768x1024 : Shape := ⟨2, ![32768, 1024]⟩
abbrev S1024x8448 : Shape := ⟨2, ![1024, 8448]⟩
abbrev S32768x8448 : Shape := ⟨2, ![32768, 8448]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x8448, .bf16⟩
  | .hbm, ⟨2, _⟩ => ⟨S32768x1024, .f32⟩
  | .hbm, ⟨3, _⟩ => ⟨S1024x8448, .f32⟩
  | .hbm, ⟨4, _⟩ => ⟨S32768x8448, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeKernel.lean ====
abbrev S32768x512 : Shape := ⟨2, ![32768, 512]⟩
abbrev S32768x8448 : Shape := ⟨2, ![32768, 8448]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S256x512 : Shape := ⟨2, ![256, 512]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 21
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x8448, .f32⟩
  | .hbm, ⟨5, _⟩ => ⟨S32768x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x4096, .f32⟩
  | .local _ .vmem, ⟨9, _⟩ => ⟨S256x4096, .f32⟩
  | .local _ .vmem, ⟨10, _⟩ => ⟨S256x1024, .f32⟩
  | .local _ .vmem, ⟨11, _⟩ => ⟨S256x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S32768x512 : Shape := ⟨2, ![32768, 512]⟩
abbrev S32768x8448 : Shape := ⟨2, ![32768, 8448]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S32768x4096 : Shape := ⟨2, ![32768, 4096]⟩
abbrev S32768x4x1024 : Shape := ⟨3, ![32768, 4, 1024]⟩
abbrev S_ : Shape := ⟨0, ![]⟩
abbrev S32768x1x1024 : Shape := ⟨3, ![32768, 1, 1024]⟩
abbrev S32768 : Shape := ⟨1, ![32768]⟩
abbrev S32768x1 : Shape := ⟨2, ![32768, 1]⟩

abbrev nBuf : Space → Nat
  | .hbm => 83
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x8448, .f32⟩
  | .hbm, ⟨5, _⟩ => ⟨S32768x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S32768x4096, .f32⟩
  | .hbm, ⟨14, _⟩ => ⟨S32768x4x1024, .f32⟩
  | .hbm, ⟨15, _⟩ => ⟨S32768x4x1024, .f32⟩
  | .hbm, ⟨16, _⟩ => ⟨S32768x4x1024, .f32⟩
  | .hbm, ⟨17, _⟩ => ⟨S_, .f32⟩
  | .hbm, ⟨18, _⟩ => ⟨S32768x4x1024, .f32⟩
  | .hbm, ⟨19, _⟩ => ⟨S32768x4x1024, .f32⟩
  | .hbm, ⟨20, _⟩ => ⟨S_, .f32⟩
  | .hbm, ⟨21, _⟩ => ⟨S32768x4x1024, .f32⟩
  | .hbm, ⟨22, _⟩ => ⟨S32768x4x1024, .f32⟩
  | .hbm, ⟨23, _⟩ => ⟨S32768x512, .f32⟩
  | .hbm, ⟨24, _⟩ => ⟨S512x1024, .f32⟩
  | .hbm, ⟨25, _⟩ => ⟨S32768x1024, .f32⟩
  | .hbm, ⟨26, _⟩ => ⟨S32768x512, .f32⟩
  | .hbm, ⟨27, _⟩ => ⟨S512x1024, .f32⟩
  | .hbm, ⟨28, _⟩ => ⟨S32768x1024, .f32⟩
  | .hbm, ⟨29, _⟩ => ⟨S32768x512, .f32⟩
  | .hbm, ⟨30, _⟩ => ⟨S512x1024, .f32⟩
  | .hbm, ⟨31, _⟩ => ⟨S32768x1024, .f32⟩
  | .hbm, ⟨32, _⟩ => ⟨S32768x512, .f32⟩
  | .hbm, ⟨33, _⟩ => ⟨S512x1024, .f32⟩
  | .hbm, ⟨34, _⟩ => ⟨S32768x1024, .f32⟩
  | .hbm, ⟨35, _⟩ => ⟨S32768x1x1024, .f32⟩
  | .hbm, ⟨36, _⟩ => ⟨S32768x1024, .f32⟩
  | .hbm, ⟨37, _⟩ => ⟨S32768x1024, .f32⟩
  | .hbm, ⟨38, _⟩ => ⟨S32768x1x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S1024x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1024, .f32⟩
  | .hbm, ⟨72, _⟩ => ⟨S32768x1024, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_2 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== ExpertKernel.lean ====
abbrev S288 : Shape := ⟨1, ![288]⟩
abbrev S288x1x512 : Shape := ⟨3, ![288, 1, 512]⟩
abbrev S32768x1024 : Shape := ⟨2, ![32768, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S147456x1024 : Shape := ⟨2, ![147456, 1024]⟩
abbrev S1x1x512 : Shape := ⟨3, ![1, 1, 512]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S2x512x1024 : Shape := ⟨3, ![2, 512, 1024]⟩
abbrev S512 : Shape := ⟨1, ![512]⟩
abbrev S2 : Shape := ⟨1, ![2]⟩
abbrev S_ : Shape := ⟨0, ![]⟩
abbrev S1x1024 : Shape := ⟨2, ![1, 1024]⟩
abbrev S1x512x1024 : Shape := ⟨3, ![1, 512, 1024]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 7
  | .vmem => 14
  | .smem => 2
  | _ => 0

abbrev bufTy : (tb : Table) → Fin (tcTables nBuf tb) → BufTy
  | .hbm, ⟨0, _⟩ => ⟨S288x1x512, .i32⟩
  | .hbm, ⟨1, _⟩ => ⟨S32768x1024, .f32⟩
  | .hbm, ⟨2, _⟩ => ⟨S32x1024x2048, .bf16⟩
  | .hbm, ⟨3, _⟩ => ⟨S32x1x2048, .f32⟩
  | .hbm, ⟨4, _⟩ => ⟨S32x1024x1024, .bf16⟩
  | .hbm, ⟨5, _⟩ => ⟨S32x1x1024, .f32⟩
  | .hbm, ⟨6, _⟩ => ⟨S147456x1024, .f32⟩
  | .local _ .vmem, ⟨0, _⟩ => ⟨S1x1x512, .i32⟩
  | .local _ .vmem, ⟨1, _⟩ => ⟨S1x1x512, .i32⟩
  | .local _ .vmem, ⟨2, _⟩ => ⟨S1x1x512, .i32⟩
  | .local _ .vmem, ⟨3, _⟩ => ⟨S1x1024x2048, .bf16⟩
  | .local _ .vmem, ⟨4, _⟩ => ⟨S1x1024x2048, .bf16⟩
  | .local _ .vmem, ⟨5, _⟩ => ⟨S1x1x2048, .f32⟩
  | .local _ .vmem, ⟨6, _⟩ => ⟨S1x1x2048, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S2x512x1024, .f32⟩
  | .local _ .smem, ⟨0, _⟩ => ⟨S288, .i32⟩
  | .local _ .smem, ⟨1, _⟩ => ⟨S512, .i32⟩
  | _, _ => ⟨S288x1x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_64 : BitVec 32 := 0#32
  let c512_i32_65 : BitVec 32 := 512#32
  let v94 : BitVec 32 := Scalar.addi c0_i32_64 c512_i32_65
  let c1_i32_66 : BitVec 32 := 1#32
  ⟨c0_i32_64, v94, c1_i32_66⟩
def k0_off2 (k0_t1 : Fin k0_t1_loop.trips) : Fin 1 → Nat :=
  let c0_i32_64 : BitVec 32 := 0#32
  let c1_i32_66 : BitVec 32 := 1#32
  let arg14 : BitVec 32 := Scf.iv c0_i32_64 c1_i32_66 k0_t1
  let v95 : Index := Scalar.indexCast arg14
  ![v95.toNat]
def k0_off3 (k0_t1 : Fin k0_t1_loop.trips) : Fin 3 → Nat :=
  let c0_i32_68 : BitVec 32 := 0#32
  let c0_i32_64 : BitVec 32 := 0#32
  let c1_i32_66 : BitVec 32 := 1#32
  let arg14 : BitVec 32 := Scf.iv c0_i32_64 c1_i32_66 k0_t1
  let c0_i32_70 : BitVec 32 := 0#32
  ![0, arg14.toNat, 0]
def k0_off4 (v96 : BitVec 32) : Fin 2 → Nat :=
  let c0_i32_71 : BitVec 32 := 0#32
  ![v96.toNat, 0]

def k0_chk1 (i : grid0.Coords) (v96 : BitVec 32) : Prop :=
  (∀ (k0_h1 : k0_cond1 i = 1#1), ∀ a, (k0_off4 v96) a + S1x1024.size a ≤ S32768x1024.size a)
theorem k0_off4_inb : ∀ (i : grid0.Coords) (v96 : BitVec 32) (k0_hw1 : k0_chk1 i v96), ∀ (k0_h1 : k0_cond1 i = 1#1), ∀ a, (k0_off4 v96) a + S1x1024.size a ≤ S32768x1024.size a := fun i v96 k0_hw1 k0_h1 => k0_hw1 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c288_i32 : BitVec 32 := 288#32
  let v14 : BitVec 1 := Scalar.cmpi .slt v13 c288_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_65 : BitVec 32 := 0#32
  let c512_i32_66 : BitVec 32 := 512#32
  let v95 : BitVec 32 := Scalar.addi c0_i32_65 c512_i32_66
  let c1_i32_67 : BitVec 32 := 1#32
  ⟨c0_i32_65, v95, c1_i32_67⟩
def k0_off5 (k0_t2 : Fin k0_t2_loop.trips) : Fin 1 → Nat :=
  let c0_i32_65 : BitVec 32 := 0#32
  let c1_i32_67 : BitVec 32 := 1#32
  let arg14 : BitVec 32 := Scf.iv c0_i32_65 c1_i32_67 k0_t2
  let v96 : Index := Scalar.indexCast arg14
  ![v96.toNat]
def k0_off6 (i : grid0.Coords) : Fin 1 → Nat :=
  let c1_i32_58 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v90 : BitVec 32 := Scalar.subi c1_i32_58 v9
  ![v90.toNat]
def k0_off7 (i : grid0.Coords) (k0_t2 : Fin k0_t2_loop.trips) : Fin 3 → Nat :=
  let c1_i32_58 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v90 : BitVec 32 := Scalar.subi c1_i32_58 v9
  let c0_i32_65 : BitVec 32 := 0#32
  let c1_i32_67 : BitVec 32 := 1#32
  let arg14 : BitVec 32 := Scf.iv c0_i32_65 c1_i32_67 k0_t2
  let c0_i32_69 : BitVec 32 := 0#32
  ![v90.toNat, arg14.toNat, 0]
def k0_off8 (v97 : BitVec 32) : Fin 2 → Nat :=
  let c0_i32_70 : BitVec 32 := 0#32
  ![v97.toNat, 0]

def k0_chk2 (i : grid0.Coords) (v97 : BitVec 32) : Prop :=
  (∀ (k0_h2 : k0_cond2 i = 1#1), ∀ a, (k0_off8 v97) a + S1x1024.size a ≤ S32768x1024.size a)
theorem k0_off8_inb : ∀ (i : grid0.Coords) (v97 : BitVec 32) (k0_hw2 : k0_chk2 i v97), ∀ (k0_h2 : k0_cond2 i = 1#1), ∀ a, (k0_off8 v97) a + S1x1024.size a ≤ S32768x1024.size a := fun i v97 k0_hw2 k0_h2 => k0_hw2 k0_h2

@[reducible] def k0_t3_loop : Scf.Loop 32 :=
  let c0_i32_7 : BitVec 32 := 0#32
  let c512_i32 : BitVec 32 := 512#32
  let v17 : BitVec 32 := Scalar.addi c0_i32_7 c512_i32
  let c1_i32_8 : BitVec 32 := 1#32
  ⟨c0_i32_7, v17, c1_i32_8⟩
def k0_off9 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off10 (i : grid0.Coords) (k0_t3 : Fin k0_t3_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let c1_i32_8 : BitVec 32 := 1#32
  let arg14 : BitVec 32 := Scf.iv c0_i32_7 c1_i32_8 k0_t3
  let c0_i32_58 : BitVec 32 := 0#32
  ![v9.toNat, arg14.toNat, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : Index := Scalar.indexCast v9
  let c0 : Index := 0#32
  let c0_10 : Index := 0#32
  ![v18.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c287_i32 : BitVec 32 := 287#32
  let v1 : BitVec 32 := Scalar.minsi v0 c287_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ExpertReferenceIdeal.lean ====
abbrev S288 : Shape := ⟨1, ![288]⟩
abbrev S288x1x512 : Shape := ⟨3, ![288, 1, 512]⟩
abbrev S32768x1024 : Shape := ⟨2, ![32768, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x512 : Shape := ⟨2, ![288, 512]⟩
abbrev S_ : Shape := ⟨0, ![]⟩
abbrev S288x512x1 : Shape := ⟨3, ![288, 512, 1]⟩
abbrev S288x512x1024 : Shape := ⟨3, ![288, 512, 1024]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S147456x1024 : Shape := ⟨2, ![147456, 1024]⟩

abbrev nBuf : Space → Nat
  | .hbm => 91
  | .vmem => 0
  | .smem => 0
  | _ => 0

abbrev bufTy : (tb : Table) → Fin (tcTables nBuf tb) → BufTy
  | .hbm, ⟨0, _⟩ => ⟨S288, .i32⟩
  | .hbm, ⟨1, _⟩ => ⟨S288x1x512, .i32⟩
  | .hbm, ⟨2, _⟩ => ⟨S32768x1024, .f32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S288x512, .i32⟩
  | .hbm, ⟨8, _⟩ => ⟨S_, .i32⟩
  | .hbm, ⟨9, _⟩ => ⟨S288x512, .i32⟩
  | .hbm, ⟨10, _⟩ => ⟨S288x512, .i1⟩
  | .hbm, ⟨11, _⟩ => ⟨S_, .i32⟩
  | .hbm, ⟨12, _⟩ => ⟨S288x512, .i32⟩
  | .hbm, ⟨13, _⟩ => ⟨S288x512, .i32⟩
  | .hbm, ⟨14, _⟩ => ⟨S288x512, .i32⟩
  | .hbm, ⟨15, _⟩ => ⟨S288x512x1, .i32⟩
  | .hbm, ⟨16, _⟩ => ⟨S288x512x1024, .f32⟩
  | .hbm, ⟨17, _⟩ => ⟨S32x1024x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x1024x2048, .f32⟩
  | .hbm, ⟨27, _⟩ => ⟨S288x512x2048, .f32⟩
  | .hbm, ⟨28, _⟩ => ⟨S_, .i32⟩
  | .hbm, ⟨29, _⟩ => ⟨S288, .i32⟩
  | .hbm, ⟨30, _⟩ => ⟨S288, .i1⟩
  | .hbm, ⟨31, _⟩ => ⟨S_, .i32⟩
  | .hbm, ⟨32, _⟩ => ⟨S288, .i32⟩
  | .hbm, ⟨33, _⟩ => ⟨S288, .i32⟩
  | .hbm, ⟨34, _⟩ => ⟨S288, .i32⟩
  | .hbm, ⟨35, _⟩ => ⟨S288x1, .i32⟩
  | .hbm, ⟨36, _⟩ => ⟨S288x1x2048, .f32⟩
  | .hbm, ⟨37, _⟩ => ⟨S288x512x2048, .f32⟩
  | .hbm, ⟨38, _⟩ => ⟨S288x512x2048, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S288x512x1024, .f32⟩
  | .hbm, ⟨64, _⟩ => ⟨S_, .f32⟩
  | .hbm, ⟨65, _⟩ => ⟨S288x512x1024, .f32⟩
  | .hbm, ⟨66, _⟩ => ⟨S288x512x1024, .f32⟩
  | .hbm, ⟨67, _⟩ => ⟨S288x512x1024, .f32⟩
  | .hbm, ⟨68, _⟩ => ⟨S32x1024x1024, .f32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S_, .i32⟩
  | .hbm, ⟨73, _⟩ => ⟨S288, .i32⟩
  | .hbm, ⟨74, _⟩ => ⟨S288, .i32⟩
  | .hbm, ⟨75, _⟩ => ⟨S288, .i32⟩
  | .hbm, ⟨76, _⟩ => ⟨S288x1, .i32⟩
  | .hbm, ⟨77, _⟩ => ⟨S288x1024x1024, .f32⟩
  | .hbm, ⟨78, _⟩ => ⟨S288x512x1024, .f32⟩
  | .hbm, ⟨79, _⟩ => ⟨S_, .i32⟩
  | .hbm, ⟨80, _⟩ => ⟨S288, .i32⟩
  | .hbm, ⟨81, _⟩ => ⟨S288, .i1⟩
  | .hbm, ⟨82, _⟩ => ⟨S_, .i32⟩
  | .hbm, ⟨83, _⟩ => ⟨S288, .i32⟩
  | .hbm, ⟨84, _⟩ => ⟨S288, .i32⟩
  | .hbm, ⟨85, _⟩ => ⟨S288, .i32⟩
  | .hbm, ⟨86, _⟩ => ⟨S288x1, .i32⟩
  | .hbm, ⟨87, _⟩ => ⟨S288x1x1024, .f32⟩
  | .hbm, ⟨88, _⟩ => ⟨S288x512x1024, .f32⟩
  | .hbm, ⟨89, _⟩ => ⟨S288x512x1024, .f32⟩
  | .hbm, ⟨90, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_13 : Ref sig .tc := ⟨.hbm, 79, rfl⟩
abbrev main_v52 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]
-- ==== CombineKernel.lean ====
abbrev S256x1x512 : Shape := ⟨3, ![256, 1, 512]⟩
abbrev S147456x1024 : Shape := ⟨2, ![147456, 1024]⟩
abbrev S32768x128 : Shape := ⟨2, ![32768, 128]⟩
abbrev S32768x1024 : Shape := ⟨2, ![32768, 1024]⟩
abbrev S1x1024 : Shape := ⟨2, ![1, 1024]⟩
abbrev S1x1x512 : Shape := ⟨3, ![1, 1, 512]⟩
abbrev S128x128 : Shape := ⟨2, ![128, 128]⟩
abbrev S128x1024 : Shape := ⟨2, ![128, 1024]⟩
abbrev S2x512x1024 : Shape := ⟨3, ![2, 512, 1024]⟩
abbrev S512 : Shape := ⟨1, ![512]⟩
abbrev S2 : Shape := ⟨1, ![2]⟩
abbrev S_ : Shape := ⟨0, ![]⟩
abbrev S1 : Shape := ⟨1, ![1]⟩
abbrev S1x1x1024 : Shape := ⟨3, ![1, 1, 1024]⟩
abbrev S1x128x1024 : Shape := ⟨3, ![1, 128, 1024]⟩
abbrev S128x1 : Shape := ⟨2, ![128, 1]⟩
abbrev S128 : Shape := ⟨1, ![128]⟩

abbrev nBuf : Space → Nat
  | .hbm => 8
  | .vmem => 14
  | .smem => 1
  | _ => 0

abbrev bufTy : (tb : Table) → Fin (tcTables nBuf tb) → BufTy
  | .hbm, ⟨0, _⟩ => ⟨S256x1x512, .i32⟩
  | .hbm, ⟨1, _⟩ => ⟨S147456x1024, .f32⟩
  | .hbm, ⟨2, _⟩ => ⟨S32768x128, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S32768x1024, .bf16⟩
  | .local _ .vmem, ⟨0, _⟩ => ⟨S1x1x512, .i32⟩
  | .local _ .vmem, ⟨1, _⟩ => ⟨S1x1x512, .i32⟩
  | .local _ .vmem, ⟨2, _⟩ => ⟨S1x1x512, .i32⟩
  | .local _ .vmem, ⟨3, _⟩ => ⟨S128x128, .f32⟩
  | .local _ .vmem, ⟨4, _⟩ => ⟨S128x128, .f32⟩
  | .local _ .vmem, ⟨5, _⟩ => ⟨S128x1024, .f32⟩
  | .local _ .vmem, ⟨6, _⟩ => ⟨S128x1024, .f32⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .bf16⟩
  | .local _ .vmem, ⟨12, _⟩ => ⟨S128x1024, .bf16⟩
  | .local _ .vmem, ⟨13, _⟩ => ⟨S2x512x1024, .f32⟩
  | .local _ .smem, ⟨0, _⟩ => ⟨S512, .i32⟩
  | _, _ => ⟨S256x1x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![256], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_37 : BitVec 32 := 0#32
  let c512_i32_38 : BitVec 32 := 512#32
  let v79 : BitVec 32 := Scalar.addi c0_i32_37 c512_i32_38
  let c1_i32_39 : BitVec 32 := 1#32
  ⟨c0_i32_37, v79, c1_i32_39⟩
def k0_off1 (k0_t1 : Fin k0_t1_loop.trips) : Fin 1 → Nat :=
  let c0_i32_37 : BitVec 32 := 0#32
  let c1_i32_39 : BitVec 32 := 1#32
  let arg14 : BitVec 32 := Scf.iv c0_i32_37 c1_i32_39 k0_t1
  let v80 : Index := Scalar.indexCast arg14
  ![v80.toNat]
def k0_off2 (k0_t1 : Fin k0_t1_loop.trips) : Fin 3 → Nat :=
  let c0_i32_41 : BitVec 32 := 0#32
  let c0_i32_37 : BitVec 32 := 0#32
  let c1_i32_39 : BitVec 32 := 1#32
  let arg14 : BitVec 32 := Scf.iv c0_i32_37 c1_i32_39 k0_t1
  let c0_i32_43 : BitVec 32 := 0#32
  ![0, arg14.toNat, 0]
def k0_off3 (v81 : BitVec 32) : Fin 2 → Nat :=
  let c0_i32_44 : BitVec 32 := 0#32
  ![v81.toNat, 0]

def k0_chk1 (i : grid0.Coords) (v81 : BitVec 32) : Prop :=
  (∀ (k0_h1 : k0_cond1 i = 1#1), ∀ a, (k0_off3 v81) a + S1x1024.size a ≤ S147456x1024.size a)
theorem k0_off3_inb : ∀ (i : grid0.Coords) (v81 : BitVec 32) (k0_hw1 : k0_chk1 i v81), ∀ (k0_h1 : k0_cond1 i = 1#1), ∀ a, (k0_off3 v81) a + S1x1024.size a ≤ S147456x1024.size a := fun i v81 k0_hw1 k0_h1 => k0_hw1 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c256_i32 : BitVec 32 := 256#32
  let v14 : BitVec 1 := Scalar.cmpi .slt v13 c256_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_38 : BitVec 32 := 0#32
  let c512_i32_39 : BitVec 32 := 512#32
  let v80 : BitVec 32 := Scalar.addi c0_i32_38 c512_i32_39
  let c1_i32_40 : BitVec 32 := 1#32
  ⟨c0_i32_38, v80, c1_i32_40⟩
def k0_off4 (k0_t2 : Fin k0_t2_loop.trips) : Fin 1 → Nat :=
  let c0_i32_38 : BitVec 32 := 0#32
  let c1_i32_40 : BitVec 32 := 1#32
  let arg14 : BitVec 32 := Scf.iv c0_i32_38 c1_i32_40 k0_t2
  let v81 : Index := Scalar.indexCast arg14
  ![v81.toNat]
def k0_off5 (i : grid0.Coords) : Fin 1 → Nat :=
  let c1_i32_31 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v75 : BitVec 32 := Scalar.subi c1_i32_31 v9
  ![v75.toNat]
def k0_off6 (i : grid0.Coords) (k0_t2 : Fin k0_t2_loop.trips) : Fin 3 → Nat :=
  let c1_i32_31 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v75 : BitVec 32 := Scalar.subi c1_i32_31 v9
  let c0_i32_38 : BitVec 32 := 0#32
  let c1_i32_40 : BitVec 32 := 1#32
  let arg14 : BitVec 32 := Scf.iv c0_i32_38 c1_i32_40 k0_t2
  let c0_i32_42 : BitVec 32 := 0#32
  ![v75.toNat, arg14.toNat, 0]
def k0_off7 (v82 : BitVec 32) : Fin 2 → Nat :=
  let c0_i32_43 : BitVec 32 := 0#32
  ![v82.toNat, 0]

def k0_chk2 (i : grid0.Coords) (v82 : BitVec 32) : Prop :=
  (∀ (k0_h2 : k0_cond2 i = 1#1), ∀ a, (k0_off7 v82) a + S1x1024.size a ≤ S147456x1024.size a)
theorem k0_off7_inb : ∀ (i : grid0.Coords) (v82 : BitVec 32) (k0_hw2 : k0_chk2 i v82), ∀ (k0_h2 : k0_cond2 i = 1#1), ∀ a, (k0_off7 v82) a + S1x1024.size a ≤ S147456x1024.size a := fun i v82 k0_hw2 k0_h2 => k0_hw2 k0_h2

@[reducible] def k0_t3_loop : Scf.Loop 32 :=
  let c0_i32_7 : BitVec 32 := 0#32
  let c512_i32 : BitVec 32 := 512#32
  let v17 : BitVec 32 := Scalar.addi c0_i32_7 c512_i32
  let c1_i32_8 : BitVec 32 := 1#32
  ⟨c0_i32_7, v17, c1_i32_8⟩
def k0_off8 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off9 (i : grid0.Coords) (k0_t3 : Fin k0_t3_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let c1_i32_8 : BitVec 32 := 1#32
  let arg14 : BitVec 32 := Scf.iv c0_i32_7 c1_i32_8 k0_t3
  let c0_i32_31 : BitVec 32 := 0#32
  ![v9.toNat, arg14.toNat, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v19 : Index := Scalar.indexCast v9
  let c0_11 : Index := 0#32
  let c0_12 : Index := 0#32
  ![v19.toNat, 0, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v25 : Index := Scalar.indexCast v9
  let c128 : Index := 128#32
  let c0_13 : Index := 0#32
  ![v25.toNat, 128, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c256 : Index := 256#32
  let c0_14 : Index := 0#32
  ![v32.toNat, 256, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c384 : Index := 384#32
  let c0_15 : Index := 0#32
  ![v39.toNat, 384, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c255_i32 : BitVec 32 := 255#32
  let v1 : BitVec 32 := Scalar.minsi v0 c255_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineReferenceIdeal.lean ====
abbrev S256x1x512 : Shape := ⟨3, ![256, 1, 512]⟩
abbrev S147456x1024 : Shape := ⟨2, ![147456, 1024]⟩
abbrev S32768x128 : Shape := ⟨2, ![32768, 128]⟩
abbrev S32768x1024 : Shape := ⟨2, ![32768, 1024]⟩
abbrev S1x1024 : Shape := ⟨2, ![1, 1024]⟩
abbrev S256x4x128 : Shape := ⟨3, ![256, 4, 128]⟩
abbrev S256x128x4 : Shape := ⟨3, ![256, 128, 4]⟩
abbrev S32768x4 : Shape := ⟨2, ![32768, 4]⟩
abbrev S_ : Shape := ⟨0, ![]⟩
abbrev S32768x4x1 : Shape := ⟨3, ![32768, 4, 1]⟩
abbrev S32768x4x1024 : Shape := ⟨3, ![32768, 4, 1024]⟩
abbrev S32768 : Shape := ⟨1, ![32768]⟩
abbrev S32768x1 : Shape := ⟨2, ![32768, 1]⟩

abbrev nBuf : Space → Nat
  | .hbm => 56
  | .vmem => 0
  | .smem => 0
  | _ => 0

abbrev bufTy : (tb : Table) → Fin (tcTables nBuf tb) → BufTy
  | .hbm, ⟨0, _⟩ => ⟨S256x1x512, .i32⟩
  | .hbm, ⟨1, _⟩ => ⟨S147456x1024, .f32⟩
  | .hbm, ⟨2, _⟩ => ⟨S32768x128, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S256x4x128, .i32⟩
  | .hbm, ⟨7, _⟩ => ⟨S256x128x4, .i32⟩
  | .hbm, ⟨8, _⟩ => ⟨S32768x4, .i32⟩
  | .hbm, ⟨9, _⟩ => ⟨S_, .i32⟩
  | .hbm, ⟨10, _⟩ => ⟨S32768x4, .i32⟩
  | .hbm, ⟨11, _⟩ => ⟨S32768x4, .i1⟩
  | .hbm, ⟨12, _⟩ => ⟨S_, .i32⟩
  | .hbm, ⟨13, _⟩ => ⟨S32768x4, .i32⟩
  | .hbm, ⟨14, _⟩ => ⟨S32768x4, .i32⟩
  | .hbm, ⟨15, _⟩ => ⟨S32768x4, .i32⟩
  | .hbm, ⟨16, _⟩ => ⟨S32768x4x1, .i32⟩
  | .hbm, ⟨17, _⟩ => ⟨S32768x4x1024, .f32⟩
  | .hbm, ⟨18, _⟩ => ⟨S32768x4, .f32⟩
  | .hbm, ⟨19, _⟩ => ⟨S32768x4x1, .f32⟩
  | .hbm, ⟨20, _⟩ => ⟨S32768x4x1024, .f32⟩
  | .hbm, ⟨21, _⟩ => ⟨S32768x4x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .bf16⟩
  | _, _ => ⟨S256x1x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Softmax.lean ====
/-
  Softmax over the extended reals, in one pass and in two.

  A row of attention is `∑ j, v j * (exp (s j - M) / L)` with `M` the largest score and
  `L = ∑ j, exp (s j - M)`.  The one-pass form keeps, over the scores seen so far, their largest
  value `m`, the sum `l` of `exp (s j - m)` and the sum `a` of `exp (s j - m) * v j`, and rescales
  `l` and `a` by `exp (m - m')` whenever the largest value grows to `m'`.

  `Running s v n m l a` says that `m`, `l`, `a` are those three for the scores `s 0, …, s (n - 1)`.
  `Running.zero` is the start, `Running.append` is one block of the pass, and `Running.div_eq` is
  the end: `a / l` is the row of attention.
-/
module

public import Idealize.ShloMosaic.PureOps.Ideal

@[expose] public section

noncomputable section

namespace Cert.Softmax

open Idealize.ShloMosaic Finset

/-- The exponential is never negative. -/
theorem exp_nonneg (x : EReal) : 0 ≤ Ideal.exp x := by
  induction x using EReal.rec with
  | bot => simp
  | top => simp
  | coe r => simpa using (Real.exp_pos r).le

/-- `⊥` less anything is `⊥`. -/
theorem bot_sub (x : EReal) : (⊥ : EReal) - x = ⊥ := by
  rw [sub_eq_add_neg, EReal.bot_add]

/-- Anything less `⊤` is `⊥`. -/
theorem sub_top (x : EReal) : x - (⊤ : EReal) = ⊥ := by
  rw [sub_eq_add_neg, EReal.neg_top, EReal.add_bot]

/-- The factor that rescales the sums is finite. -/
theorem exp_sub_ne_top {m m' : EReal} (h : m ≤ m') : Ideal.exp (m - m') ≠ ⊤ := by
  induction m' using EReal.rec with
  | bot => rw [le_bot_iff.mp h, bot_sub]; simp
  | top => rw [sub_top]; simp
  | coe r' =>
    induction m using EReal.rec with
    | bot => rw [bot_sub]; simp
    | top => exact absurd h (by simp)
    | coe r => rw [← EReal.coe_sub, Ideal.exp_coe]; exact EReal.coe_ne_top _

/-- Rescaling one term: a score below the old maximum, measured from the old maximum and rescaled to
    the new one, is measured from the new one. -/
theorem exp_sub_mul {s m m' : EReal} (h : s ≤ m) (h' : m ≤ m') :
    Ideal.exp (m - m') * Ideal.exp (s - m) = Ideal.exp (s - m') := by
  induction m' using EReal.rec with
  | bot => rw [le_bot_iff.mp h', bot_sub]; rw [le_bot_iff.mp h', le_bot_iff] at h; subst h; rw [bot_sub]; simp
  | top => rw [sub_top, sub_top]; simp
  | coe r' =>
    induction m using EReal.rec with
    | bot => rw [le_bot_iff.mp h]; simp [bot_sub]
    | top => exact absurd h' (by simp)
    | coe r =>
      induction s using EReal.rec with
      | bot => simp [bot_sub]
      | top => exact absurd h (by simp)
      | coe q =>
        rw [← EReal.coe_sub, ← EReal.coe_sub, ← EReal.coe_sub, Ideal.exp_coe, Ideal.exp_coe, Ideal.exp_coe,
          ← EReal.coe_mul, ← Real.exp_add]
        congr 2; ring

/-- A finite factor that is not negative goes inside a sum. -/
theorem mul_sum_of_nonneg {ι : Type} (c : EReal) (h0 : 0 ≤ c) (ht : c ≠ ⊤) (f : ι → EReal) (t : Finset ι) :
    c * ∑ j ∈ t, f j = ∑ j ∈ t, c * f j := by
  classical
  induction t using Finset.induction_on with
  | empty => simp
  | insert j t hj ih => rw [sum_insert hj, sum_insert hj, EReal.left_distrib_of_nonneg_of_ne_top h0 ht, ih]

/-- A sum of reals, taken among the extended reals. -/
theorem coe_sum {ι : Type} (f : ι → ℝ) (t : Finset ι) : ((∑ j ∈ t, f j : ℝ) : EReal) = ∑ j ∈ t, (f j : EReal) := by
  classical
  induction t using Finset.induction_on with
  | empty => simp
  | insert j t hj ih => rw [sum_insert hj, sum_insert hj, EReal.coe_add, ih]

/-- `m`, `l` and `a` are the largest of the first `n` scores, the sum of their exponentials measured from it,
    and the sum of the values so weighted. -/
structure Running (s v : ℕ → EReal) (n : ℕ) (m l a : EReal) : Prop where
  max : m = (range n).sup s
  sum : l = ∑ j ∈ range n, Ideal.exp (s j - m)
  acc : a = ∑ j ∈ range n, Ideal.exp (s j - m) * v j

/-- Before any score the maximum is `⊥` and the sums are 0. -/
theorem Running.zero (s v : ℕ → EReal) : Running s v 0 ⊥ 0 0 := ⟨by simp, by simp, by simp⟩

/-- One block of the pass: `k` further scores. -/
theorem Running.append {s v : ℕ → EReal} {n : ℕ} {m l a : EReal} (h : Running s v n m l a) (k : ℕ) :
    Running s v (n + k) (Max.max m ((range k).sup fun j => s (n + j)))
      (Ideal.exp (m - Max.max m ((range k).sup fun j => s (n + j))) * l
        + ∑ j ∈ range k, Ideal.exp (s (n + j) - Max.max m ((range k).sup fun j => s (n + j))))
      (Ideal.exp (m - Max.max m ((range k).sup fun j => s (n + j))) * a
        + ∑ j ∈ range k, Ideal.exp (s (n + j) - Max.max m ((range k).sup fun j => s (n + j))) * v (n + j)) := by
  set m' := Max.max m ((range k).sup fun j => s (n + j)) with hm'
  have hle : m ≤ m' := le_max_left _ _
  have hs : ∀ j ∈ range n, s j ≤ m := fun j hj => by rw [h.max]; exact le_sup (f := s) hj
  refine ⟨?_, ?_, ?_⟩
  · rw [hm', h.max]
    apply le_antisymm
    · refine max_le (Finset.sup_mono (range_subset_range.mpr (by omega))) (Finset.sup_le fun j hj => ?_)
      exact le_sup (f := s) (mem_range.mpr (by have := mem_range.mp hj; omega))
    · refine Finset.sup_le fun j hj => ?_
      rcases lt_or_ge j n with hn | hn
      · exact le_max_of_le_left (le_sup (f := s) (mem_range.mpr hn))
      · refine le_max_of_le_right ?_
        have hj' : j = n + (j - n) := by omega
        rw [hj']
        exact le_sup (f := fun j => s (n + j)) (mem_range.mpr (by have := mem_range.mp hj; omega))
  · rw [sum_range_add, h.sum, mul_sum_of_nonneg _ (exp_nonneg _) (exp_sub_ne_top hle)]
    congr 1
    exact sum_congr rfl fun j hj => exp_sub_mul (hs j hj) hle
  · rw [sum_range_add, h.acc, mul_sum_of_nonneg _ (exp_nonneg _) (exp_sub_ne_top hle)]
    congr 1
    exact sum_congr rfl fun j hj => by rw [← mul_assoc, exp_sub_mul (hs j hj) hle]

/-- Scores that are `⊥` from `n` on add nothing: the three sums of the first `n` are those of the first `n'`. -/
theorem Running.extend {s v : ℕ → EReal} {n n' : ℕ} {m l a : EReal} (h : Running s v n m l a) (hn : n ≤ n')
    (hs : ∀ j, n ≤ j → s j = ⊥) : Running s v n' m l a := by
  obtain ⟨k, rfl⟩ := Nat.exists_eq_add_of_le hn
  have hb : ((range k).sup fun j => s (n + j)) = ⊥ :=
    le_bot_iff.mp (Finset.sup_le fun j _ => (hs (n + j) (by omega)).le)
  refine ⟨?_, ?_, ?_⟩
  · have := (h.append k).max
    rwa [hb, max_eq_left bot_le] at this
  · rw [sum_range_add, ← h.sum, sum_eq_zero (s := range k), add_zero]
    exact fun j _ => by rw [hs (n + j) (by omega), bot_sub]; rfl
  · rw [sum_range_add, ← h.acc, sum_eq_zero (s := range k), add_zero]
    exact fun j _ => by rw [hs (n + j) (by omega), bot_sub, Ideal.exp_bot, zero_mul]

/-- When the scores are below `⊤` and one of them is a real number, the sum of the exponentials is a positive real. -/
theorem Running.sum_pos {s v : ℕ → EReal} {n : ℕ} {m l a : EReal} (h : Running s v n m l a)
    (ht : ∀ j < n, s j ≠ ⊤) {i : ℕ} (hi : i < n) (hr : s i ≠ ⊥) : ∃ r : ℝ, 0 < r ∧ l = (r : EReal) := by
  have hmt : m ≠ ⊤ := by
    rw [h.max]
    refine (Finset.sup_lt_iff (by simp)).mpr (fun j hj => lt_top_iff_ne_top.mpr (ht j (mem_range.mp hj))) |>.ne
  have hmb : m ≠ ⊥ := by
    intro e
    have : s i ≤ m := by rw [h.max]; exact le_sup (f := s) (mem_range.mpr hi)
    rw [e, le_bot_iff] at this
    exact hr this
  lift m to ℝ using ⟨hmt, hmb⟩
  have key : ∀ j < n, ∃ r : ℝ, 0 ≤ r ∧ Ideal.exp (s j - (m : EReal)) = (r : EReal) ∧ (s j ≠ ⊥ → 0 < r) := by
    intro j hj
    have := ht j hj
    generalize s j = x at this ⊢
    induction x using EReal.rec with
    | bot => exact ⟨0, le_rfl, by rw [bot_sub]; simp, fun h => absurd rfl h⟩
    | top => exact absurd rfl this
    | coe q => exact ⟨Real.exp (q - m), (Real.exp_pos _).le, by rw [← EReal.coe_sub, Ideal.exp_coe], fun _ => Real.exp_pos _⟩
  choose! f hf0 hfe hfp using key
  refine ⟨∑ j ∈ range n, f j, ?_, ?_⟩
  · exact Finset.sum_pos' (fun j hj => hf0 j (mem_range.mp hj)) ⟨i, mem_range.mpr hi, hfp i hi hr⟩
  · rw [h.sum, coe_sum]
    exact sum_congr rfl fun j hj => hfe j (mem_range.mp hj)

/-- Dividing by a positive real is multiplying by its inverse. -/
theorem div_real (x : EReal) {r : ℝ} (hr : 0 < r) : Ideal.div x (r : EReal) = x * ((r⁻¹ : ℝ) : EReal) := by
  unfold Ideal.div
  rw [if_neg (by exact_mod_cast hr.ne'), EReal.coe_inv]

/-- The end of the pass: the weighted sum over the sum of the weights is the sum of the values weighted by the softmax. -/
theorem Running.div_eq {s v : ℕ → EReal} {n : ℕ} {m l a : EReal} (h : Running s v n m l a)
    (ht : ∀ j < n, s j ≠ ⊤) {i : ℕ} (hi : i < n) (hr : s i ≠ ⊥) :
    Ideal.div a l = ∑ j ∈ range n, v j * Ideal.div (Ideal.exp (s j - m)) l := by
  obtain ⟨r, hr0, hl⟩ := h.sum_pos ht hi hr
  rw [h.acc, hl, div_real _ hr0, mul_comm, mul_sum_of_nonneg]
  · refine sum_congr rfl fun j _ => ?_
    rw [div_real _ hr0, mul_comm (v j), ← mul_assoc, mul_comm _ (Ideal.exp _)]
  · exact_mod_cast (inv_pos.mpr hr0).le
  · exact EReal.coe_ne_top _

end Cert.Softmax

end
-- ==== Proof.AttnBlock.lean ====
/-
  One block of keys in the attention kernel's pass, read row by row: what a trip of the loop over the key blocks does to
  the running maximum, the running sum and the running weighted sum of a query row, and what the last, masked block and the
  final division do.  Each is the corresponding step of `Softmax.lean` on that row's scores.
-/
module

public import proofs.«01_k».proof.Proof.Softmax
public import proofs.«01_k».proof.Proof.Gen.KernelIdeal.Skeleton
public import Idealize.ShloMosaic.Lib.Pointwise
public import Idealize.ShloMosaic.Lib.WordCmp

@[expose] public section

set_option maxRecDepth 16384

noncomputable section

open Idealize.ShloMosaic

namespace Cert.KernelIdeal.Block

open Cert.KernelIdeal Cert.KernelIdeal.Gen Cert.Softmax

/-- The factor of the scores: 1/√96. -/
def scale : EReal := (((Real.sqrt 96)⁻¹ : ℝ) : EReal)

theorem named_scale : Named.named (F := Ideal) κ "scale" (φ := .f32) 0x3DD105EC#32 = scale :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

/-- A maximum over 256 lanes that starts at −∞ is the supremum of the 256 numbers. -/
theorem fold_max (f : Fin 256 → EReal) (g : ℕ → EReal) (h : ∀ x : Fin 256, f x = g x) :
    Finset.fold max (Ideal.ofBits .f32 0xFF800000#32) f Finset.univ = (Finset.range 256).sup g := by
  rw [show Ideal.ofBits .f32 0xFF800000#32 = ⊥ from by simp [Ideal.ofBits, Ideal.ieee]]
  show Finset.univ.sup f = _
  apply le_antisymm
  · refine Finset.sup_le fun x _ => ?_
    rw [h x]
    exact Finset.le_sup (f := g) (Finset.mem_range.mpr x.isLt)
  · refine Finset.sup_le fun j hj => ?_
    rw [← h ⟨j, Finset.mem_range.mp hj⟩]
    exact Finset.le_sup (f := f) (Finset.mem_univ _)

/-- A score of a block before the diagonal. -/
theorem score (q k : Vec Ideal S1x256x128 .bf16) (r x : Fin 256) :
    k0_pay6 q k (ix2 r x) = ((∑ d, q (ix3 0 r d) * k (ix3 0 x d) : EReal)) * scale := by
  rw [← named_scale]
  pointwise [k0_pay6, k0_pay2]

/-- A score of the diagonal block: `⊥` where the key is after the query. -/
theorem score_diag (q k : Vec Ideal S1x256x128 .bf16) (r x : Fin 256) :
    k0_pay18 q k (ix2 r x) = if x.val ≤ r.val then ((∑ d, q (ix3 0 r d) * k (ix3 0 x d) : EReal)) * scale else ⊥ := by
  have h : k0_pay18 q k (ix2 r x) = Scalar.select (IntOp.cmpi .sle (BitVec.ofNat 32 x) (BitVec.ofNat 32 r))
      ((∑ d, q (ix3 0 r d) * k (ix3 0 x d) : EReal) * scale) ⊥ := by
    rw [← named_scale, ← named_mask]
    pointwise [k0_pay18, k0_pay2]
  rw [h]
  unfold Scalar.select
  exact if_congr (WordCmp.cmpi_sle_ofNat_eq_one_iff (by have := x.isLt; omega) (by have := r.isLt; omega)) rfl rfl

/-- A trip of the loop is 256 further scores of the row. -/
theorem step {s v : ℕ → EReal} {n : ℕ} (q kb vb : Vec Ideal S1x256x128 .bf16) (m l : FVec Ideal S256x1 .f32)
    (a : FVec Ideal S256x128 .f32) (r : Fin 256) (d : Fin 128)
    (hs : ∀ x : Fin 256, ((∑ d, q (ix3 0 r d) * kb (ix3 0 x d) : EReal)) * scale = s (n + x))
    (hv : ∀ x : Fin 256, (vb (ix3 0 x d) : EReal) = v (n + x))
    (h : Running s v n (m (ix2 r 0)) (l (ix2 r 0)) (a (ix2 r d))) :
    Running s v (n + 256) (k0_pay7 q m kb (ix2 r 0)) (k0_pay10 q m l kb (ix2 r 0)) (k0_pay11 q m a kb vb (ix2 r d)) := by
  have hm : k0_pay7 q m kb (ix2 r 0) = Max.max (m (ix2 r 0) : EReal) ((Finset.range 256).sup fun j => s (n + j)) := by
    rw [← fold_max (fun x => k0_pay6 q kb (ix2 r x)) _ fun x => (score q kb r x).trans (hs x)]
    pointwise [k0_pay7]
  have hl : k0_pay10 q m l kb (ix2 r 0) = Ideal.exp (m (ix2 r 0) - k0_pay7 q m kb (ix2 r 0)) * l (ix2 r 0)
      + ∑ x : Fin 256, Ideal.exp (k0_pay6 q kb (ix2 r x) - k0_pay7 q m kb (ix2 r 0)) := by
    pointwise [k0_pay10, k0_pay9, k0_pay8]
  have ha : k0_pay11 q m a kb vb (ix2 r d) = Ideal.exp (m (ix2 r 0) - k0_pay7 q m kb (ix2 r 0)) * a (ix2 r d)
      + ∑ x : Fin 256, Ideal.exp (k0_pay6 q kb (ix2 r x) - k0_pay7 q m kb (ix2 r 0)) * vb (ix3 0 x d) := by
    pointwise [k0_pay11, k0_pay9, k0_pay8]
  rw [hl, ha, hm]
  convert h.append 256 using 2
  · rw [Finset.sum_range]
    exact Finset.sum_congr rfl fun x _ => by rw [score, hs]
  · rw [Finset.sum_range]
    exact Finset.sum_congr rfl fun x _ => by rw [score, hs, hv]

/-- The diagonal block and the division: the row's quotient is the weighted sum over the sum after 256 further scores. -/
theorem last {s v : ℕ → EReal} {n : ℕ} (q kb vb : Vec Ideal S1x256x128 .bf16) (m l : FVec Ideal S256x1 .f32)
    (a : FVec Ideal S256x128 .f32) (r : Fin 256) (d : Fin 128)
    (hs : ∀ x : Fin 256, (if x.val ≤ r.val then ((∑ d, q (ix3 0 r d) * kb (ix3 0 x d) : EReal)) * scale else ⊥) = s (n + x))
    (hv : ∀ x : Fin 256, (vb (ix3 0 x d) : EReal) = v (n + x))
    (h : Running s v n (m (ix2 r 0)) (l (ix2 r 0)) (a (ix2 r d))) :
    ∃ m' l' a', Running s v (n + 256) m' l' a'
      ∧ k0_pay24 a (k0_pay21 q m kb) (k0_pay22 q m l kb) (k0_pay23 q m kb) vb (ix2 r d) = Ideal.div a' l' := by
  have hm : k0_pay19 q m kb (ix2 r 0) = Max.max (m (ix2 r 0) : EReal) ((Finset.range 256).sup fun j => s (n + j)) := by
    rw [← fold_max (fun x => k0_pay18 q kb (ix2 r x)) _ fun x => (score_diag q kb r x).trans (hs x)]
    pointwise [k0_pay19]
  have hq : k0_pay24 a (k0_pay21 q m kb) (k0_pay22 q m l kb) (k0_pay23 q m kb) vb (ix2 r d)
      = Ideal.div (Ideal.exp (m (ix2 r 0) - k0_pay19 q m kb (ix2 r 0)) * a (ix2 r d)
          + ∑ x : Fin 256, Ideal.exp (k0_pay18 q kb (ix2 r x) - k0_pay19 q m kb (ix2 r 0)) * vb (ix3 0 x d))
        (Ideal.exp (m (ix2 r 0) - k0_pay19 q m kb (ix2 r 0)) * l (ix2 r 0)
          + ∑ x : Fin 256, Ideal.exp (k0_pay18 q kb (ix2 r x) - k0_pay19 q m kb (ix2 r 0))) := by
    pointwise [k0_pay24, k0_pay23, k0_pay22, k0_pay21, k0_pay20]
  refine ⟨_, _, _, h.append 256, ?_⟩
  rw [hq, hm, Finset.sum_range, Finset.sum_range]
  congr 2
  · exact Finset.sum_congr rfl fun x _ => by rw [score_diag, hs, hv]
  · exact Finset.sum_congr rfl fun x _ => by rw [score_diag, hs]

/-- Before the first block the row's maximum is `⊥` and its sums are 0. -/
theorem start (s v : ℕ → EReal) (r : Fin 256) (d : Fin 128) :
    Running s v 0 (k0_pay3 (F := Ideal) (ix2 r 0)) (k0_pay4 (F := Ideal) (ix2 r 0)) (k0_pay5 (F := Ideal) (ix2 r d)) := by
  have h3 : k0_pay3 (F := Ideal) (ix2 r 0) = (⊥ : EReal) := by rw [← named_mask]; pointwise [k0_pay3]
  have h4 : k0_pay4 (F := Ideal) (ix2 r 0) = (0 : EReal) := by pointwise [k0_pay4]
  have h5 : k0_pay5 (F := Ideal) (ix2 r d) = (0 : EReal) := by pointwise [k0_pay5]
  rw [h3, h4, h5]
  exact Running.zero s v

end Cert.KernelIdeal.Block

end
-- ==== Proof.AttnLoop.lean ====
/-
  One point of the attention kernel's grid: a block of 256 queries of a pair of heads.  For each head the body runs over the key
  blocks before the block's own and then over its own, where a key after the query is masked.  `pass1` and `pass3` are the two
  heads' loops by induction over the key blocks (a trip is `Block.step`), and `block` is what the point stores: the quotient of the
  running sums over every key up to the end of the point's own block.
-/
module

public import proofs.«01_k».proof.Proof.AttnBlock
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Pass

open Cert.KernelIdeal Cert.KernelIdeal.Gen Cert.Softmax Cert.KernelIdeal.Block

variable (c : Dev nD) (i : grid0.Coords)
  (a3 : Memref sig .tc .vmem S1x256x256 .bf16) (h3 : a3.IsWhole) (a4 : Memref sig .tc .vmem S1x8192x256 .bf16) (h4 : a4.IsWhole)
  (a5 : Memref sig .tc .vmem S1x8192x128 .bf16) (h5 : a5.IsWhole) (a6 : Memref sig .tc .vmem S1x256x128 .bf16) (h6 : a6.IsWhole)
  (q : Vec Ideal S1x256x256 .bf16) (ks : Vec Ideal S1x8192x256 .bf16) (vs : Vec Ideal S1x8192x128 .bf16)

/-- The first head's loop makes one trip per key block before the point's own. -/
theorem trips1 : (k0_t1_loop i).trips = (i 2).val :=
  (by decide +kernel : ∀ p : Fin 32, Scf.trips 0#32 (Scalar.addi 0#32 (Scalar.muli (Scalar.divsi (Scalar.subi (BitVec.ofNat 32 p) 0#32) 1#32) 1#32)) 1#32 = p.val) (i 2)

/-- The second head's loop likewise. -/
theorem trips3 : (k0_t3_loop i).trips = (i 2).val := trips1 i

/-- The remainder of the first head's loop is empty. -/
theorem trips2 : (k0_t2_loop i).trips = 0 :=
  (by decide +kernel : ∀ p : Fin 32, Scf.trips (Scalar.addi 0#32 (Scalar.muli (Scalar.divsi (Scalar.subi (BitVec.ofNat 32 p) 0#32) 1#32) 1#32)) (Scalar.addi 0#32 (Scalar.subi (BitVec.ofNat 32 p) 0#32)) 1#32 = 0) (i 2)

/-- The remainder of the second head's loop is empty. -/
theorem trips4 : (k0_t4_loop i).trips = 0 := trips2 i

/-- Key block `k` starts at row `256 k`. -/
theorem row_start (k : Fin 32) : (Scalar.indexCast (Scalar.muli (Scf.iv 0#32 1#32 k) 256#32)).toNat = k.val * 256 :=
  (by decide +kernel : ∀ k : Fin 32, (Scalar.indexCast (Scalar.muli (Scf.iv 0#32 1#32 k) 256#32)).toNat = k.val * 256) k

/-- Where the first head's loop loads its keys. -/
theorem off1 (k : Fin (k0_t1_loop i).trips) : k0_off1 i k = ![0, k.val * 256, 0] :=
  congrArg (fun n => ![0, n, 0]) (row_start ⟨k, by have := k.isLt; have := trips1 i; have : (i 2).val < 32 := (i 2).isLt; omega⟩)

/-- Where the first head's loop loads its values. -/
theorem off2 (k : Fin (k0_t1_loop i).trips) : k0_off2 i k = ![0, k.val * 256, 0] := off1 i k

/-- Where the second head's loop loads its keys: the second 128 columns. -/
theorem off7 (k : Fin (k0_t3_loop i).trips) : k0_off7 i k = ![0, k.val * 256, 128] :=
  congrArg (fun n => ![0, n, 128]) (row_start ⟨k, by have := k.isLt; have := trips3 i; have : (i 2).val < 32 := (i 2).isLt; omega⟩)

/-- Where the second head's loop loads its values. -/
theorem off8 (k : Fin (k0_t3_loop i).trips) : k0_off8 i k = ![0, k.val * 256, 0] := off1 i k

/-- The point's own key block starts at the point's own row. -/
theorem diag_start : (Scalar.indexCast (Scalar.muli (BitVec.ofNat 32 (i 2).val) 256#32)).toNat = (i 2).val * 256 :=
  (by decide +kernel : ∀ k : Fin 32, (Scalar.indexCast (Scalar.muli (BitVec.ofNat 32 k) 256#32)).toNat = k.val * 256) (i 2)

/-- Where the keys, the values and the second head's keys of the point's own block are loaded (`off5`, `off6`, `off11`). -/
theorem off5 : k0_off5 i = ![0, (i 2).val * 256, 0] := congrArg (fun n => ![0, n, 0]) (diag_start i)
theorem off6 : k0_off6 i = ![0, (i 2).val * 256, 0] := congrArg (fun n => ![0, n, 0]) (diag_start i)
theorem off11 : k0_off11 i = ![0, (i 2).val * 256, 128] := congrArg (fun n => ![0, n, 128]) (diag_start i)

/-- One trip of the first head's loop, as the body's terms on the two loads. -/
theorem trip1 (qb : Vec Ideal S1x256x128 .bf16) (k : Fin (k0_t1_loop i).trips) (acc : FVec Ideal S256x1 .f32 × FVec Ideal S256x1 .f32 × FVec Ideal S256x128 .f32) :
    tripR_k0_t1 (F := Ideal) Variants.none c none i a3 h3 a4 h4 a5 h5 a6 h6 qb (h4.unread ks) (h5.unread vs) k acc
      = (k0_pay7 qb acc.1 (View.ld ks (Rect.unit (s := S1x8192x256) (k0_off1 i k) S1x256x128.size (k0_off1_inb i k))),
        k0_pay10 qb acc.1 acc.2.1 (View.ld ks (Rect.unit (s := S1x8192x256) (k0_off1 i k) S1x256x128.size (k0_off1_inb i k))),
        k0_pay11 qb acc.1 acc.2.2 (View.ld ks (Rect.unit (s := S1x8192x256) (k0_off1 i k) S1x256x128.size (k0_off1_inb i k)))
          (View.ld vs (Rect.unit (s := S1x8192x128) (k0_off2 i k) S1x256x128.size (k0_off2_inb i k)))) := by
  unfold tripR_k0_t1 trip_k0_t1
  dsimp only
  simp only [View.readAt_eq_ld, h4.read_unread, h5.read_unread]

/-- One trip of the second head's loop, as the same terms on its loads. -/
theorem trip3 (w : BitVec 32) (v1 v2 : IVec S256x256 32) (v14 : FVec Ideal S256x128 .f32) (w' : BitVec 32) (v33 : FVec Ideal S256x256 .f32)
    (v37 : FVec Ideal S256x1 .f32) (v38 : FVec Ideal S256x128 .f32) (qb : Vec Ideal S1x256x128 .bf16) (k : Fin (k0_t3_loop i).trips)
    (acc : FVec Ideal S256x1 .f32 × FVec Ideal S256x1 .f32 × FVec Ideal S256x128 .f32) :
    tripR_k0_t3 (F := Ideal) Variants.none c none i a3 h3 a4 h4 a5 h5 a6 h6 w v1 v2 v14 w' v33 v37 v38 qb (h4.unread ks) (h5.unread vs) k acc
      = (k0_pay7 qb acc.1 (View.ld ks (Rect.unit (s := S1x8192x256) (k0_off7 i k) S1x256x128.size (k0_off7_inb i k))),
        k0_pay10 qb acc.1 acc.2.1 (View.ld ks (Rect.unit (s := S1x8192x256) (k0_off7 i k) S1x256x128.size (k0_off7_inb i k))),
        k0_pay11 qb acc.1 acc.2.2 (View.ld ks (Rect.unit (s := S1x8192x256) (k0_off7 i k) S1x256x128.size (k0_off7_inb i k)))
          (View.ld vs (Rect.unit (s := S1x8192x128) (k0_off8 i k) S1x256x128.size (k0_off8_inb i k)))) := by
  unfold tripR_k0_t3 trip_k0_t3
  dsimp only
  simp only [View.readAt_eq_ld, h4.read_unread, h5.read_unread]
  rfl

/-- An entry of a block of keys. -/
theorem ld_keys (n o : ℕ) (off : Fin 3 → ℕ) (e : off = ![0, n, o]) (h) (x : Fin 256) (d : Fin 128) (hn : n + 256 ≤ 8192) (ho : o + 128 ≤ 256) :
    (View.ld ks (Rect.unit (s := S1x8192x256) off S1x256x128.size h) (ix3 0 x d) : EReal)
      = ks (ix3 0 ⟨n + x, by omega⟩ ⟨o + d, by omega⟩) := by
  subst e
  pointwise

/-- An entry of a block of values. -/
theorem ld_values (n : ℕ) (off : Fin 3 → ℕ) (e : off = ![0, n, 0]) (h) (x : Fin 256) (d : Fin 128) (hn : n + 256 ≤ 8192) :
    (View.ld vs (Rect.unit (s := S1x8192x128) off S1x256x128.size h) (ix3 0 x d) : EReal) = vs (ix3 0 ⟨n + x, by omega⟩ d) := by
  subst e
  pointwise

/-- An entry of a head's half of the query block. -/
theorem ld_queries (o : ℕ) (off : Fin 3 → ℕ) (e : off = ![0, 0, o]) (h) (x : Fin 256) (d : Fin 128) (ho : o + 128 ≤ 256) :
    (View.ld q (Rect.unit (s := S1x256x256) off S1x256x128.size h) (ix3 0 x d) : EReal) = q (ix3 0 x ⟨o + d, by omega⟩) := by
  subst e
  pointwise

/-- After `n` trips the first head's carry is the running sums over the first `256 n` keys. -/
theorem pass1 {s v : ℕ → EReal} (qb : Vec Ideal S1x256x128 .bf16) (r : Fin 256) (d : Fin 128)
    (hs : ∀ (j : ℕ) (hj : j < (i 2).val * 256) (hj' : j < 8192),
      (∑ e : Fin 128, qb (ix3 0 r e) * ks (ix3 0 ⟨j, hj'⟩ ⟨e, by omega⟩) : EReal) * scale = s j)
    (hv : ∀ j : Fin 8192, (vs (ix3 0 j d) : EReal) = v j) (n : ℕ) (hn : n ≤ (i 2).val) :
    Running s v (n * 256)
      ((st_k0_t1 (F := Ideal) Variants.none c none i a3 h3 a4 h4 a5 h5 a6 h6 qb (h4.unread ks) (h5.unread vs) (k0_pay3, k0_pay4, k0_pay5) n).1 (ix2 r 0))
      ((st_k0_t1 (F := Ideal) Variants.none c none i a3 h3 a4 h4 a5 h5 a6 h6 qb (h4.unread ks) (h5.unread vs) (k0_pay3, k0_pay4, k0_pay5) n).2.1 (ix2 r 0))
      ((st_k0_t1 (F := Ideal) Variants.none c none i a3 h3 a4 h4 a5 h5 a6 h6 qb (h4.unread ks) (h5.unread vs) (k0_pay3, k0_pay4, k0_pay5) n).2.2 (ix2 r d)) := by
  have hi : (i 2).val < 32 := (i 2).isLt
  induction n with
  | zero => rw [Nat.zero_mul]; exact start s v r d
  | succ n ih =>
    have hk : n < (k0_t1_loop i).trips := by rw [trips1]; omega
    have e := st_k0_t1_succ (F := Ideal) Variants.none c none i a3 h3 a4 h4 a5 h5 a6 h6 qb (h4.unread ks) (h5.unread vs) (k0_pay3, k0_pay4, k0_pay5) ⟨n, hk⟩
    rw [trip1] at e
    rw [show (n + 1) * 256 = n * 256 + 256 by omega, e]
    refine step qb _ _ _ _ _ r d (fun x => ?_) (fun x => ?_) (ih (by omega))
    · rw [← hs (n * 256 + x) (by omega) (by omega)]
      congr 1
      refine Finset.sum_congr rfl fun e _ => ?_
      rw [ld_keys ks (n * 256) 0 _ (off1 i ⟨n, hk⟩) _ x e (by omega) (by omega)]
      congr 4; simp
    · rw [ld_values vs (n * 256) _ (off2 i ⟨n, hk⟩) _ x d (by omega)]
      exact hv _

/-- After `n` trips the second head's carry is the running sums over the first `256 n` keys. -/
theorem pass3 {s v : ℕ → EReal} (w : BitVec 32) (v1 v2 : IVec S256x256 32) (v14 : FVec Ideal S256x128 .f32) (w' : BitVec 32)
    (v33 : FVec Ideal S256x256 .f32) (v37 : FVec Ideal S256x1 .f32) (v38 : FVec Ideal S256x128 .f32) (qb : Vec Ideal S1x256x128 .bf16) (r : Fin 256) (d : Fin 128)
    (hs : ∀ (j : ℕ) (hj : j < (i 2).val * 256) (hj' : j < 8192),
      (∑ e : Fin 128, qb (ix3 0 r e) * ks (ix3 0 ⟨j, hj'⟩ ⟨128 + e, by omega⟩) : EReal) * scale = s j)
    (hv : ∀ j : Fin 8192, (vs (ix3 0 j d) : EReal) = v j) (n : ℕ) (hn : n ≤ (i 2).val) :
    Running s v (n * 256)
      ((st_k0_t3 (F := Ideal) Variants.none c none i a3 h3 a4 h4 a5 h5 a6 h6 w v1 v2 v14 w' v33 v37 v38 qb (h4.unread ks) (h5.unread vs) (k0_pay26, k0_pay27, k0_pay28) n).1 (ix2 r 0))
      ((st_k0_t3 (F := Ideal) Variants.none c none i a3 h3 a4 h4 a5 h5 a6 h6 w v1 v2 v14 w' v33 v37 v38 qb (h4.unread ks) (h5.unread vs) (k0_pay26, k0_pay27, k0_pay28) n).2.1 (ix2 r 0))
      ((st_k0_t3 (F := Ideal) Variants.none c none i a3 h3 a4 h4 a5 h5 a6 h6 w v1 v2 v14 w' v33 v37 v38 qb (h4.unread ks) (h5.unread vs) (k0_pay26, k0_pay27, k0_pay28) n).2.2 (ix2 r d)) := by
  have hi : (i 2).val < 32 := (i 2).isLt
  induction n with
  | zero => rw [Nat.zero_mul]; exact start s v r d
  | succ n ih =>
    have hk : n < (k0_t3_loop i).trips := by rw [trips3]; omega
    have e := st_k0_t3_succ (F := Ideal) Variants.none c none i a3 h3 a4 h4 a5 h5 a6 h6 w v1 v2 v14 w' v33 v37 v38 qb (h4.unread ks) (h5.unread vs) (k0_pay26, k0_pay27, k0_pay28) ⟨n, hk⟩
    rw [trip3] at e
    rw [show (n + 1) * 256 = n * 256 + 256 by omega, e]
    refine step qb _ _ _ _ _ r d (fun x => ?_) (fun x => ?_) (ih (by omega))
    · rw [← hs (n * 256 + x) (by omega) (by omega)]
      congr 1
      refine Finset.sum_congr rfl fun e _ => ?_
      rw [ld_keys ks (n * 256) 128 _ (off7 i ⟨n, hk⟩) _ x e (by omega) (by omega)]
    · rw [ld_values vs (n * 256) _ (off8 i ⟨n, hk⟩) _ x d (by omega)]
      exact hv _

/-- The stored block takes the first head's quotient in the first 64 columns and the second head's in the others. -/
theorem pick (v47 : FVec Ideal S256x128 .f32) (q kb vb : Vec Ideal S1x256x128 .bf16) (m l : FVec Ideal S256x1 .f32)
    (a : FVec Ideal S256x128 .f32) (r : Fin 256) (d : Fin 128) :
    (k0_pay1 (iota .tc S1x128 32 [1] iota_S1x128_d1_w32) v47 l a (k0_pay20 q m kb) (k0_pay21 q m kb) vb (ix3 0 r d) : EReal)
      = if d.val < 64 then v47 (ix2 r d)
        else k0_pay24 a (k0_pay21 q m kb) (k0_pay22 q m l kb) (k0_pay23 q m kb) vb (ix2 r d) := by
  have h : (k0_pay1 (iota .tc S1x128 32 [1] iota_S1x128_d1_w32) v47 l a (k0_pay20 q m kb) (k0_pay21 q m kb) vb (ix3 0 r d) : EReal)
      = Scalar.select (IntOp.cmpi .slt (BitVec.ofNat 32 d) (BitVec.ofNat 32 64)) (v47 (ix2 r d) : EReal)
        (k0_pay24 a (k0_pay21 q m kb) (k0_pay22 q m l kb) (k0_pay23 q m kb) vb (ix2 r d)) := by
    pointwise [k0_pay1, k0_pay24, k0_pay22, k0_pay23]
  rw [h]
  exact if_congr (WordCmp.cmpi_slt_ofNat_eq_one_iff (by have := d.isLt; omega) (by omega)) rfl rfl

/-- The second head's rescaling on the diagonal block is the first head's term. -/
theorem second_factor (q kb : Vec Ideal S1x256x128 .bf16) (m : FVec Ideal S256x1 .f32) :
    k0_pay43 (iota .tc S256x256 32 [0] iota_S256x256_d0_w32) (iota .tc S256x256 32 [1] iota_S256x256_d1_w32) q m kb = k0_pay20 q m kb := rfl

/-- The second head's exponentials on the diagonal block are the first head's term. -/
theorem second_weights (q kb : Vec Ideal S1x256x128 .bf16) (m : FVec Ideal S256x1 .f32) :
    k0_pay44 (iota .tc S256x256 32 [0] iota_S256x256_d0_w32) (iota .tc S256x256 32 [1] iota_S256x256_d1_w32) q m kb = k0_pay21 q m kb := rfl

/-- What a point stores at row `r` and column `d`: the quotient of the running sums over the keys up to the end of its own block,
    the scores being those of the column's head, `⊥` for a key after the query. -/
theorem block {s v : ℕ → EReal} (r : Fin 256) (d : Fin 128) (o : ℕ) (ho : o = if d.val < 64 then 0 else 128)
    (hs : ∀ (j : ℕ) (hj : j < 8192),
      (if j ≤ (i 2).val * 256 + r.val then
        (∑ e : Fin 128, q (ix3 0 r ⟨o + e, by split_ifs at ho <;> omega⟩) * ks (ix3 0 ⟨j, hj⟩ ⟨o + e, by split_ifs at ho <;> omega⟩) : EReal) * scale
        else ⊥) = s j)
    (hv : ∀ j : Fin 8192, (vs (ix3 0 j d) : EReal) = v j) :
    ∃ m' l' a', Running s v ((i 2).val * 256 + 256) m' l' a'
      ∧ (out0_A_3 c i a3 h3 a4 h4 a5 h5 a6 h6 q ks vs (ix3 0 r d) : EReal) = Ideal.div a' l' := by
  have t1 : Scf.trips 0#32 (Scalar.addi 0#32 (Scalar.muli (Scalar.divsi (Scalar.subi (BitVec.ofNat 32 (i 2).val) 0#32) 1#32) 1#32)) 1#32 = (i 2).val := trips1 i
  have t2 : Scf.trips (Scalar.addi 0#32 (Scalar.muli (Scalar.divsi (Scalar.subi (BitVec.ofNat 32 (i 2).val) 0#32) 1#32) 1#32)) (Scalar.addi 0#32 (Scalar.subi (BitVec.ofNat 32 (i 2).val) 0#32)) 1#32 = 0 := trips2 i
  frame_out
  rw [t1, t2, st_k0_t2_zero, st_k0_t4_zero]
  dsimp only
  have hi : (i 2).val < 32 := (i 2).isLt
  rw [second_factor, second_weights, pick]
  by_cases hd : d.val < 64
  · rw [if_pos hd] at ho ⊢
    subst ho
    refine last _ _ _ _ _ _ r d (fun x => ?_) (fun x => ?_)
      (pass1 c i a3 h3 a4 h4 a5 h5 a6 h6 ks vs _ r d (fun j hj hj' => ?_) hv (i 2).val le_rfl)
    · rw [← hs ((i 2).val * 256 + x) (by omega)]
      refine if_congr (by omega) ?_ rfl
      congr 1
      refine Finset.sum_congr rfl fun e _ => ?_
      rw [ld_keys ks ((i 2).val * 256) 0 _ (off5 i) _ x e (by omega) (by omega), ld_queries q 0 _ rfl _ r e (by omega)]
    · rw [ld_values vs ((i 2).val * 256) _ (off6 i) _ x d (by omega)]
      exact hv _
    · rw [← hs j hj', if_pos (by omega)]
      congr 1
      refine Finset.sum_congr rfl fun e _ => ?_
      rw [ld_queries q 0 _ rfl _ r e (by omega)]
      congr 4; simp
  · rw [if_neg hd] at ho ⊢
    subst ho
    refine last _ _ _ _ _ _ r d (fun x => ?_) (fun x => ?_)
      (pass3 c i a3 h3 a4 h4 a5 h5 a6 h6 ks vs _ _ _ _ _ _ _ _ _ r d (fun j hj hj' => ?_) hv (i 2).val le_rfl)
    · rw [← hs ((i 2).val * 256 + x) (by omega)]
      refine if_congr (by omega) ?_ rfl
      congr 1
      refine Finset.sum_congr rfl fun e _ => ?_
      rw [ld_keys ks ((i 2).val * 256) 128 _ (off11 i) _ x e (by omega) (by omega), ld_queries q 128 _ rfl _ r e (by omega)]
    · rw [ld_values vs ((i 2).val * 256) _ (off6 i) _ x d (by omega)]
      exact hv _
    · rw [← hs j hj', if_pos (by omega)]
      congr 1
      refine Finset.sum_congr rfl fun e _ => ?_
      rw [ld_queries q 128 _ rfl _ r e (by omega)]

end Cert.KernelIdeal.Pass

end
-- ==== Proof.AttnReference.lean ====
/-
  The attention reference, read at an index: masked scores, the greatest score of a row, the exponentials, their sum, and the
  weighted sum of the values (`result_apply`).
-/
module

public import proofs.«01_k».proof.Proof.AttnBlock
public import proofs.«01_k».proof.Proof.Gen.ReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Terms

open Cert.ReferenceIdeal Cert.ReferenceIdeal.Gen

variable (Q K : FVec Ideal S4x8192x1024 .bf16) (V : FVec Ideal S4x8192x512 .bf16)

/-- The scores, `−∞` where the key comes after the query. -/
def masked : FVec Ideal S4x8x8192x8192 .f32 :=
  select (broadcastInDim S4x8x8192x8192 ![2, 3] bcast_S8192x8192_S4x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.divf (Host.dotGeneral dot_S4x8192x8x128_S4x8192x8x128_S4x8x8192x8192_3_3_1_1_02_02 none (shapeCast _ (extf .f32 Q bitsLt_bf16_f32) shapeCasts_S4x8192x1024_S4x8192x8x128) (shapeCast _ (extf .f32 K bitsLt_bf16_f32) shapeCasts_S4x8192x1024_S4x8192x8x128)) (broadcastInDim S4x8x8192x8192 ![] bcast_S_S4x8x8192x8192 (Host.sqrt (constant S_ .f32 0x42C00000#32)))) (broadcastInDim S4x8x8192x8192 ![] bcast_S_S4x8x8192x8192 (id (constant S_ .f32 0xFF800000#32)))

/-- The greatest score of each query. -/
def rowMax : FVec Ideal S4x8x8192 .f32 :=
  maximumf (broadcastInDim S4x8x8192 ![] bcast_S_S4x8x8192 (constant S_ .f32 0xFF800000#32)) (Host.reduce FloatOps.maximumf (masked Q K) (constant S_ .f32 0xFF800000#32) reducesTo_S4x8x8192x8192_S4x8x8192_d3 h_S_)

/-- The exponentials of the scores less their row's greatest. -/
def weights : FVec Ideal S4x8x8192x8192 .f32 :=
  Host.exp (subf (masked Q K) (broadcastInDim S4x8x8192x8192 ![0, 1, 2, 3] bcast_S4x8x8192x1_S4x8x8192x8192_0_1_2_3 (broadcastInDim S4x8x8192x1 ![0, 1, 2] bcast_S4x8x8192_S4x8x8192x1_0_1_2 (rowMax Q K))))

/-- The sum of each query's exponentials. -/
def rowSum : FVec Ideal S4x8x8192 .f32 :=
  Host.reduceAdd (weights Q K) (constant S_ .f32 0x00000000#32) reducesTo_S4x8x8192x8192_S4x8x8192_d3 h_S_

/-- The reference's result: the values weighted by the softmax. -/
def result : FVec Ideal S4x8192x512 .bf16 :=
  truncf .bf16 (shapeCast _ (transpose S4x8192x8x64 [0, 3, 1, 2] (Host.dotGeneral dot_S4x8192x8x64_S4x8x8192x8192_S4x8x64x8192_1_3_3_2_02_01 none (shapeCast _ (extf .f32 V bitsLt_bf16_f32) shapeCasts_S4x8192x512_S4x8192x8x64) (Host.divf (weights Q K) (broadcastInDim S4x8x8192x8192 ![0, 1, 2, 3] bcast_S4x8x8192x1_S4x8x8192x8192_0_1_2_3 (broadcastInDim S4x8x8192x1 ![0, 1, 2] bcast_S4x8x8192_S4x8x8192x1_0_1_2 (rowSum Q K))))) transposes_S4x8x64x8192_S4x8192x8x64_0_3_1_2) shapeCasts_S4x8192x8x64_S4x8192x512) bitsLt_bf16_f32

/-- The reference's run ends at `result` of its arguments. -/
theorem run_eq (m : (ℓ : Loc nD τ sig) → Buf (Elt Ideal) ℓ) (c : Dev nD) :
    Value.res_main_v32 m c = result (m ((c.tc : Thread nD τ).loc main_arg0)) (m ((c.tc : Thread nD τ).loc main_arg1)) (m ((c.tc : Thread nD τ).loc main_arg2)) := rfl

/-- Dividing by √96 is multiplying by 1/√96. -/
theorem div_root (x : EReal) : Ideal.div x (Ideal.sqrt (Ideal.ofBits .f32 0x42C00000#32)) = x * Cert.KernelIdeal.Block.scale := by
  have h : Ideal.ofBits .f32 0x42C00000#32 = ((96 : ℝ) : EReal) := by
    simp [Ideal.ofBits, Ideal.ieee, -EReal.coe_mul]; norm_num
  rw [h, Ideal.sqrt_coe, if_neg (by norm_num), Cert.Softmax.div_real x (Real.sqrt_pos.mpr (by norm_num))]
  rfl

/-- A score: the product of query and key over √96 when the key is not after the query, `⊥` when it is. -/
theorem masked_apply (b : Fin 4) (h : Fin 8) (i j : Fin 8192) : (masked Q K (ix4 b h i j) : EReal)
    = if j.val ≤ i.val then (∑ e : Fin 128, Q (ix3 b i ⟨h.val * 128 + e.val, by omega⟩) * K (ix3 b j ⟨h.val * 128 + e.val, by omega⟩) : EReal)
        * Cert.KernelIdeal.Block.scale else ⊥ := by
  have hb : (constant (F := Ideal) S_ .f32 0xFF800000#32 ix0 : EReal) = ⊥ := by
    show Ideal.ofBits .f32 0xFF800000#32 = ⊥
    simp [Ideal.ofBits, Ideal.ieee]
  have e : (masked Q K (ix4 b h i j) : EReal) = Scalar.select (IntOp.cmpi .sle (BitVec.ofNat 32 j) (BitVec.ofNat 32 i))
      (Ideal.div (∑ e : Fin 128, Q (ix3 b i ⟨h.val * 128 + e.val, by omega⟩) * K (ix3 b j ⟨h.val * 128 + e.val, by omega⟩) : EReal)
        (Ideal.sqrt (Ideal.ofBits .f32 0x42C00000#32))) (constant (F := Ideal) S_ .f32 0xFF800000#32 ix0) := by
    pointwise [masked]
    rfl
  rw [e, div_root, hb]
  exact if_congr (WordCmp.cmpi_sle_ofNat_eq_one_iff (by have := j.isLt; omega) (by have := i.isLt; omega)) rfl rfl

/-- The maximum along the last of four axes, of any extents. -/
theorem reduce_max {n0 n1 n2 n3 : ℕ} (x : FVec Ideal ⟨4, ![n0, n1, n2, n3]⟩ .f32) (w : BitVec 32)
    (h : (⟨4, ![n0, n1, n2, n3]⟩ : Shape).ReducesTo [3] ⟨3, ![n0, n1, n2]⟩) (hu : 0 < S_.numel) (a : Fin n0) (b : Fin n1) (c : Fin n2) :
    Host.reduce (FloatOps.maximumf (F := Ideal) (φ := .f32)) x (constant (F := Ideal) S_ .f32 w) h hu (ix3 a b c)
      = Finset.fold max (Ideal.ofBits .f32 w) (fun k : Fin n3 => (x (ix4 a b c k) : EReal)) Finset.univ := by
  pointwise

/-- A maximum over any number of lanes that starts at −∞ is the supremum. -/
theorem fold_max (n : ℕ) (f : Fin n → EReal) :
    max (Ideal.ofBits .f32 0xFF800000#32) (Finset.fold max (Ideal.ofBits .f32 0xFF800000#32) f Finset.univ) = Finset.univ.sup f := by
  rw [show Ideal.ofBits .f32 0xFF800000#32 = ⊥ from by simp [Ideal.ofBits, Ideal.ieee], bot_sup_eq]
  rfl

/-- The maximum with −∞ broadcast, of an array. -/
theorem floor_apply (z : FVec Ideal S4x8x8192 .f32) (b : Fin 4) (h : Fin 8) (i : Fin 8192) :
    (maximumf (broadcastInDim S4x8x8192 ![] bcast_S_S4x8x8192 (constant S_ .f32 0xFF800000#32)) z (ix3 b h i) : EReal)
      = max (Ideal.ofBits .f32 0xFF800000#32) (z (ix3 b h i)) := by
  pointwise

/-- The greatest of an array's scores along its last axis, from −∞. -/
theorem greatest (x : FVec Ideal S4x8x8192x8192 .f32) (b : Fin 4) (h : Fin 8) (i : Fin 8192) :
    (Host.reduce (FloatOps.maximumf (F := Ideal) (φ := .f32)) x (constant (F := Ideal) S_ .f32 0xFF800000#32)
      reducesTo_S4x8x8192x8192_S4x8x8192_d3 h_S_ (ix3 b h i) : EReal)
      = Finset.fold max (Ideal.ofBits .f32 0xFF800000#32) (fun k : Fin 8192 => (x (ix4 b h i k) : EReal)) Finset.univ :=
  reduce_max x 0xFF800000#32 _ h_S_ b h i

/-- A query's greatest score is the supremum of its scores. -/
theorem rowMax_apply (b : Fin 4) (h : Fin 8) (i : Fin 8192) : (rowMax Q K (ix3 b h i) : EReal)
    = Finset.univ.sup fun j => (masked Q K (ix4 b h i j) : EReal) :=
  (floor_apply _ b h i).trans ((congrArg (max (Ideal.ofBits .f32 0xFF800000#32)) (greatest (masked Q K) b h i)).trans (fold_max 8192 _))

theorem weights_apply (b : Fin 4) (h : Fin 8) (i j : Fin 8192) : (weights Q K (ix4 b h i j) : EReal)
    = Ideal.exp (masked Q K (ix4 b h i j) - rowMax Q K (ix3 b h i)) := by
  pointwise [weights]

theorem rowSum_apply (b : Fin 4) (h : Fin 8) (i : Fin 8192) : (rowSum Q K (ix3 b h i) : EReal)
    = ∑ j, (weights Q K (ix4 b h i j) : EReal) := by
  pointwise [rowSum]

/-- The result at a query: the sum of the values times the exponentials over their sum. -/
theorem result_apply (b : Fin 4) (i : Fin 8192) (n : Fin 512) : (result Q K V (ix3 b i n) : EReal)
    = ∑ j, V (ix3 b j n) * Ideal.div (weights Q K (ix4 b ⟨n.val / 64, by omega⟩ i j)) (rowSum Q K (ix3 b ⟨n.val / 64, by omega⟩ i)) := by
  pointwise [result]

end Cert.ReferenceIdeal.Terms

end
-- ==== Proof.Attention.lean ====
/-
  The attention kernel's result array, closed: after the grid's last point it holds, at every token and column, what the
  reference computes, when the queries and the keys are finite.  A point's block of the result is the pass of `AttnLoop.lean` over
  the keys up to the block's diagonal; the keys after the diagonal have score `⊥` in the reference and add nothing.
-/
module

public import proofs.«01_k».proof.Proof.AttnLoop
public import proofs.«01_k».proof.Proof.AttnReference

@[expose] public section

set_option maxRecDepth 16384

noncomputable section

open Idealize.ShloMosaic Idealize.ShloMosaic.TcCoe Idealize.SL.Sem
open Idealize.ShloMosaic.Pipeline (Dat)

namespace Cert.KernelIdeal.Tiles

open Cert.KernelIdeal Cert.KernelIdeal.Gen Cert.Softmax Cert.ReferenceIdeal.Terms

/-- Every entry of an array is a real number. -/
def Finite (Q : FVec Ideal S4x8192x1024 .bf16) : Prop := ∀ x, ∃ r : ℝ, (Q x : EReal) = r

/-- A query's scores as a sequence, `⊥` past the last key. -/
def scores (Q K : FVec Ideal S4x8192x1024 .bf16) (b : Fin 4) (h : Fin 8) (i : Fin 8192) (j : ℕ) : EReal :=
  if hj : j < 8192 then masked Q K (ix4 b h i ⟨j, hj⟩) else ⊥

/-- A column of the values as a sequence. -/
def column (V : FVec Ideal S4x8192x512 .bf16) (b : Fin 4) (n : Fin 512) (j : ℕ) : EReal :=
  if hj : j < 8192 then V (ix3 b ⟨j, hj⟩ n) else 0

/-- The score of finite queries and keys is a real number where the key is not after the query. -/
theorem score_real (Q K : FVec Ideal S4x8192x1024 .bf16) (hQ : Finite Q) (hK : Finite K)
    (b : Fin 4) (h : Fin 8) (i j : Fin 8192) (hj : j.val ≤ i.val) : ∃ r : ℝ, (masked Q K (ix4 b h i j) : EReal) = r := by
  choose q hq using hQ
  choose k hk using hK
  rw [masked_apply, if_pos hj]
  refine ⟨(∑ e : Fin 128, q (ix3 b i ⟨h.val * 128 + e.val, by omega⟩) * k (ix3 b j ⟨h.val * 128 + e.val, by omega⟩)) * (Real.sqrt 96)⁻¹, ?_⟩
  rw [EReal.coe_mul, coe_sum]
  unfold Block.scale
  congr 1
  refine Finset.sum_congr rfl fun e _ => ?_
  rw [hq, hk, EReal.coe_mul]

/-- A pass over the keys up to a query's diagonal block ends at the reference's result. -/
theorem quotient (Q K : FVec Ideal S4x8192x1024 .bf16) (V : FVec Ideal S4x8192x512 .bf16)
    (hQ : Finite Q) (hK : Finite K)
    (b : Fin 4) (h : Fin 8) (i : Fin 8192) (n : Fin 512) (hn : h.val = n.val / 64) (k : ℕ) (hk : k ≤ 8192) (hi : i.val < k) {m l a : EReal}
    (hr : Running (scores Q K b h i) (column V b n) k m l a) : Ideal.div a l = result Q K V (ix3 b i n) := by
  have hs : ∀ j (hj : j < 8192), scores Q K b h i j = masked Q K (ix4 b h i ⟨j, hj⟩) := fun j hj => dif_pos hj
  have hlate : ∀ j, k ≤ j → scores Q K b h i j = ⊥ := by
    intro j hj
    rcases lt_or_ge j 8192 with hlt | hge
    · rw [hs j hlt, masked_apply, if_neg (by show ¬ j ≤ i.val; omega)]
    · exact dif_neg (by omega)
  have hx := hr.extend hk hlate
  have hm : m = rowMax Q K (ix3 b h i) := by
    rw [hx.max, rowMax_apply]
    apply le_antisymm
    · refine Finset.sup_le fun j hj => ?_
      rw [hs j (Finset.mem_range.mp hj)]
      exact Finset.le_sup (f := fun j => (masked Q K (ix4 b h i j) : EReal)) (Finset.mem_univ _)
    · refine Finset.sup_le fun j _ => ?_
      rw [← hs j.val j.isLt]
      exact Finset.le_sup (f := scores Q K b h i) (Finset.mem_range.mpr j.isLt)
  have hl : l = rowSum Q K (ix3 b h i) := by
    rw [hx.sum, rowSum_apply, Finset.sum_range]
    refine Finset.sum_congr rfl fun j _ => ?_
    rw [weights_apply, hs j.val j.isLt, hm]
  have hh : h = ⟨n.val / 64, by omega⟩ := Fin.ext hn
  have hz : scores Q K b h i i.val ≠ ⊥ := by
    rw [hs i.val i.isLt]
    obtain ⟨r, e⟩ := score_real Q K hQ hK b h i i le_rfl
    rw [e]; exact EReal.coe_ne_bot _
  have ht : ∀ j < 8192, scores Q K b h i j ≠ ⊤ := by
    intro j hj
    rw [hs j hj]
    rcases le_or_gt j i.val with hle | hgt
    · obtain ⟨r, e⟩ := score_real Q K hQ hK b h i ⟨j, hj⟩ hle
      rw [e]; exact EReal.coe_ne_top _
    · rw [masked_apply, if_neg (by show ¬ j ≤ i.val; omega)]; exact bot_ne_top
  rw [hx.div_eq ht i.isLt hz, result_apply, ← hh, Finset.sum_range]
  refine Finset.sum_congr rfl fun j _ => ?_
  rw [weights_apply, hs j.val j.isLt, hm, hl]
  congr 1
  exact dif_pos j.isLt

variable (m : (ℓ : Loc nD τ sig) → Buf (Elt Ideal) ℓ)

/-- Where the windows stand at a grid point. -/
theorem idx : ∀ t : Fin cfg0.N, win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

/-- The sequence of the batch that a point works on. -/
def batch (t : Fin cfg0.N) : Fin 4 := ⟨(grid0.coords t 0).val, (grid0.coords t 0).isLt⟩

/-- The token that row `r` of a point's query block is. -/
def token (t : Fin cfg0.N) (r : Fin 256) : Fin 8192 :=
  ⟨(grid0.coords t 2).val * 256 + r, by have : (grid0.coords t 2).val < 32 := (grid0.coords t 2).isLt; omega⟩

/-- The column of the packed queries and keys that column `e` of a point's block is. -/
def wide (t : Fin cfg0.N) (e : Fin 256) : Fin 1024 :=
  ⟨(grid0.coords t 1).val * 256 + e, by have : (grid0.coords t 1).val < 4 := (grid0.coords t 1).isLt; omega⟩

/-- The column of the values and of the result that column `d` of a point's block is. -/
def narrow (t : Fin cfg0.N) (d : Fin 128) : Fin 512 :=
  ⟨(grid0.coords t 1).val * 128 + d, by have : (grid0.coords t 1).val < 4 := (grid0.coords t 1).isLt; omega⟩

theorem query_read (c : Dev nD) (t : Fin cfg0.N) (r : Fin 256) (e : Fin 256) :
    (iblk m c 0 t (ix3 0 r e) : EReal) = m ((c : Thread nD τ).loc main_arg0) (ix3 (batch t) (token t r) (wide t e)) := by
  blk_ext [iblk, V, idx t, batch, token, wide]

theorem key_read (c : Dev nD) (t : Fin cfg0.N) (j : Fin 8192) (e : Fin 256) :
    (iblk m c 1 t (ix3 0 j e) : EReal) = m ((c : Thread nD τ).loc main_arg1) (ix3 (batch t) j (wide t e)) := by
  blk_ext [iblk, V, idx t, batch, wide]

theorem value_read (c : Dev nD) (t : Fin cfg0.N) (j : Fin 8192) (d : Fin 128) :
    (iblk m c 2 t (ix3 0 j d) : EReal) = m ((c : Thread nD τ).loc main_arg2) (ix3 (batch t) j (narrow t d)) := by
  blk_ext [iblk, V, idx t, batch, narrow]

/-- The kernel's result array is the reference's result of the packed queries, keys and values. -/
theorem final (c : Dev nD) (hQ : Finite (m ((c : Thread nD τ).loc main_arg0)))
    (hK : Finite (m ((c : Thread nD τ).loc main_arg1))) :
    (dats m 0 c).arrAt 3 (cfgs 0).N
      = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0
  obtain ⟨z, r, d, rfl⟩ : ∃ (z : Fin 1) (r : Fin 256) (d : Fin 128), y = ix3 z r d := ⟨y 0, y 1, y 2, eq_ix3 y⟩
  obtain rfl : z = 0 := Subsingleton.elim _ _
  have hy : ((View.whole main_v0).slice (win0_3.rect t)).emb (ix3 0 r d) = ix3 (batch t) (token t r) (narrow t d) := by
    blk_ext [idx t, batch, token, narrow]
  rw [hy]
  have hp : (grid0.coords t 1).val < 4 := (grid0.coords t 1).isLt
  have hi : (grid0.coords t 2).val < 32 := (grid0.coords t 2).isLt
  obtain ⟨m', l', a', hrun, hout⟩ := Pass.block c (grid0.coords t) (ms0_0 t) (hs0_0 t) (ms0_1 t) (hs0_1 t) (ms0_2 t) (hs0_2 t) (ms0_3 t) (hs0_3 t)
    (iblk m c 0 t) (iblk m c 1 t) (iblk m c 2 t)
    (s := scores (m ((c : Thread nD τ).loc main_arg0)) (m ((c : Thread nD τ).loc main_arg1)) (batch t)
      ⟨(narrow t d).val / 64, by have := (narrow t d).isLt; omega⟩ (token t r))
    (v := column (m ((c : Thread nD τ).loc main_arg2)) (batch t) (narrow t d)) r d (if d.val < 64 then 0 else 128) rfl
    (fun j hj => by
      unfold scores
      rw [dif_pos hj, masked_apply]
      refine if_congr (by simp only [token]) ?_ rfl
      congr 1
      refine Finset.sum_congr rfl fun e _ => ?_
      rw [query_read, key_read]
      have hw : ∀ (h1 : (if d.val < 64 then 0 else 128) + e.val < 256) (h2 : (narrow t d).val / 64 * 128 + e.val < 1024),
          wide t ⟨(if d.val < 64 then 0 else 128) + e.val, h1⟩ = ⟨(narrow t d).val / 64 * 128 + e.val, h2⟩ := by
        intro h1 h2
        apply Fin.ext
        simp only [wide, narrow]
        split_ifs <;> omega
      rw [hw])
    (fun j => by
      rw [value_read]; unfold column
      rw [dif_pos j.isLt])
  refine hout.trans (quotient _ _ _ hQ hK _ _ _ _ rfl _ (by omega) ?_ hrun)
  simp only [token]; omega

end Cert.KernelIdeal.Tiles

end
-- ==== Proof.Finite.lean ====
/-
  The precondition of the attention claim, opened: where the function that tests the queries and the keys says yes, every query and
  every key is a real number.
-/
module

public import proofs.«01_k».proof.Pre_finite_scores
public import proofs.«01_k».proof.Proof.Attention
public import Idealize.ShloMosaic.Lib.ReduceAll

@[expose] public section

noncomputable section

open Idealize.ShloMosaic

namespace Cert.Pre_finite_scores

/-- The side conditions of the test's operations hold. -/
theorem facts : Facts := ⟨by decide, by decide, by decide, by decide⟩

/-- One entry's test: a number whose magnitude is below `⊤` is real. -/
theorem real_of_lt {x : EReal} (h : FloatOps.cmpf (F := Ideal) (φ := .f32) .olt (FloatOps.absf (F := Ideal) (φ := .f32) x) (FloatOps.ofBits (F := Ideal) .f32 0x7F800000#32) = 1#1) :
    ∃ r : ℝ, x = r := by
  induction x with
  | bot => simp [FloatOps.cmpf, FloatOps.absf, FloatOps.ofBits, Ideal.ofBits, Ideal.ieee, Ideal.cmp] at h
  | top => simp [FloatOps.cmpf, FloatOps.absf, FloatOps.ofBits, Ideal.ofBits, Ideal.ieee, Ideal.cmp] at h
  | coe r => exact ⟨r, rfl⟩

/-- Where the test says yes, the queries and the keys are real. -/
theorem finite [Facts] (Q K : FVec Ideal S4x8192x1024 .bf16) (V : FVec Ideal S4x8192x512 .bf16) (h : fn (F := Ideal) Q K V = fun _ => 1#1) :
    Cert.KernelIdeal.Tiles.Finite Q ∧ Cert.KernelIdeal.Tiles.Finite K := by
  obtain ⟨hq, hk⟩ := IntOp.andi_eq_one.1 (congrFun h (fun a => a.elim0))
  haveI : Subsingleton S_.Idx := ⟨fun i j => funext fun a => a.elim0⟩
  exact ⟨fun x => real_of_lt (Host.reduce_andi_all _ _ _ _ _ hq x), fun x => real_of_lt (Host.reduce_andi_all _ _ _ _ _ hk x)⟩

end Cert.Pre_finite_scores

end
-- ==== Proof.Projection.lean ====
/-
  The input projection: the tiled product of the tokens with the packed weights.

  The kernel walks a grid of 32 × 11 tiles; at each it multiplies 1024 rows of the tokens by 768
  columns of the weights, over the whole inner axis at once.  The reference is one product of the
  two whole arrays.  `point` says that a tile's entry is the reference's entry at the place the
  tile puts it; `final` says that the result array therefore is the reference's product.
-/
module

public import proofs.«01_k».proof.Proof.Gen.ProjKernelIdeal.Frame
public import proofs.«01_k».proof.Proof.Gen.ProjReferenceIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjKernelIdeal.Tiles

open Cert.ProjKernelIdeal Cert.ProjKernelIdeal.Gen

variable (m : (ℓ : Loc nD τ sig) → Buf (Elt Ideal) ℓ)

/-- The reference's product, of arbitrary tokens `X` and weights `W`. -/
abbrev product (X : FVec Ideal S32768x1024 .bf16) (W : FVec Ideal S1024x8448 .bf16) : FVec Ideal S32768x8448 .f32 :=
  Host.dotGeneral Cert.ProjReferenceIdeal.dot_S32768x1024_S1024x8448_S32768x8448_1_0_0_1_n_n none
    (extf .f32 X Cert.ProjReferenceIdeal.Gen.bitsLt_bf16_f32) (extf .f32 W Cert.ProjReferenceIdeal.Gen.bitsLt_bf16_f32)

/-- Where the three windows stand at a grid point: row tile and column tile. -/
theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

/-- An entry of a tile's product is the reference's entry where the tile lies. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, idx t]

/-- The kernel's result array is the reference's product of its two arguments. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjKernelIdeal.Tiles

end
-- ==== Proof.MergeRow.lean ====
/-
  The merge, row by row.

  Every operation of the merge keeps a token's row to itself.  This module names the reference's
  stages (the gates, the gated sum, the residualSum sum, the layer norm) and shows that the tile's two
  computations, read at a row whose inputs are a row of the whole arrays, are those stages read at
  that row of the whole arrays.
-/
module

public import proofs.«01_k».proof.Proof.Gen.MergeKernelIdeal.Skeleton
public import proofs.«01_k».proof.Proof.Gen.MergeReferenceIdeal.Run
public import Idealize.ShloMosaic.Lib.Pointwise

@[expose] public section

set_option maxRecDepth 16384

noncomputable section

open Idealize.ShloMosaic Idealize.ShloMosaic.TcCoe Idealize.SL.Sem

namespace Cert.MergeReferenceIdeal.Terms

open Cert.MergeReferenceIdeal Cert.MergeReferenceIdeal.Gen

/-- The reference's gates: the sigmoid of the first 4096 columns of the packed projection, split in four. -/
def gates (A4 : FVec Ideal S32768x8448 .f32) : FVec Ideal S32768x4x1024 .f32 :=
  Host.divf (broadcastInDim S32768x4x1024 ![] bcast_S_S32768x4x1024 (constant S_ .f32 0x3F800000#32)) (addf (broadcastInDim S32768x4x1024 ![] bcast_S_S32768x4x1024 (constant S_ .f32 0x3F800000#32)) (Host.exp (Host.negf (shapeCast _ (extractStridedSlice S32768x4096 ![0, 0] A4 slices_S32768x8448_S32768x4096_0_0) shapeCasts_S32768x4096_S32768x4x1024))))

/-- The reference's gated sum of the four branch products. -/
def merged (A0 A1 A2 A3 : FVec Ideal S32768x512 .bf16) (A4 : FVec Ideal S32768x8448 .f32) (A6 A7 A8 A9 : FVec Ideal S512x1024 .bf16) : FVec Ideal S32768x1024 .f32 :=
  addf (addf (addf (mulf (shapeCast _ (extractStridedSlice S32768x1x1024 ![0, 0, 0] (gates A4) slices_S32768x4x1024_S32768x1x1024_0_0_0) shapeCasts_S32768x1x1024_S32768x1024) (Host.dotGeneral dot_S32768x512_S512x1024_S32768x1024_1_0_0_1_n_n none (extf .f32 A0 bitsLt_bf16_f32) (extf .f32 A6 bitsLt_bf16_f32))) (mulf (shapeCast _ (extractStridedSlice S32768x1x1024 ![0, 1, 0] (gates A4) slices_S32768x4x1024_S32768x1x1024_0_1_0) shapeCasts_S32768x1x1024_S32768x1024) (Host.dotGeneral dot_S32768x512_S512x1024_S32768x1024_1_0_0_1_n_n none (extf .f32 A1 bitsLt_bf16_f32) (extf .f32 A7 bitsLt_bf16_f32)))) (mulf (shapeCast _ (extractStridedSlice S32768x1x1024 ![0, 2, 0] (gates A4) slices_S32768x4x1024_S32768x1x1024_0_2_0) shapeCasts_S32768x1x1024_S32768x1024) (Host.dotGeneral dot_S32768x512_S512x1024_S32768x1024_1_0_0_1_n_n none (extf .f32 A2 bitsLt_bf16_f32) (extf .f32 A8 bitsLt_bf16_f32)))) (mulf (shapeCast _ (extractStridedSlice S32768x1x1024 ![0, 3, 0] (gates A4) slices_S32768x4x1024_S32768x1x1024_0_3_0) shapeCasts_S32768x1x1024_S32768x1024) (Host.dotGeneral dot_S32768x512_S512x1024_S32768x1024_1_0_0_1_n_n none (extf .f32 A3 bitsLt_bf16_f32) (extf .f32 A9 bitsLt_bf16_f32)))

/-- The reference's residualSum sum: the scaled token plus the output product. -/
def residualSum (M : FVec Ideal S32768x1024 .f32) (A5 : FVec Ideal S32768x1024 .f32) (A10 : FVec Ideal S1024x1024 .bf16) : FVec Ideal S32768x1024 .f32 :=
  addf (mulf (broadcastInDim S32768x1024 ![] bcast_S_S32768x1024 (constant S_ .f32 0x3FB504F3#32)) A5) (Host.dotGeneral dot_S32768x1024_S1024x1024_S32768x1024_1_0_0_1_n_n none M (extf .f32 A10 bitsLt_bf16_f32))

/-- The mean of every row. -/
def rowMean (Z : FVec Ideal S32768x1024 .f32) : FVec Ideal S32768x1 .f32 :=
  Host.divf (broadcastInDim S32768x1 ![0] bcast_S32768_S32768x1_0 (Host.reduceAdd Z (constant S_ .f32 0x00000000#32) reducesTo_S32768x1024_S32768_d1 h_S_)) (broadcastInDim S32768x1 ![] bcast_S_S32768x1 (constant S_ .f32 0x44800000#32))

/-- The reference's layer norm of every row. -/
def normed (Z : FVec Ideal S32768x1024 .f32) (A11 A12 : FVec Ideal S1x1024 .f32) : FVec Ideal S32768x1024 .f32 :=
  addf (mulf (mulf (subf Z (broadcastInDim S32768x1024 ![0, 1] bcast_S32768x1_S32768x1024_0_1 (rowMean Z))) (broadcastInDim S32768x1024 ![0, 1] bcast_S32768x1_S32768x1024_0_1 (Host.rsqrt (addf (Host.divf (broadcastInDim S32768x1 ![0] bcast_S32768_S32768x1_0 (Host.reduceAdd (mulf (subf Z (broadcastInDim S32768x1024 ![0, 1] bcast_S32768x1_S32768x1024_0_1 (rowMean Z))) (subf Z (broadcastInDim S32768x1024 ![0, 1] bcast_S32768x1_S32768x1024_0_1 (rowMean Z)))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 A11)) (broadcastInDim S32768x1024 ![0, 1] bcast_S1x1024_S32768x1024_0_1 A12)

/-- The reference's result, of its thirteen arguments. -/
def result (A0 A1 A2 A3 : FVec Ideal S32768x512 .bf16) (A4 : FVec Ideal S32768x8448 .f32) (A5 : FVec Ideal S32768x1024 .f32) (A6 A7 A8 A9 : FVec Ideal S512x1024 .bf16)
    (A10 : FVec Ideal S1024x1024 .bf16) (A11 A12 : FVec Ideal S1x1024 .f32) : FVec Ideal S32768x1024 .f32 :=
  normed (residualSum (merged A0 A1 A2 A3 A4 A6 A7 A8 A9) A5 A10) A11 A12

/-- What a run of the reference leaves in its result is `result` of the arguments. -/
theorem run_eq (m : (ℓ : Loc nD τ sig) → Buf (Elt Ideal) ℓ) (c : Dev nD) : Value.res_main_v61 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) := rfl

end Cert.MergeReferenceIdeal.Terms

namespace Cert.MergeKernelIdeal.Row

open Cert.MergeKernelIdeal Cert.MergeKernelIdeal.Gen Cert.MergeReferenceIdeal.Terms

/-- Row `r` of a tile's gated sum is row `n` of the reference's, when row `r` of the tile's inputs is row `n` of the arrays. -/
theorem merged_row (A0 A1 A2 A3 : FVec Ideal S32768x512 .bf16) (A4 : FVec Ideal S32768x8448 .f32) (A6 A7 A8 A9 : FVec Ideal S512x1024 .bf16)
    (a b c d : FVec Ideal S256x512 .bf16) (g0 g1 g2 g3 : FVec Ideal S256x1024 .f32) (r : Fin 256) (n : Fin 32768)
    (ha : ∀ k : Fin 512, a (ix2 r k) = A0 (ix2 n k)) (hb : ∀ k : Fin 512, b (ix2 r k) = A1 (ix2 n k))
    (hc : ∀ k : Fin 512, c (ix2 r k) = A2 (ix2 n k)) (hd : ∀ k : Fin 512, d (ix2 r k) = A3 (ix2 n k))
    (hg0 : ∀ k : Fin 1024, g0 (ix2 r k) = A4 (ix2 n ⟨k, by omega⟩)) (hg1 : ∀ k : Fin 1024, g1 (ix2 r k) = A4 (ix2 n ⟨1024 + k, by omega⟩))
    (hg2 : ∀ k : Fin 1024, g2 (ix2 r k) = A4 (ix2 n ⟨2048 + k, by omega⟩)) (hg3 : ∀ k : Fin 1024, g3 (ix2 r k) = A4 (ix2 n ⟨3072 + k, by omega⟩))
    (l : Fin 1024) :
    (k0_pay2 (F := Ideal) g0 a A6 g1 b A7 g2 c A8 g3 d A9 (ix2 r l) : EReal) = merged A0 A1 A2 A3 A4 A6 A7 A8 A9 (ix2 n l) := by
  pointwise [k0_pay2, merged, gates, ha, hb, hc, hd, hg0, hg1, hg2, hg3]
  rfl

/-- Row `r` of a tile's layer norm is row `n` of the reference's, when row `r` of the tile's inputs is row `n` of the arrays. -/
theorem normed_row (M X : FVec Ideal S32768x1024 .f32) (A10 : FVec Ideal S1024x1024 .bf16) (A11 A12 : FVec Ideal S1x1024 .f32)
    (v : FVec Ideal S256x1024 .bf16) (x : FVec Ideal S256x1024 .f32) (r : Fin 256) (n : Fin 32768)
    (hv : ∀ k : Fin 1024, v (ix2 r k) = M (ix2 n k)) (hx : ∀ k : Fin 1024, x (ix2 r k) = X (ix2 n k)) (l : Fin 1024) :
    k0_pay1 v A10 x A11 A12 (ix2 r l) = normed (residualSum M X A10) A11 A12 (ix2 n l) := by
  pointwise [k0_pay1, normed, rowMean, residualSum, hv, hx]

end Cert.MergeKernelIdeal.Row

end
-- ==== Proof.Merge.lean ====
/-
  The merge: the gated sum of the four branches, the output product and the layer norm.

  The kernel walks 128 tiles of 256 tokens.  `point` says that an entry of a tile is the reference's
  entry at the token the tile puts there, and `final` that the result array is the reference's.
-/
module

public import proofs.«01_k».proof.Proof.MergeRow
public import proofs.«01_k».proof.Proof.Gen.MergeKernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeKernelIdeal.Tiles

open Cert.MergeKernelIdeal Cert.MergeKernelIdeal.Gen Cert.MergeKernelIdeal.Row Cert.MergeReferenceIdeal.Terms

variable (m : (ℓ : Loc nD τ sig) → Buf (Elt Ideal) ℓ)

/-- Where the windows stand at a grid point: the tiles of tokens at the point's row tile, the weights whole. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0]
    ∧ win0_13.index t = ![(grid0.coords t 0).val, 0] :=
  (by decide +kernel : ∀ t : Fin grid0.N, _)

/-- The weights' windows are the whole weights at every point. -/
theorem whole (c : Dev nD) (t : Fin cfg0.N) :
    iblk m c 6 t = m ((c : Thread nD τ).loc main_arg6) ∧ iblk m c 7 t = m ((c : Thread nD τ).loc main_arg7)
    ∧ iblk m c 8 t = m ((c : Thread nD τ).loc main_arg8) ∧ iblk m c 9 t = m ((c : Thread nD τ).loc main_arg9)
    ∧ iblk m c 10 t = m ((c : Thread nD τ).loc main_arg10) ∧ iblk m c 11 t = m ((c : Thread nD τ).loc main_arg11)
    ∧ iblk m c 12 t = m ((c : Thread nD τ).loc main_arg12) := by
  refine ⟨?_, ?_, ?_, ?_, ?_, ?_, ?_⟩ <;> blk_ext! [iblk, V, idx t]

/-- The token that row `r` of the tile at point `t` is. -/
def token (t : Fin cfg0.N) (r : Fin 256) : Fin 32768 :=
  ⟨(grid0.coords t 0).val * 256 + r, by have := (grid0.coords t 0).isLt; have : (grid0.coords t 0).val < 128 := this; omega⟩

/-- The gates' staged block at a point: column `o + k` of the point's tokens in the packed projection, for a load that
    starts at column `o`. -/
theorem gate_read (c : Dev nD) (t : Fin cfg0.N) (r : Fin 256) (q : Fin 4096) :
    (X0_4 m c t (ix2 r q) : EReal) = m ((c : Thread nD τ).loc main_arg4) (ix2 (token t r) ⟨q, by omega⟩) := by
  unfold X0_4 Pipeline.Window.fill
  rw [dif_pos (moved0_4 t _)]
  blk_ext [iblk, V, idx t, token]

/-- The kernel's result array is the reference's result of its thirteen arguments. -/
theorem final (c : Dev nD) : (dats m 0 c).arrAt 13 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  refine (dats m 0 c).arrAt_eq_of_covers 13 _ (by decide +kernel) fun t _ y => ?_
  blk_simp
  rw [after0_13]; unfold outsAt0; frame_out
  obtain ⟨e6, e7, e8, e9, e10, e11, e12⟩ := whole m c t
  rw [e6, e7, e8, e9, e10, e11, e12]
  obtain ⟨r, l, rfl⟩ : ∃ (r : Fin 256) (l : Fin 1024), y = ix2 r l := ⟨y 0, y 1, eq_ix2 y⟩
  have hy : ((View.whole main_v0).slice (win0_13.rect t)).emb (ix2 r l) = ix2 (token t r) l := by
    blk_ext [idx t, token]
  rw [hy, result]
  refine normed_row _ _ _ _ _ _ _ r (token t r) ?_ ?_ l
  · intro k
    refine merged_row _ _ _ _ _ _ _ _ _ _ _ _ _ _ _ _ _ _ _ ?_ ?_ ?_ ?_ ?_ ?_ ?_ ?_ k
    · intro k; blk_ext [iblk, V, idx t, token]
    · intro k; blk_ext [iblk, V, idx t, token]
    · intro k; blk_ext [iblk, V, idx t, token]
    · intro k; blk_ext [iblk, V, idx t, token]
    · intro k; pointwise; exact gate_read m c t r ⟨k, by omega⟩
    · intro k; pointwise; exact gate_read m c t r ⟨1024 + k, by omega⟩
    · intro k; pointwise; exact gate_read m c t r ⟨2048 + k, by omega⟩
    · intro k; pointwise; exact gate_read m c t r ⟨3072 + k, by omega⟩
  · intro k; blk_ext [iblk, V, idx t, token]

end Cert.MergeKernelIdeal.Tiles

end
-- ==== Proof.Range.lean ====
/-
  The range of the experts' call, opened: where the function that tests the blocks' experts and the rows' tokens says yes, every block's
  expert is below 32 and every row's token below 32768.
-/
module

public import proofs.«01_k».proof.Pre_in_range
public import proofs.«01_k».proof.Proof.Gen.Pre_in_range
public import Idealize.ShloMosaic.Lib.ReduceAll

@[expose] public section

noncomputable section

open Idealize.ShloMosaic

namespace Cert.Pre_in_range

/-- Two comparisons of a word with constants: at least 0 and less than `n`. -/
theorem lt_of_tests {x n : BitVec 32} (hn : n.toNat < 2 ^ 31) (h0 : IntOp.cmpi .sge x 0#32 = 1#1) (h1 : IntOp.cmpi .slt x n = 1#1) : x.toNat < n.toNat := by
  have a0 : (0 : Int) ≤ x.toInt := by
    have := h0
    simp [IntOp.cmpi, BitVec.sle] at this
    by_contra hc
    rw [decide_eq_false hc] at this
    exact absurd this (by decide)
  have a1 : x.toInt < n.toInt := by
    have := h1
    simp [IntOp.cmpi, BitVec.slt] at this
    by_contra hc
    rw [decide_eq_false hc] at this
    exact absurd this (by decide)
  rw [BitVec.toInt_eq_toNat_of_lt (x := n) (by omega)] at a1
  rw [BitVec.toInt_eq_toNat_cond] at a0 a1
  have := x.isLt
  split at a0 <;> split at a1 <;> omega

/-- Where the test says yes, the blocks' experts and the rows' tokens are in range. -/
theorem in_range {F : FTy → Type} [FloatOps F] (A0 : IVec S288 32) (A1 : IVec S288x1x512 32) (A2 : FVec F S32768x1024 .f32) (A3 : FVec F S32x1024x2048 .bf16)
    (A4 : FVec F S32x1x2048 .f32) (A5 : FVec F S32x1024x1024 .bf16) (A6 : FVec F S32x1x1024 .f32) (h : fn A0 A1 A2 A3 A4 A5 A6 = fun _ => 1#1) :
    (∀ x, (A0 x).toNat < 32) ∧ ∀ x, (A1 x).toNat < 32768 := by
  obtain ⟨h3, h4⟩ := IntOp.andi_eq_one.1 (congrFun h (fun a => a.elim0))
  obtain ⟨h5, h6⟩ := IntOp.andi_eq_one.1 h3
  obtain ⟨h1, h2⟩ := IntOp.andi_eq_one.1 h5
  haveI : Subsingleton S_.Idx := ⟨fun i j => funext fun a => a.elim0⟩
  exact ⟨fun x => lt_of_tests (n := 32#32) (by decide) (Host.reduce_andi_all _ _ _ _ _ h1 x) (Host.reduce_andi_all _ _ _ _ _ h2 x),
    fun x => lt_of_tests (n := 32768#32) (by decide) (Host.reduce_andi_all _ _ _ _ _ h6 x) (Host.reduce_andi_all _ _ _ _ _ h4 x)⟩

end Cert.Pre_in_range

end
-- ==== Proof.RowGather.lean ====
/-
  Rows of an array gathered by copies of a kernel's own: 512 copies, one a row, all awaited on one cell, into one of the two slots of
  a scratch buffer that take turns.  Stated once for any program: `Setup` names the buffers and the cells.  A slot is idle (`Idle`),
  has its copies under way (`Fly`), or holds the rows named by a list of 512 words (`Land`).
-/
module

public import Idealize.ShloMosaic.Lib.Pipeline.FrameBody
public import Idealize.ShloMosaic.Lib.Batch
public import Idealize.ShloMosaic.Lib.Ring
public import Idealize.ShloMosaic.Lib.ValueLayout
public import Idealize.ShloMosaic.Lib.Tactic

@[expose] public section

noncomputable section

namespace Cert.RowGather

open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

abbrev SBuf : Shape := ⟨3, ![2, 512, 1024]⟩
abbrev SSlot : Shape := ⟨3, ![1, 1, 1024]⟩
abbrev SRow : Shape := ⟨2, ![1, 1024]⟩
abbrev SList : Shape := ⟨1, ![512]⟩
abbrev SBlock : Shape := ⟨3, ![1, 1, 512]⟩
abbrev STable (N : ℕ) : Shape := ⟨2, ![N, 1024]⟩

theorem slot_row : SSlot.Squeezes SRow := by decide
theorem block_list : SBlock.Squeezes SList := by decide

/-- What a gather works on: the slots' buffer, the array the rows come from, the list of the rows' numbers, the cell that the copies into
    each slot are awaited on, and the cell of the copy that fetches the list. -/
structure Setup (sig : RefSig) where
  N : ℕ
  pos : 0 < N
  buf : Memref sig .tc .vmem SBuf .f32
  table : Memref sig .tc .hbm (STable N) .f32
  list : Memref sig .tc .smem SList .i32
  cell : Fin 2 → DmaSem sig
  fetched : DmaSem sig

variable {F : FTy → Type} [FloatOps F] {nD : Nat} {τ : Topo} {sig : RefSig} {Λ : Labels} {defs : Defs nD τ sig (Elt F) Λ}

/-- The proof's algebra: the pipeline's beside the copies' counters. -/
local notation "𝕄" => MT nD τ sig Unit (Elt F) ℕ (Pipeline.UD sig nD τ) ℕ

variable (K : Setup sig)

/-! ## A copy's two ends -/

/-- Where a copy writes. -/
abbrev dstRow (off : Fin 3 → Nat) (h : ∀ a, off a + SSlot.size a ≤ SBuf.size a) : Memref sig .tc .vmem SRow .f32 :=
  (K.buf.slice (Rect.unit (s := SBuf) off SSlot.size h) (fun _ => rfl)).squeeze SRow slot_row
/-- What a copy reads. -/
abbrev srcRow (off : Fin 2 → Nat) (h : ∀ a, off a + SRow.size a ≤ (STable K.N).size a) : Memref sig .tc .hbm SRow .f32 :=
  K.table.slice (Rect.unit (s := STable K.N) off SRow.size h) (fun _ => rfl)

/-- Row `r` of slot `s`, slot `s`, and row `n` of the array, as elements of their buffers. -/
def rowSet (s : Fin 2) (r : Fin 512) : Finset K.buf.view.ty.Idx :=
  (Finset.univ.filter fun y : SBuf.Idx => (y 0).val = s.val ∧ (y 1).val = r.val).map K.buf.view.emb
def slotSet (s : Fin 2) : Finset K.buf.view.ty.Idx := (Finset.univ.filter fun y : SBuf.Idx => (y 0).val = s.val).map K.buf.view.emb
def srcSet (n : Fin K.N) : Finset K.table.view.ty.Idx := (Finset.univ.filter fun y : (STable K.N).Idx => (y 0).val = n.val).map K.table.view.emb

theorem rowSet_disjoint (s : Fin 2) : ∀ r r' : Fin 512, r ≠ r' → Disjoint (rowSet K s r) (rowSet K s r') := fun r r' hne => by
  unfold rowSet
  rw [Finset.disjoint_map, Finset.disjoint_left]
  intro y hy hy'
  simp only [Finset.mem_filter, Finset.mem_univ, true_and] at hy hy'
  exact hne (Fin.ext (hy.2.symm.trans hy'.2))
theorem rowSet_cover (s : Fin 2) : Finset.univ.biUnion (rowSet K s) = slotSet K s := by
  ext i
  simp only [rowSet, slotSet, Finset.mem_biUnion, Finset.mem_univ, true_and, Finset.mem_map, Finset.mem_filter]
  exact ⟨fun ⟨_, y, h, e⟩ => ⟨y, h.1, e⟩, fun ⟨y, h, e⟩ => ⟨⟨(y 1).val, (y 1).isLt⟩, y, ⟨h, rfl⟩, e⟩⟩
theorem slotSet_disjoint : ∀ s s' : Fin 2, s ≠ s' → Disjoint (slotSet K s) (slotSet K s') := fun s s' hne => by
  unfold slotSet
  rw [Finset.disjoint_map, Finset.disjoint_left]
  intro y hy hy'
  simp only [Finset.mem_filter, Finset.mem_univ, true_and] at hy hy'
  exact hne (Fin.ext (hy.symm.trans hy'))
theorem slotSet_cover : Finset.univ.biUnion (slotSet K) = K.buf.view.set := by
  ext i
  simp only [slotSet, View.set, Finset.mem_biUnion, Finset.mem_univ, true_and, Finset.mem_map, Finset.mem_filter]
  exact ⟨fun ⟨_, y, _, e⟩ => ⟨y, e⟩, fun ⟨y, e⟩ => ⟨⟨(y 0).val, (y 0).isLt⟩, y, rfl, e⟩⟩

theorem dstRow_set (off : Fin 3 → Nat) (h) (s : Fin 2) (r : Fin 512) (ho : off = ![s.val, r.val, 0]) :
    (dstRow K off h).view.set = rowSet K s r := by
  subst ho
  refine ((View.set_reshape _ _).trans (View.set_slice K.buf.view (Rect.unit (s := SBuf) ![s.val, r.val, 0] SSlot.size h))).trans (congrArg _ ?_)
  ext y
  rw [Rect.mem_set_unit]
  simp only [Finset.mem_filter, Finset.mem_univ, true_and]
  have h2 : (y 2).val < 1024 := (y 2).isLt
  constructor
  · intro H
    have a0 : s.val ≤ (y 0).val ∧ (y 0).val < s.val + 1 := H 0
    have a1 : r.val ≤ (y 1).val ∧ (y 1).val < r.val + 1 := H 1
    exact ⟨by omega, by omega⟩
  · rintro ⟨e0, e1⟩ a
    fin_cases a
    · show s.val ≤ (y 0).val ∧ (y 0).val < s.val + 1; omega
    · show r.val ≤ (y 1).val ∧ (y 1).val < r.val + 1; omega
    · show 0 ≤ (y 2).val ∧ (y 2).val < 0 + 1024; omega

theorem srcRow_set (off : Fin 2 → Nat) (h) (n : Fin K.N) (ho : off = ![n.val, 0]) : (srcRow K off h).view.set = srcSet K n := by
  subst ho
  refine (View.set_slice K.table.view (Rect.unit (s := STable K.N) ![n.val, 0] SRow.size h)).trans (congrArg _ ?_)
  ext y
  rw [Rect.mem_set_unit]
  simp only [Finset.mem_filter, Finset.mem_univ, true_and]
  have h2 : (y 1).val < 1024 := (y 1).isLt
  constructor
  · intro H
    have a0 : n.val ≤ (y 0).val ∧ (y 0).val < n.val + 1 := H 0
    omega
  · intro e0 a
    fin_cases a
    · show n.val ≤ (y 0).val ∧ (y 0).val < n.val + 1; omega
    · show 0 ≤ (y 1).val ∧ (y 1).val < 0 + 1024; omega

/-- The number of the row that goes to row `r`. -/
def pick (w : SList.Idx → Elt F .i32) (r : Fin 512) : Fin K.N := ⟨min (w (ix1 r)).toNat (K.N - 1), by have := K.pos; omega⟩

/-- The buffers of a core. -/
abbrev bufLoc (c : Dev nD) : Loc nD τ sig := K.buf.view.loc (c : Thread nD τ)
abbrev tableLoc (c : Dev nD) : Loc nD τ sig := K.table.view.loc (c : Thread nD τ)

section
variable (c : Dev nD)

/-- The gathered rows, in either slot. -/
def rows (w : SList.Idx → Elt F .i32) (h : Buf (Elt F) (tableLoc (τ := τ) K c)) : SBuf.Idx → Elt F .f32 :=
  fun y => K.table.view.read (Elt F) h (ix2 (pick K w (y 1)) (y 2))
/-- What the buffer holds once every row has landed. -/
def landed (w : SList.Idx → Elt F .i32) (h : Buf (Elt F) (tableLoc (τ := τ) K c)) (f : Buf (Elt F) (bufLoc (τ := τ) K c)) :
    Buf (Elt F) (bufLoc (τ := τ) K c) :=
  K.buf.view.write (Elt F) f (rows K c w h) Finset.univ

/-- A copy writes its row of `landed`. -/
theorem dstRow_write (off : Fin 3 → Nat) (hd) (off' : Fin 2 → Nat) (hs) (s : Fin 2) (r : Fin 512) (w : SList.Idx → Elt F .i32)
    (h : Buf (Elt F) (tableLoc (τ := τ) K c)) (f : Buf (Elt F) (bufLoc (τ := τ) K c)) (ho : off = ![s.val, r.val, 0])
    (ho' : off' = ![(pick K w r).val, 0]) (i) (hi : i ∈ rowSet K s r) :
    (dstRow K off hd).view.write (Elt F) f ((srcRow K off' hs).view.read (Elt F) h) Finset.univ i = landed K c w h f i := by
  rw [← dstRow_set K off hd s r ho] at hi
  obtain ⟨z, -, rfl⟩ := Finset.mem_map.mp hi
  subst ho ho'
  have hz0 : (z 0).val < 1 := (z 0).isLt
  have e : (Rect.unit (s := SBuf) ![s.val, r.val, 0] SSlot.size hd).emb (Shape.reshapeEquiv slot_row.numel_eq z) = ix3 s r (z 1) := by
    have ez : z = ix2 (0 : Fin 1) (z 1) := by
      funext a
      refine Fin.ext ?_
      fin_cases a
      · show (z 0).val = 0; omega
      · rfl
    rw [ez]
    erw [reshapeEquiv_ix2_1ab]
    funext a
    refine Fin.ext ((Rect.emb_apply _ _ _).trans ?_)
    fin_cases a
    · show s.val + 1 * 0 = s.val; omega
    · show r.val + 1 * 0 = r.val; omega
    · show 0 + 1 * (z 1).val = (z 1).val; omega
  have e' : (Rect.unit (s := STable K.N) ![(pick K w r).val, 0] SRow.size hs).emb z = ix2 (pick K w r) (z 1) := by
    funext a
    refine Fin.ext ((Rect.emb_apply _ _ _).trans ?_)
    fin_cases a
    · show (pick K w r).val + 1 * (z 0).val = (pick K w r).val; omega
    · show 0 + 1 * (z 1).val = (z 1).val; omega
  refine (View.write_emb_of_mem _ _ (Finset.mem_univ z)).trans (Eq.trans ?_ ((congrArg (fun y => landed K c w h f (K.buf.view.emb y)) e).trans
    (View.write_emb_of_mem (v := K.buf.view) (Val := Elt F) f (rows K c w h) (Finset.mem_univ _))).symm)
  refine congrArg _ ?_
  show K.table.view.read (Elt F) h ((Rect.unit (s := STable K.N) ![(pick K w r).val, 0] SRow.size hs).emb z) = _
  rw [e']
  rfl
end

/-! ## The shares and what a copy delivers -/

/-- The share of the array that the copies into slot `s` read by, and the one that row `r`'s copy does. -/
def half (s : Fin 2) : PosShare TreeShare := if s = 0 then fullShare.left else fullShare.right
def share (s : Fin 2) (r : Fin 512) : PosShare TreeShare := Transfers.shareTokN (half s) r.val
/-- One row's credit on its cell. -/
def credit : ℕ := sig.dmaCredit .tc (Kind.tc.table .vmem) K.buf.view.buf SRow .f32
theorem credit_pos : 0 < credit K := sig.dmaCredit_pos _ _ _ _ _ (by decide)

variable (c : Dev nD) (s : Fin 2) (w : SList.Idx → Elt F .i32) (h : Buf (Elt F) (tableLoc (τ := τ) K c))
  (f : Buf (Elt F) (bufLoc (τ := τ) K c))

/-- What the copy of row `r` delivers: the row landed, and its share of the array's row. -/
def deliv (r : Fin 512) : sProp 𝕄 :=
  iprop((bufLoc K c ↦[rowSet K s r]{fullShare} landed K c w h f) ∗ (tableLoc K c ↦[srcSet K (pick K w r)]{share s r} h))
instance deliv_storable (r : Fin 512) : BI.Storable (upEmb : UEmb _ 𝕄) (deliv K c s w h f r) := by unfold deliv; infer_instance

/-- The copies into slot `s`: `j` issued, `u` units awaited. -/
def batch (j u : ℕ) : sProp 𝕄 :=
  Transfers.Batch (countersEmb (U := Pipeline.UD sig nD τ)) (c : Thread nD τ) (.dma (K.cell s)) () (credit K) (deliv K c s w h f) j u

/-- Issuing the copy of row `r`. -/
theorem wp_issue {α : Type} {Q : α → sProp 𝕄} (r : Fin 512) {off : Fin 3 → Nat} {hd} {off' : Fin 2 → Nat} {hs} {sem : DmaSem sig}
    {hsrc hdst hsem} {k : PUnit → Prog (TpuEff nD τ sig (Elt F) Λ .tc) α}
    (ho : off = ![s.val, r.val, 0]) (ho' : off' = ![(pick K w r).val, 0]) (hc : sem = K.cell s) :
    iprop((tableLoc K c ↦[srcSet K (pick K w r)]{share s r} h) ∗ (bufLoc K c ↦[rowSet K s r]{fullShare} f) ∗ batch K c s w h f r.val 0)
      ⊢ iprop((batch K c s w h f (r.val + 1) 0 -∗ wp frame (wpE defs Variants.none (c : Thread nD τ) none) Set.univ (k ⟨⟩) Q)
          -∗ wp frame (wpE defs Variants.none (c : Thread nD τ) none) Set.univ
            (.op (.enqueueDma (srcRow K off' hs) (.here (dstRow K off hd)) (.dma sem) hsrc hdst hsem) k) Q) := by
  subst hc
  unfold batch
  iintro ⟨Hs, Hd, HB⟩
  iapply (Transfers.wp_dmaBatch (countersEmb (U := Pipeline.UD sig nD τ)) Variants.none (c : Thread nD τ) none () (credit K)
    (src := srcRow K off' hs) (dst := dstRow K off hd) (q := share s r) (fs := h) (fd := f) (Sd := rowSet K s r) rfl
    (dstRow_set K off hd s r ho).subset r.isLt (Nat.zero_le _) ?_) $$ [Hs Hd HB]
  · have e : (bufLoc K c ↦[rowSet K s r]{fullShare} (dstRow K off hd).view.write (Elt F) f ((srcRow K off' hs).view.read (Elt F) h) Finset.univ
        : sProp 𝕄) = (bufLoc K c ↦[rowSet K s r]{fullShare} landed K c w h f) :=
      pointsTo_congr (fun y hy => dstRow_write K c off hd off' hs s r w h f ho ho' y hy)
    rw [srcRow_set K off' hs _ ho']
    unfold deliv
    rw [← e]
  isplitl [Hs]
  · rw [srcRow_set K off' hs _ ho']; iexact Hs
  isplitl [Hd]; · iexact Hd
  iexact HB

/-- Awaiting a row that is not the last. -/
theorem wp_await {α : Type} {Q : α → sProp 𝕄} (n : ℕ) (hn : n + 1 < 512) {off : Fin 3 → Nat} {hd} {off' : Fin 2 → Nat} {hs} {sem : DmaSem sig}
    {hsrc hdst} {k : PUnit → Prog (TpuEff nD τ sig (Elt F) Λ .tc) α} (hc : sem = K.cell s) {W : Waits sig Unit} :
    iprop(batch K c s w h f 512 (n * credit K) ∗ owes (c : Thread nD τ) 0 W)
      ⊢ iprop((iprop(batch K c s w h f 512 ((n + 1) * credit K) ∗ owes (c : Thread nD τ) 0 (insert (SemLoc.dma (K.cell s), ()) W))
            -∗ wp frame (wpE defs Variants.none (c : Thread nD τ) none) Set.univ (k ⟨⟩) Q)
          -∗ wp frame (wpE defs Variants.none (c : Thread nD τ) none) Set.univ
            (.op (.waitDma2 sem (srcRow K off' hs) (dstRow K off hd) hsrc hdst) k) Q) := by
  subst hc
  unfold batch
  rw [Nat.succ_mul]
  exact Transfers.wp_waitBatch (countersEmb (U := Pipeline.UD sig nD τ)) Variants.none (c : Thread nD τ) none () (N := credit K) rfl
    (by have := credit_pos K
        rw [Nat.mul_comm (credit K), ← Nat.succ_mul]
        exact Nat.mul_lt_mul_of_pos_right (by omega) this)

/-- Awaiting the last row: every row is back. -/
theorem wp_awaitLast {α : Type} {Q : α → sProp 𝕄} {off : Fin 3 → Nat} {hd} {off' : Fin 2 → Nat} {hs} {sem : DmaSem sig}
    {hsrc hdst} {k : PUnit → Prog (TpuEff nD τ sig (Elt F) Λ .tc) α} (hc : sem = K.cell s) {W : Waits sig Unit} :
    iprop(batch K c s w h f 512 (511 * credit K) ∗ owes (c : Thread nD τ) 0 W)
      ⊢ iprop((iprop(bigSep Finset.univ (deliv K c s w h f) ∗ semVal ((c : Thread nD τ), SemLoc.dma (K.cell s)) 0
              ∗ owes (c : Thread nD τ) 0 (insert (SemLoc.dma (K.cell s), ()) W))
            -∗ wp frame (wpE defs Variants.none (c : Thread nD τ) none) Set.univ (k ⟨⟩) Q)
          -∗ wp frame (wpE defs Variants.none (c : Thread nD τ) none) Set.univ
            (.op (.waitDma2 sem (srcRow K off' hs) (dstRow K off hd) hsrc hdst) k) Q) := by
  subst hc
  unfold batch
  exact Transfers.wp_waitBatchLast (countersEmb (U := Pipeline.UD sig nD τ)) Variants.none (c : Thread nD τ) none () (N := credit K) rfl
    (credit_pos K) (by omega)

/-! ## The loops that start and that await the copies -/

/-- Row `r` of the slot, and the share of its source that its copy reads by. -/
def row (r : Fin 512) : sProp 𝕄 := bufLoc K c ↦[rowSet K s r]{fullShare} f
def src (r : Fin 512) : sProp 𝕄 := tableLoc K c ↦[srcSet K (pick K w r)]{share s r} h

/-- Before copy `k` is started: the list, the copies under way, and what the others will take. -/
def issueI (k : ℕ) (_ : Unit) : sProp 𝕄 :=
  iprop(owns (c : Thread nD τ) K.list fullShare w ∗ batch K c s w h f k 0 ∗ bigSep (Ring.rangeSet 512 k 512) (row K c s f)
    ∗ bigSep (Ring.rangeSet 512 k 512) (src K c s w h))
/-- Before row `k` is awaited: the waits so far, and the copies, or once all are awaited what they delivered. -/
def drainI (k : ℕ) (_ : Unit) : sProp 𝕄 :=
  iprop((∃ W, owes (c : Thread nD τ) 0 W) ∗ (if k < 512 then batch K c s w h f 512 (k * credit K)
    else iprop(bigSep Finset.univ (deliv K c s w h f) ∗ semVal ((c : Thread nD τ), SemLoc.dma (K.cell s)) 0)))

/-- Reading the word of row `k`. -/
theorem wp_word {α : Type} {Q : α → sProp 𝕄} {off : Fin 1 → Nat} {hb h1 hp} (k : Fin 512) (ho : off = ![k.val])
    {kk : Elt F .i32 → Prog (TpuEff nD τ sig (Elt F) Λ .tc) α} :
    (owns (c : Thread nD τ) K.list fullShare w : sProp 𝕄)
      ⊢ iprop((owns (c : Thread nD τ) K.list fullShare w -∗ wp frame (wpE defs Variants.none (c : Thread nD τ) none) Set.univ (kk (w (ix1 k))) Q)
      -∗ wp frame (wpE defs Variants.none (c : Thread nD τ) none) Set.univ
        (smemLoad K.list (Rect.unit (s := SList) off (![1] : Fin 1 → Nat) hb) h1 hp >>= kk) Q) := by
  unfold owns
  iintro ⟨%b, %hw, H⟩ Hk
  have e : (K.list.access (Rect.unit (s := SList) off (![1] : Fin 1 → Nat) hb)).read (Elt F) b (Shape.Idx.first (h1.symm ▸ Nat.one_pos)) = w (ix1 k) := by
    subst ho hw
    show K.list.view.read (Elt F) b _ = K.list.view.read (Elt F) b _
    congr 1
    funext a
    refine Fin.ext ((Rect.emb_apply _ _ _).trans ?_)
    fin_cases a
    have : ∀ x : (⟨1, ![1]⟩ : Shape).Idx, k.val + 1 * (x 0).val = k.val := fun x => by
      have : (x 0).val < 1 := (x 0).isLt
      omega
    exact this _
  have hl := fun Γ => wp_smemLoadElt (Ix := Unit) (Name := ℕ) (U := Pipeline.UD sig nD τ) (Lvl := ℕ) (Γ := Γ) (sig := sig) (Val := Elt F) (defs := defs) (m := K.list) (r := Rect.unit (s := SList) off (![1] : Fin 1 → Nat) hb) (k := kk) (f := b) (q := fullShare)
    (S := K.list.view.set) (x := Shape.Idx.first (h1.symm ▸ Nat.one_pos)) (Q := Q) Variants.none (c : Thread nD τ) none Set.univ
    (hw := View.loads_smem_one hp h1) (View.set_slice_subset _ _)
  simp only [e] at hl
  iapply (hl _) $$ H
  iintro H
  iapply Hk
  iexists b
  isplitr
  · ipureintro; exact hw
  iexact H

theorem pick_val {w : SList.Idx → Elt F .i32} (hw : ∀ r : Fin 512, (w (ix1 r)).toNat < K.N) (r : Fin 512) : (w (ix1 r)).toNat = (pick K w r).val := by
  have := hw r
  show _ = min _ _; omega

/-- The end of a part: its result is given. -/
theorem wp_give {α : Type} {v : α} {Q : α → sProp 𝕄} :
    Q v ⊢ wp frame (wpE defs Variants.none (c : Thread nD τ) none) Set.univ (Pure.pure v : Prog (TpuEff nD τ sig (Elt F) Λ .tc) α) Q := by
  show _ ⊢ wp frame (wpE defs Variants.none (c : Thread nD τ) none) Set.univ (Prog.ret v : Prog (TpuEff nD τ sig (Elt F) Λ .tc) α) Q
  rw [wp_ret]
  iintro H
  imodintro
  iexact H

theorem word_inb {w : SList.Idx → Elt F .i32} (hw : ∀ r : Fin 512, (w (ix1 r)).toNat < K.N) (r : Fin 512) (a : Fin 2) :
    (![(w (ix1 r)).toNat, 0] : Fin 2 → Nat) a + SRow.size a ≤ (STable K.N).size a := by
  have := hw r
  fin_cases a
  · show (w (ix1 r)).toNat + 1 ≤ K.N; omega
  · show 0 + 1024 ≤ 1024; omega

/-- A trip that reads row `r`'s word and starts its copy. -/
theorem issue_trip (r : Fin 512) {off1 : Fin 1 → Nat} {hb h1 hp} {off : Fin 3 → Nat} {hd} {off' : Fin 2 → Nat} {sem : DmaSem sig} {chk : Prop} {dec : Decidable chk} {hs}
    {hsrc hdst hsem} {kk : Elt F .i32 → Prog (TpuEff nD τ sig (Elt F) Λ .tc) Unit} (hck : chk) (acc : Unit)
    (hkk : kk (w (ix1 r)) = .op (.assume chk dec) fun _ => .op (.enqueueDma (srcRow K off' hs) (.here (dstRow K off hd)) (.dma sem) hsrc hdst hsem) fun _ => pure ⟨⟩)
    (ho1 : off1 = ![r.val]) (ho : off = ![s.val, r.val, 0]) (ho' : off' = ![(pick K w r).val, 0]) (hc : sem = K.cell s) :
    issueI K c s w h f r.val acc ⊢ wp frame (wpE defs Variants.none (c : Thread nD τ) none) Set.univ
      (smemLoad K.list (Rect.unit (s := SList) off1 (![1] : Fin 1 → Nat) hb) h1 hp >>= kk) (issueI K c s w h f (r.val + 1)) := by
  unfold issueI
  rw [Ring.bigSep_rangeSet_head (Φ := row K c s f) r.isLt r.isLt, Ring.bigSep_rangeSet_head (Φ := src K c s w h) r.isLt r.isLt]
  iintro ⟨Hw, HB, ⟨Hr, HR⟩, ⟨Hs, HS⟩⟩
  iapply (wp_word K c w r ho1) $$ Hw
  iintro Hw
  rw [hkk]
  iapply (wp_assume Variants.none (c : Thread nD τ) none Set.univ hck)
  iapply (wp_issue K c s w h f r ho ho' hc) $$ [Hs Hr HB]
  · unfold src row; isplitl [Hs]; · iexact Hs
    isplitl [Hr]; · iexact Hr
    iexact HB
  iintro HB
  iapply wp_give
  isplitl [Hw]; · iexact Hw
  isplitl [HB]; · iexact HB
  isplitl [HR]; · iexact HR
  iexact HS

/-- A trip that awaits a row. -/
theorem drain_trip (n : ℕ) (hn : n < 512) {off : Fin 3 → Nat} {hd} {off' : Fin 2 → Nat} {hs} {sem : DmaSem sig} {hsrc hdst} (acc : Unit)
    (hc : sem = K.cell s) :
    drainI K c s w h f n acc ⊢ wp frame (wpE defs Variants.none (c : Thread nD τ) none) Set.univ
      (.op (.waitDma2 sem (srcRow K off' hs) (dstRow K off hd) hsrc hdst) fun _ => pure ⟨⟩ : Prog (TpuEff nD τ sig (Elt F) Λ .tc) Unit) (drainI K c s w h f (n + 1)) := by
  unfold drainI
  simp only [if_pos hn]
  rcases Nat.lt_or_ge (n + 1) 512 with h1 | h1
  · simp only [if_pos h1]
    iintro ⟨⟨%W, HO⟩, HB⟩
    iapply (wp_await K c s w h f n h1 hc) $$ [HB HO]
    · isplitl [HB] <;> iassumption
    iintro ⟨HB, HO⟩
    iapply wp_give
    isplitl [HO]; · iexists _; iexact HO
    iexact HB
  · simp only [if_neg (Nat.not_lt.mpr h1)]
    obtain rfl : n = 511 := by omega
    iintro ⟨⟨%W, HO⟩, HB⟩
    iapply (wp_awaitLast K c s w h f hc) $$ [HB HO]
    · isplitl [HB] <;> iassumption
    iintro ⟨HD, Hc, HO⟩
    iapply wp_give
    isplitl [HO]; · iexists _; iexact HO
    isplitl [HD]; · iexact HD
    iexact Hc

/-! ## A slot between the loops -/

/-- A slot with no copy under way. -/
def Idle : sProp 𝕄 :=
  iprop((∃ f, bufLoc K c ↦[slotSet K s]{fullShare} f) ∗ semVal ((c : Thread nD τ), SemLoc.dma (K.cell s)) 0 ∗ (tableLoc K c ↦{half s} h))
/-- What the slot's share of the array keeps while the copies are under way. -/
def kept : sProp 𝕄 :=
  iprop((tableLoc K c ↦{Transfers.shareDrop (half s) 512} h)
    ∗ bigSep Finset.univ (fun r : Fin 512 => tableLoc K c ↦[Finset.univ \ srcSet K (pick K w r)]{share s r} h))
/-- A slot whose copies are all under way. -/
def Fly : sProp 𝕄 := iprop(∃ f, batch K c s w h f 512 0 ∗ kept K c s w h)
/-- A slot whose copies have all landed. -/
def Land : sProp 𝕄 :=
  iprop((∃ f, bufLoc K c ↦[slotSet K s]{fullShare} landed K c w h f) ∗ semVal ((c : Thread nD τ), SemLoc.dma (K.cell s)) 0 ∗ (tableLoc K c ↦{half s} h))

/-- The slot's share of the array as the copies' sources and what is kept. -/
theorem src_split : (tableLoc K c ↦{half s} h : sProp 𝕄) ⊣⊢ iprop(bigSep Finset.univ (src K c s w h) ∗ kept K c s w h) := by
  have e1 := Transfers.pointsTo_toks_range (ℓ := tableLoc K c) (S := Finset.univ) (f := h) (Ix := Unit) (Name := ℕ) (U := Pipeline.UD sig nD τ) (Lvl := ℕ) (half s) 512
  rw [← Ring.bigSep_fin_eq_range 512 (fun r : Fin 512 => (tableLoc K c ↦{share s r} h : sProp 𝕄)) _ (fun t ht => rfl)] at e1
  have e2 : (bigSep Finset.univ (fun r : Fin 512 => (tableLoc K c ↦{share s r} h : sProp 𝕄)))
      = iprop(bigSep Finset.univ (src K c s w h) ∗ bigSep Finset.univ (fun r : Fin 512 => tableLoc K c ↦[Finset.univ \ srcSet K (pick K w r)]{share s r} h)) := by
    refine Eq.trans ?_ (BI.bigSep_sep _ _ _)
    congr 1
    funext r
    have e : (tableLoc K c ↦{share s r} h : sProp 𝕄) ⊣⊢ iprop((tableLoc K c ↦[srcSet K (pick K w r)]{share s r} h) ∗ tableLoc K c ↦[Finset.univ \ srcSet K (pick K w r)]{share s r} h) :=
      pointsTo_split_subset (Finset.subset_univ _)
    exact equiv_iff.mp ⟨e.1, e.2⟩
  rw [e2] at e1
  unfold kept
  constructor
  · refine e1.1.trans ?_
    iintro ⟨Hd, Hs, Hr⟩
    isplitl [Hs]; · iexact Hs
    isplitl [Hd] <;> iassumption
  · refine BIBase.Entails.trans ?_ e1.2
    iintro ⟨Hs, Hd, Hr⟩
    isplitl [Hd]; · iexact Hd
    isplitl [Hs] <;> iassumption

theorem batch_start : (semVal ((c : Thread nD τ), SemLoc.dma (K.cell s)) 0 : sProp 𝕄) ⊢ |={Set.univ}=> batch K c s w h f 0 0 := by
  unfold batch
  exact Transfers.batch_alloc' (Lvl := ℕ) (countersEmb (U := Pipeline.UD sig nD τ)) (c : Thread nD τ) () (credit K) (deliv K c s w h f)
theorem rows_of_slot : (bufLoc K c ↦[slotSet K s]{fullShare} f : sProp 𝕄) ⊢ bigSep Finset.univ (row K c s f) :=
  Entails.of_eq (Ring.pointsTo_sub_blocks (ℓ := bufLoc K c) (rowSet K s) (rowSet_disjoint K s) (slotSet K s) (rowSet_cover K s) f)

/-- The copies of a list's rows started, by a loop whose every trip starts one. -/
theorem start {L : Scf.Loop 32} (hL : L.trips = 512) {ok : L.OK} {body : Fin L.trips → Unit → Prog (TpuEff nD τ sig (Elt F) Λ .tc) Unit}
    (step : ∀ f k acc, issueI K c s w h f k.val acc ⊢ wp frame (wpE defs Variants.none (c : Thread nD τ) none) Set.univ (body k acc) (issueI K c s w h f (k.val + 1)))
    {α : Type} {Q : α → sProp 𝕄} {k : Unit → Prog (TpuEff nD τ sig (Elt F) Λ .tc) α} :
    iprop(Idle K c s h ∗ owns (c : Thread nD τ) K.list fullShare w)
      ⊢ iprop((iprop(owns (c : Thread nD τ) K.list fullShare w ∗ Fly K c s w h) -∗ wp frame (wpE defs Variants.none (c : Thread nD τ) none) Set.univ (k ⟨⟩) Q)
        -∗ wp frame (wpE defs Variants.none (c : Thread nD τ) none) Set.univ (Scf.Loop.for L ok ⟨⟩ body >>= k) Q) := by
  unfold Idle
  iintro ⟨⟨⟨%f, Hx⟩, Hc, Hh⟩, Hw⟩ Hcont
  iapply fupd_wp
  imod (batch_start K c s w h f) $$ Hc with HB
  imodintro
  ihave Hh' := (src_split K c s w h).1 $$ Hh
  icases Hh' with ⟨Hs, Hk⟩
  iapply (Scf.wp_for_bind frame (wpE defs Variants.none (c : Thread nD τ) none) Set.univ _ _ _ ok PUnit.unit body (issueI K c s w h f) (step f)) $$ [Hx Hw HB Hs]
  · unfold issueI
    rw [Ring.rangeSet_univ]
    isplitl [Hw]; · iexact Hw
    isplitl [HB]; · iexact HB
    isplitl [Hx]
    · iapply (rows_of_slot K c s f) $$ Hx
    · iexact Hs
  iintro %_ HL
  have hL' : Scf.trips L.lb L.ub L.st = 512 := hL
  rw [hL']
  unfold issueI
  icases HL with ⟨Hw, HB, -, -⟩
  iapply Hcont
  unfold Fly
  isplitl [Hw]; · iexact Hw
  iexists f
  isplitl [HB] <;> iassumption

/-- The copies awaited, by a loop whose every trip awaits one: the slot holds the rows. -/
theorem drain {L : Scf.Loop 32} (hL : L.trips = 512) {ok : L.OK} {body : Fin L.trips → Unit → Prog (TpuEff nD τ sig (Elt F) Λ .tc) Unit}
    (step : ∀ f k acc, drainI K c s w h f k.val acc ⊢ wp frame (wpE defs Variants.none (c : Thread nD τ) none) Set.univ (body k acc) (drainI K c s w h f (k.val + 1)))
    {α : Type} {Q : α → sProp 𝕄} {k : Unit → Prog (TpuEff nD τ sig (Elt F) Λ .tc) α} :
    iprop(Fly K c s w h ∗ ∃ W, owes (c : Thread nD τ) 0 W)
      ⊢ iprop((iprop(Land K c s w h ∗ ∃ W, owes (c : Thread nD τ) 0 W) -∗ wp frame (wpE defs Variants.none (c : Thread nD τ) none) Set.univ (k ⟨⟩) Q)
        -∗ wp frame (wpE defs Variants.none (c : Thread nD τ) none) Set.univ (Scf.Loop.for L ok ⟨⟩ body >>= k) Q) := by
  unfold Fly
  iintro ⟨⟨%f, HB, Hk⟩, HO⟩ Hcont
  iapply (Scf.wp_for_bind frame (wpE defs Variants.none (c : Thread nD τ) none) Set.univ _ _ _ ok PUnit.unit body (drainI K c s w h f) (step f)) $$ [HB HO]
  · unfold drainI
    rw [if_pos (by decide), Nat.zero_mul]
    isplitl [HO]; · iexact HO
    iexact HB
  iintro %_ HL
  have hL' : Scf.trips L.lb L.ub L.st = 512 := hL
  rw [hL']
  unfold drainI
  rw [if_neg (by decide)]
  icases HL with ⟨HO, HD, Hc⟩
  ihave HD' := (show bigSep Finset.univ (deliv K c s w h f) ⊢ iprop(bigSep Finset.univ (fun r => (bufLoc K c ↦[rowSet K s r]{fullShare} landed K c w h f)) ∗ bigSep Finset.univ (src K c s w h))
    from Entails.of_eq (BI.bigSep_sep _ _ _)) $$ HD
  icases HD' with ⟨Hx, Hs⟩
  iapply Hcont
  isplitr [HO]
  · unfold Land
    isplitl [Hx]
    · iexists f
      iapply (Entails.of_eq (Ring.pointsTo_sub_blocks (rowSet K s) (rowSet_disjoint K s) (slotSet K s) (rowSet_cover K s) (landed K c w h f)).symm) $$ Hx
    isplitl [Hc]; · iexact Hc
    iapply (src_split K c s w h).2
    isplitl [Hs] <;> iassumption
  · iexact HO

theorem land_idle : Land K c s w h ⊢ Idle (F := F) K c s h := by
  unfold Land Idle
  iintro ⟨⟨%f, Hx⟩, H⟩
  isplitl [Hx]; · iexists _; iexact Hx
  iexact H

/-- The slots' buffer and the array as two idle slots, and back. -/
theorem idle_split :
    iprop((bufLoc K c ↦[K.buf.view.set]{fullShare} f) ∗ (tableLoc K c ↦{fullShare} h) ∗ semVal ((c : Thread nD τ), SemLoc.dma (K.cell 0)) 0
        ∗ semVal ((c : Thread nD τ), SemLoc.dma (K.cell 1)) 0)
      ⊢ iprop(Idle K c 0 h ∗ Idle (F := F) K c 1 h) := by
  unfold Idle
  iintro ⟨Hx, Hh, H0, H1⟩
  ihave Hx' := (Entails.of_eq ((Ring.pointsTo_sub_blocks (slotSet K) (slotSet_disjoint K) K.buf.view.set (slotSet_cover K) f).trans (Ring.bigSep_fin2 _))) $$ Hx
  icases Hx' with ⟨Hx0, Hx1⟩
  ihave Hh' := (pointsTo_share (PosShare.mem_left_op_right fullShare)).1 $$ Hh
  icases Hh' with ⟨Hh0, Hh1⟩
  isplitl [Hx0 H0 Hh0]
  · isplitl [Hx0]; · iexists f; iexact Hx0
    isplitl [H0]; · iexact H0
    iexact Hh0
  · isplitl [Hx1]; · iexists f; iexact Hx1
    isplitl [H1]; · iexact H1
    iexact Hh1
theorem idle_join :
    iprop(Idle K c 0 h ∗ Idle K c 1 h)
      ⊢ (iprop((∃ f, bufLoc K c ↦[K.buf.view.set]{fullShare} f) ∗ (tableLoc K c ↦{fullShare} h) ∗ semVal ((c : Thread nD τ), SemLoc.dma (K.cell 0)) 0
        ∗ semVal ((c : Thread nD τ), SemLoc.dma (K.cell 1)) 0) : sProp 𝕄) := by
  unfold Idle
  iintro ⟨⟨⟨%f0, Hx0⟩, H0, Hh0⟩, ⟨%f1, Hx1⟩, H1, Hh1⟩
  isplitl [Hx0 Hx1]
  · iapply (Ring.pointsTo_sub_blocks_join_exists (ℓ := bufLoc K c) (q := fullShare) (slotSet K) (slotSet_disjoint K) K.buf.view.set (slotSet_cover K) f0)
    rw [Ring.bigSep_fin2]
    isplitl [Hx0]
    · iexists f0; iexact Hx0
    · iexists f1; iexact Hx1
  isplitl [Hh0 Hh1]
  · iapply (pointsTo_share (PosShare.mem_left_op_right fullShare)).2
    isplitl [Hh0]; · iexact Hh0
    iexact Hh1
  isplitl [H0] <;> iassumption

/-- Loading a rectangle of a slot that holds the rows. -/
theorem wp_loadRows {r : Rect SBuf} {hl} (hr : ∀ y, (r.emb y 0).val = s.val) {α : Type} {Q : α → sProp 𝕄}
    {k : (r.shape.Idx → Elt F .f32) → Prog (TpuEff nD τ sig (Elt F) Λ .tc) α} :
    Land K c s w h
      ⊢ iprop((Land K c s w h -∗ wp frame (wpE defs Variants.none (c : Thread nD τ) none) Set.univ (k fun y => rows K c w h (r.emb y)) Q)
        -∗ wp frame (wpE defs Variants.none (c : Thread nD τ) none) Set.univ (.op (.load K.buf r.toLoadRect hl) k) Q) := by
  unfold Land
  iintro ⟨⟨%f, H⟩, HR⟩ Hk
  have hS : (K.buf.access r).set ⊆ slotSet K s := by
    intro z hz
    obtain ⟨y, -, rfl⟩ := Finset.mem_map.mp hz
    exact Finset.mem_map.mpr ⟨r.emb y, by simpa using hr y, rfl⟩
  iapply (wp_load_rect (m := K.buf) (r := r) (hl := hl) (S := slotSet K s) (q := fullShare) (f := landed K c w h f) Variants.none (c : Thread nD τ) none Set.univ hS) $$ H
  iintro H
  have e : (K.buf.access r).read (Elt F) (landed K c w h f) = fun y => rows K c w h (r.emb y) := by
    funext y
    exact congrFun (View.read_write_univ (v := K.buf.view) f (rows K c w h)) (r.emb y)
  rw [e]
  iapply Hk
  isplitl [H]; · iexists f; iexact H
  iexact HR

/-- A load from a memref held whole. -/
theorem wp_loadO {S : Shape} {e : EltTy} {m : Memref sig .tc .vmem S e} {r : Rect S} {hl} {α : Type} {Q : α → sProp 𝕄} (X : S.Idx → Elt F e)
    {k : (r.shape.Idx → Elt F e) → Prog (TpuEff nD τ sig (Elt F) Λ .tc) α} :
    (owns (c : Thread nD τ) m fullShare X : sProp 𝕄)
      ⊢ iprop((owns (c : Thread nD τ) m fullShare X -∗ wp frame (wpE defs Variants.none (c : Thread nD τ) none) Set.univ (k fun y => X (r.emb y)) Q)
        -∗ wp frame (wpE defs Variants.none (c : Thread nD τ) none) Set.univ (.op (.load m r.toLoadRect hl) k) Q) := by
  unfold owns
  iintro ⟨%b, %hb, H⟩ Hk
  iapply (wp_load_rect (m := m) (r := r) (hl := hl) (S := m.view.set) (q := fullShare) (f := b) Variants.none (c : Thread nD τ) none Set.univ (View.set_slice_subset _ _)) $$ H
  iintro H
  have e : (m.access r).read (Elt F) b = fun y => X (r.emb y) := by subst hb; rfl
  rw [e]
  iapply Hk
  iexists b
  isplitr
  · ipureintro; exact hb
  iexact H

/-! ## Fetching the list -/

/-- The words of a block of the lists' array. -/
def words (X : SBlock.Idx → Elt F .i32) : SList.Idx → Elt F .i32 := fun x => X (ix3 (0 : Fin 1) (0 : Fin 1) (x 0))
theorem block_inb : ∀ a, (![0, 0, 0] : Fin 3 → Nat) a + SBlock.size a ≤ SBlock.size a := by decide
/-- A block of the lists' array, as the copy of its words reads it. -/
abbrev blk (a : Memref sig .tc .vmem SBlock .i32) : Memref sig .tc .vmem SList .i32 :=
  (a.slice (Rect.unit (s := SBlock) ![0, 0, 0] SBlock.size block_inb) (fun _ => rfl)).squeeze SList block_list

theorem blk_set (a : Memref sig .tc .vmem SBlock .i32) : (blk a).view.set ⊆ a.view.set := by
  show (View.reshape _ _ _).set ⊆ _
  rw [View.set_reshape]
  exact View.set_slice_subset _ _
theorem blk_emb (x : SList.Idx) : (Rect.unit (s := SBlock) ![0, 0, 0] SBlock.size block_inb).emb
    (Shape.reshapeEquiv block_list.numel_eq x) = ix3 (0 : Fin 1) (0 : Fin 1) (x 0) := by
  have e : (Shape.reshapeEquiv block_list.numel_eq x : SBlock.Idx) = ix3 (0 : Fin 1) (0 : Fin 1) (x 0) :=
    Shape.reshapeEquiv_eq_of_rowMajor _ (by
      refine (Shape.rowMajor_val_three (d := ![1, 1, 512]) _).trans (Eq.trans ?_ (Shape.rowMajor_val_one (d := ![512]) _).symm)
      show (0 * 1 + 0) * 512 + (x 0).val = (x 0).val
      omega)
  erw [e]
  funext a
  refine Fin.ext ((Rect.emb_apply _ _ _).trans ?_)
  fin_cases a
  · rfl
  · rfl
  · show 0 + 1 * (x 0).val = (x 0).val; omega
theorem blk_read (a : Memref sig .tc .vmem SBlock .i32) (b) (X : SBlock.Idx → Elt F .i32) (hb : a.view.read (Elt F) b = X) :
    (blk a).view.read (Elt F) b = words X := by
  funext x
  subst hb
  show a.view.read (Elt F) b ((Rect.unit (s := SBlock) ![0, 0, 0] SBlock.size block_inb).emb (Shape.reshapeEquiv block_list.numel_eq x)) = _
  rw [blk_emb]
  rfl

/-- What fetching the list takes besides the block, and leaves. -/
def kit : sProp 𝕄 := iprop((∃ v, owns (c : Thread nD τ) K.list fullShare v) ∗ semVal ((c : Thread nD τ), SemLoc.dma K.fetched) 0 ∗ ∃ W, owes (c : Thread nD τ) 0 W)

/-- The list fetched by a copy awaited at once, and the copies of its rows started. -/
theorem launch (a : Memref sig .tc .vmem SBlock .i32) (X : SBlock.Idx → Elt F .i32) {L : Scf.Loop 32} (hL : L.trips = 512) {ok : L.OK}
    {body : Fin L.trips → Unit → Prog (TpuEff nD τ sig (Elt F) Λ .tc) Unit}
    (step : ∀ f k acc, issueI K c s (words X) h f k.val acc
      ⊢ wp frame (wpE defs Variants.none (c : Thread nD τ) none) Set.univ (body k acc) (issueI K c s (words X) h f (k.val + 1)))
    {α : Type} {Q : α → sProp 𝕄} {hs hd ht hs' hd'} {k : Unit → Prog (TpuEff nD τ sig (Elt F) Λ .tc) α} :
    iprop(owns (c : Thread nD τ) a fullShare X ∗ kit K c ∗ Idle K c s h)
      ⊢ iprop((iprop(owns (c : Thread nD τ) a fullShare X ∗ kit K c ∗ Fly K c s (words X) h)
            -∗ wp frame (wpE defs Variants.none (c : Thread nD τ) none) Set.univ (k ⟨⟩) Q)
        -∗ wp frame (wpE defs Variants.none (c : Thread nD τ) none) Set.univ
        (.op (.enqueueDma (blk a) (.here K.list) (.dma K.fetched) hs hd ht) fun _ =>
          .op (.waitDma2 K.fetched (blk a) K.list hs' hd') fun _ => Scf.Loop.for L ok ⟨⟩ body >>= k) Q) := by
  unfold kit
  iintro ⟨Ha, ⟨⟨%v, Hw⟩, Hc, %W, HO⟩, HI⟩ Hk
  unfold owns
  icases Ha with ⟨%b, %hb, Ha⟩
  icases Hw with ⟨%g, -, Hw⟩
  ihave Ha' := (pointsTo_split_subset (blk_set a)).1 $$ Ha
  icases Ha' with ⟨Ha, Hr⟩
  iapply (Transfers.wp_dmaLocal (countersEmb (U := Pipeline.UD sig nD τ)) Variants.none (c : Thread nD τ) none (src := blk a) (via := ReadAs.same) (dst := K.list) (q := fullShare) (fs := b) (fd := g) (Sd := K.list.view.set)
    () (K.list.view.amount (.dma K.fetched)) rfl (K.list.view.amount_pos _ (by decide)) (Finset.Subset.refl _)) $$ [Ha Hw Hc]
  · isplitl [Ha]; · iexact Ha
    isplitl [Hw]; · iexact Hw
    iexact Hc
  iintro HF
  iapply (Transfers.wp_waitLocal (countersEmb (U := Pipeline.UD sig nD τ)) Variants.none (c : Thread nD τ) none () rfl) $$ [HF HO]
  · isplitl [HF] <;> iassumption
  iintro ⟨⟨Hw, Ha⟩, Hc, HO⟩
  iapply (start K c s (words X) h hL step) $$ [HI Hw]
  · isplitl [HI]; · iexact HI
    unfold owns
    iexists _
    isplitr
    swap; · iexact Hw
    ipureintro
    exact (View.read_write_univ _ _).trans (blk_read a b X hb)
  iintro ⟨Hw, HF⟩
  unfold owns
  iapply Hk
  isplitl [Ha Hr]
  · iexists b
    isplitr
    · ipureintro; exact hb
    iapply (pointsTo_split_subset (blk_set a)).2
    isplitl [Ha] <;> iassumption
  isplitr [HF]
  · isplitl [Hw]; · iexists _; iexact Hw
    isplitl [Hc]; · iexact Hc
    iexists _; iexact HO
  · iexact HF

/-! ## The slots over the grid -/

/-- The slot of block `p`. -/
def slot (p : ℕ) : Fin 2 := ⟨p % 2, Nat.mod_lt _ (by decide)⟩
theorem slot_two (p : ℕ) : slot (p + 1 + 1) = slot p := Fin.ext (by show (p + 1 + 1) % 2 = p % 2; omega)

/-- Block `p`'s slot before its point, of `n` points: its copies are under way, unless nothing started them. -/
def At (n p : ℕ) : sProp 𝕄 := if p = 0 ∨ n ≤ p then Idle K c (slot p) h else Fly K c (slot p) w h

/-- Before the first point. -/
theorem at_first (n : ℕ) : (At K c w h n 0 : sProp 𝕄) = Idle K c 0 h := if_pos (.inl rfl)
/-- After the last. -/
theorem at_last (n : ℕ) : (At K c w h n n : sProp 𝕄) = Idle K c (slot n) h := if_pos (.inr (le_refl _))
theorem at_later {n p : ℕ} (h0 : p ≠ 0) (hn : p < n) : (At K c w h n p : sProp 𝕄) = Fly K c (slot p) w h := if_neg (by omega)

/-- A kernel's counter of 512 trips. -/
theorem iv_toNat : ∀ k : Fin 512, (Scf.iv 0#32 1#32 k).toNat = k.val := by decide +kernel
theorem trips_eq : Scf.trips 0#32 (Scalar.addi 0#32 512#32) 1#32 = 512 := by decide +kernel
/-- A grid point's parity, as a kernel computes it. -/
def par (p : ℕ) : BitVec 32 :=
  let d : BitVec 32 := Scalar.select (Scalar.cmpi .eq 2#32 0#32) 1#32 2#32
  let m : BitVec 32 := Scalar.remsi (BitVec.ofNat 32 p) d
  Scalar.select (Scalar.andi (Scalar.xori (Scalar.cmpi .slt m 0#32) (Scalar.cmpi .slt d 0#32)) (Scalar.cmpi .ne m 0#32)) (Scalar.addi m d) m
theorem par_eq : ∀ p : Fin 288, (par p.val).toNat = p.val % 2 := by decide +kernel
theorem par_sub : ∀ p : Fin 288, (Scalar.subi 1#32 (par p.val)).toNat = (p.val + 1) % 2 := by decide +kernel
theorem first_eq : ∀ p : Fin 288, (Scalar.cmpi .ne (Scalar.extui (Scalar.cmpi .eq (BitVec.ofNat 32 p.val) 0#32) : BitVec 32) 0#32 = 1#1) ↔ p.val = 0 := by
  decide +kernel

end Cert.RowGather

end
-- ==== Proof.Body.lean ====
/-
  The gather of the experts' kernel: its loops' trips, and the first and the next block's copies started.
-/
module

public import proofs.«01_k».proof.Proof.RowGather
public import proofs.«01_k».proof.Proof.Gen.ExpertKernelIdeal.Skeleton

@[expose] public section

noncomputable section

namespace Cert.ExpertKernelIdeal.Rows

open Cert.ExpertKernelIdeal Cert.ExpertKernelIdeal.Gen Cert.RowGather
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The cell that the copies into a slot are awaited on. -/
def cell (s : Fin 2) : DmaSem sig := ⟨13 + s.val, by have := s.isLt; show 13 + s.val < 16; omega⟩

theorem sem_eq (off : Fin 1 → Nat) (h) (s : Fin 2) (ho : off = ![s.val]) :
    ((cc0_scratch2.slice (Rect.unit (s := S2) off S1.size h)).squeeze S_ squeezes_S1_S_).sem = cell s := by
  subst ho
  revert h; revert s
  decide

/-- What this kernel's gather works on. -/
@[reducible] def K : Setup sig where
  N := 32768
  pos := by decide
  buf := Memref.whole cc0_scratch0
  table := Memref.whole main_arg2
  list := Memref.whole cc0_scratch1
  cell := cell
  fetched := cc0_scratch3.sem

variable (c : Dev nD) (w : S512.Idx → Elt F .i32) (h : S32768x1024.Idx → Elt F .f32)

theorem cond1_eq (i : grid0.Coords) : k0_cond1 i = 1#1 ↔ (i 0).val = 0 := first_eq (i 0)
theorem next_eq : ∀ p : Fin 288, (Scalar.cmpi .ne (Scalar.extui (Scalar.cmpi .slt (Scalar.addi (BitVec.ofNat 32 p.val) 1#32) 288#32) : BitVec 32) 0#32
    = 1#1) ↔ p.val + 1 < 288 := by
  decide +kernel
theorem cond2_eq (i : grid0.Coords) : k0_cond2 i = 1#1 ↔ (i 0).val + 1 < 288 := next_eq (i 0)

section
variable (i : grid0.Coords) (arg1 : Memref sig .tc .smem S288 .i32) (harg1 : arg1.IsWhole) (arg2 : Memref sig .tc .vmem S1x1x512 .i32) (harg2 : arg2.IsWhole) (arg3 : Memref sig .tc .vmem S1x1x512 .i32) (harg3 : arg3.IsWhole) (arg5 : Memref sig .tc .vmem S1x1024x2048 .bf16) (harg5 : arg5.IsWhole) (arg6 : Memref sig .tc .vmem S1x1x2048 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S512x1024 .f32) (harg9 : arg9.IsWhole)

theorem trip1 (hw : ∀ r : Fin 512, (w (ix1 r)).toNat < 32768) (k0_h1 : k0_cond1 i = 1#1) (f) (k : Fin k0_t1_loop.trips) (acc : Unit) :
    issueI K c 0 w h f k.val acc ⊢ wp frame (wpE defs₀ Variants.none (c : Thread nD τ) none) Set.univ
      (k0_t1_body (F := F) i arg1 harg1 arg2 harg2 arg3 harg3 (Memref.whole main_arg2) (Memref.isWhole_whole _) arg5 harg5 arg6 harg6 arg7 harg7 arg8 harg8 arg9 harg9 (Memref.whole cc0_scratch0) (Memref.isWhole_whole _) (Memref.whole cc0_scratch1) (Memref.isWhole_whole _) cc0_scratch2 cc0_scratch3 k0_h1 k acc) (issueI K c 0 w h f (k.val + 1)) := by
  have hk : k.val < 512 := k.isLt.trans_eq trips_eq
  have hiv : (Scf.iv 0#32 1#32 k.val).toNat = k.val := iv_toNat ⟨k.val, hk⟩
  exact issue_trip K c 0 w h f ⟨k.val, hk⟩ (off := k0_off3 k) (hd := k0_off3_inb i k k0_h1) (off' := k0_off4 (w (ix1 ⟨k.val, hk⟩)))
    (sem := ((cc0_scratch2.slice (Rect.unit (s := S2) ![0] S1.size inb_S2_S1_0)).squeeze S_ squeezes_S1_S_).sem) (chk := k0_chk1 i (w (ix1 ⟨k.val, hk⟩)))
    (dec := k0_chk1.dec i _) (hsrc := View.wordExact_bits rfl) (hdst := (View.wordExact_bits rfl).reshape _ _) (hsem := ⟨Or.inl rfl, trivial⟩) (hs := word_inb K hw ⟨k.val, hk⟩) (fun _ => word_inb K hw ⟨k.val, hk⟩) acc rfl
    (congrArg (fun n => ![n]) hiv) (congrArg (fun n => ![0, n, 0]) hiv) (congrArg (fun n => ![n, 0]) (pick_val K hw _)) (sem_eq _ _ 0 rfl)
theorem trip2 (hw : ∀ r : Fin 512, (w (ix1 r)).toNat < 32768) (k0_h2 : k0_cond2 i = 1#1) (f) (k : Fin k0_t2_loop.trips) (acc : Unit) :
    issueI K c (slot ((i 0).val + 1)) w h f k.val acc ⊢ wp frame (wpE defs₀ Variants.none (c : Thread nD τ) none) Set.univ
      (k0_t2_body (F := F) i arg1 harg1 arg2 harg2 arg3 harg3 (Memref.whole main_arg2) (Memref.isWhole_whole _) arg5 harg5 arg6 harg6 arg7 harg7 arg8 harg8 arg9 harg9 (Memref.whole cc0_scratch0) (Memref.isWhole_whole _) (Memref.whole cc0_scratch1) (Memref.isWhole_whole _) cc0_scratch2 cc0_scratch3 k0_h2 k acc) (issueI K c (slot ((i 0).val + 1)) w h f (k.val + 1)) := by
  have hk : k.val < 512 := k.isLt.trans_eq trips_eq
  have hiv : (Scf.iv 0#32 1#32 k.val).toNat = k.val := iv_toNat ⟨k.val, hk⟩
  exact issue_trip K c (slot ((i 0).val + 1)) w h f ⟨k.val, hk⟩ (off := k0_off7 i k) (hd := k0_off7_inb i k k0_h2) (off' := k0_off8 (w (ix1 ⟨k.val, hk⟩)))
    (sem := ((cc0_scratch2.slice (Rect.unit (s := S2) (k0_off6 i) S1.size (k0_off6_inb i k0_h2))).squeeze S_ squeezes_S1_S_).sem) (chk := k0_chk2 i (w (ix1 ⟨k.val, hk⟩)))
    (dec := k0_chk2.dec i _) (hsrc := View.wordExact_bits rfl) (hdst := (View.wordExact_bits rfl).reshape _ _) (hsem := ⟨Or.inl rfl, trivial⟩) (hs := word_inb K hw ⟨k.val, hk⟩) (fun _ => word_inb K hw ⟨k.val, hk⟩) acc rfl
    (congrArg (fun n => ![n]) hiv) (congrArg₂ (fun m n => ![m, n, 0]) (par_sub (i 0)) hiv) (congrArg (fun n => ![n, 0]) (pick_val K hw _))
    (sem_eq _ _ _ (congrArg (fun n => ![n]) (par_sub (i 0))))
theorem trip3 (f) (k : Fin k0_t3_loop.trips) (acc : Unit) :
    drainI K c (slot (i 0).val) w h f k.val acc ⊢ wp frame (wpE defs₀ Variants.none (c : Thread nD τ) none) Set.univ
      (k0_t3_body (F := F) i arg1 harg1 arg2 harg2 arg3 harg3 (Memref.whole main_arg2) (Memref.isWhole_whole _) arg5 harg5 arg6 harg6 arg7 harg7 arg8 harg8 arg9 harg9 (Memref.whole cc0_scratch0) (Memref.isWhole_whole _) (Memref.whole cc0_scratch1) (Memref.isWhole_whole _) cc0_scratch2 cc0_scratch3 k acc) (drainI K c (slot (i 0).val) w h f (k.val + 1)) :=
  drain_trip K c (slot (i 0).val) w h f k.val (k.isLt.trans_eq trips_eq) acc (sem_eq _ _ _ (congrArg (fun n => ![n]) (par_eq (i 0))))

theorem loop1 : k0_t1_loop.trips = 512 := trips_eq
theorem loop2 : k0_t2_loop.trips = 512 := trips_eq
theorem loop3 : k0_t3_loop.trips = 512 := trips_eq

/-- The first block's copies, started at the first point: from then on every block's are under way when its point comes. -/
theorem first (X : S1x1x512.Idx → Elt F .i32) (hX : ∀ r : Fin 512, (words X (ix1 r)).toNat < 32768) (hw : (i 0).val = 0 → w = words X)
    {α : Type} {Q : α → sProp 𝕄} {hs hd ht hs' hd'} (k : Prog (TpuEff nD τ sig (Elt F) Λ₀ .tc) α) :
    (iprop(owns (c : Thread nD τ) arg2 fullShare X ∗ kit K c ∗ At K c w h 288 (i 0).val) : sProp 𝕄)
      ⊢ iprop((iprop(owns (c : Thread nD τ) arg2 fullShare X ∗ kit K c ∗ Fly K c (slot (i 0).val) w h) -∗ wp frame (wpE defs₀ Variants.none (c : Thread nD τ) none) Set.univ k Q)
        -∗ wp frame (wpE defs₀ Variants.none (c : Thread nD τ) none) Set.univ
          (if k0_h1 : k0_cond1 i = 1#1 then
            .op (.enqueueDma (blk arg2) (.here (Memref.whole cc0_scratch1)) (.dma cc0_scratch3.sem) hs hd ht) fun _ =>
            .op (.waitDma2 cc0_scratch3.sem (blk arg2) (Memref.whole cc0_scratch1) hs' hd') fun _ =>
              Scf.Loop.for k0_t1_loop (k0_t1_ok i k0_h1) ⟨⟩ (k0_t1_body (F := F) i arg1 harg1 arg2 harg2 arg3 harg3 (Memref.whole main_arg2) (Memref.isWhole_whole _) arg5 harg5 arg6 harg6 arg7 harg7 arg8 harg8 arg9 harg9 (Memref.whole cc0_scratch0) (Memref.isWhole_whole _) (Memref.whole cc0_scratch1) (Memref.isWhole_whole _) cc0_scratch2 cc0_scratch3 k0_h1) >>= fun _ => k
          else k) Q) := by
  have hlt : (i 0).val < 288 := (i 0).isLt
  by_cases k0_h1 : k0_cond1 i = 1#1
  · have h0 : (i 0).val = 0 := (cond1_eq i).mp k0_h1
    obtain rfl := hw h0
    rw [dif_pos k0_h1, h0, at_first, show slot 0 = 0 from rfl]
    exact launch K c 0 h arg2 X (L := k0_t1_loop) loop1 (ok := k0_t1_ok i k0_h1) (trip1 c _ h i arg1 harg1 arg2 harg2 arg3 harg3 arg5 harg5 arg6 harg6 arg7 harg7 arg8 harg8 arg9 harg9 hX k0_h1) (hs := hs) (hd := hd) (ht := ht) (hs' := hs') (hd' := hd') (Q := Q) (k := fun _ => k)
  · rw [dif_neg k0_h1, at_later K c w h (fun h0 => k0_h1 ((cond1_eq i).mpr h0)) hlt]
    iintro H Hk
    iapply Hk $$ H

/-- The next block's copies started, where there is a next block. -/
theorem next (X : S1x1x512.Idx → Elt F .i32) (hX : ∀ r : Fin 512, (words X (ix1 r)).toNat < 32768)
    {α : Type} {Q : α → sProp 𝕄} {hs hd ht hs' hd'} (k : Prog (TpuEff nD τ sig (Elt F) Λ₀ .tc) α) :
    (iprop(owns (c : Thread nD τ) arg3 fullShare X ∗ kit K c ∗ Idle K c (slot ((i 0).val + 1)) h) : sProp 𝕄)
      ⊢ iprop((iprop(owns (c : Thread nD τ) arg3 fullShare X ∗ kit K c ∗ At K c (words X) h 288 ((i 0).val + 1)) -∗ wp frame (wpE defs₀ Variants.none (c : Thread nD τ) none) Set.univ k Q)
        -∗ wp frame (wpE defs₀ Variants.none (c : Thread nD τ) none) Set.univ
          (if k0_h2 : k0_cond2 i = 1#1 then
            .op (.enqueueDma (blk arg3) (.here (Memref.whole cc0_scratch1)) (.dma cc0_scratch3.sem) hs hd ht) fun _ =>
            .op (.waitDma2 cc0_scratch3.sem (blk arg3) (Memref.whole cc0_scratch1) hs' hd') fun _ =>
              Scf.Loop.for k0_t2_loop (k0_t2_ok i k0_h2) ⟨⟩ (k0_t2_body (F := F) i arg1 harg1 arg2 harg2 arg3 harg3 (Memref.whole main_arg2) (Memref.isWhole_whole _) arg5 harg5 arg6 harg6 arg7 harg7 arg8 harg8 arg9 harg9 (Memref.whole cc0_scratch0) (Memref.isWhole_whole _) (Memref.whole cc0_scratch1) (Memref.isWhole_whole _) cc0_scratch2 cc0_scratch3 k0_h2) >>= fun _ => k
          else k) Q) := by
  by_cases k0_h2 : k0_cond2 i = 1#1
  · rw [dif_pos k0_h2, at_later K c _ h (Nat.succ_ne_zero _) ((cond2_eq i).mp k0_h2)]
    exact launch K c (slot ((i 0).val + 1)) h arg3 X (L := k0_t2_loop) loop2 (ok := k0_t2_ok i k0_h2) (trip2 c _ h i arg1 harg1 arg2 harg2 arg3 harg3 arg5 harg5 arg6 harg6 arg7 harg7 arg8 harg8 arg9 harg9 hX k0_h2) (hs := hs) (hd := hd) (ht := ht) (hs' := hs') (hd' := hd') (Q := Q) (k := fun _ => k)
  · rw [dif_neg k0_h2, show (At K c (words X) h 288 ((i 0).val + 1) : sProp 𝕄) = Idle K c (slot ((i 0).val + 1)) h from
      if_pos (.inr (Nat.le_of_not_lt fun e => k0_h2 ((cond2_eq i).mpr e)))]
    iintro H Hk
    iapply Hk $$ H

end

end Cert.ExpertKernelIdeal.Rows

end
-- ==== Proof.Tile.lean ====
/-
  The body of the experts' kernel at one grid point, whole: from the copies under way for this block to those for the next, and the
  output's block at the arithmetic of the gathered rows.
-/
module

public import proofs.«01_k».proof.Proof.Body

@[expose] public section

noncomputable section

namespace Cert.ExpertKernelIdeal.Rows

open Cert.ExpertKernelIdeal Cert.ExpertKernelIdeal.Gen Cert.RowGather
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

variable (c : Dev nD) (s : Fin 2) (h : S32768x1024.Idx → Elt F .f32)

/-- The gathered rows, as the kernel loads them. -/
def gath (w : S512.Idx → Elt F .i32) : S1x512x1024.Idx → Elt F .f32 := fun y => h (ix2 (pick K w (y 1)) (y 2))

theorem off11_emb (i : grid0.Coords) (y : S1x512x1024.Idx) :
    (Rect.unit (s := S2x512x1024) (k0_off11 i) S1x512x1024.size (k0_off11_inb i)).emb y = ix3 (slot (i 0).val) (y 1) (y 2) := by
  have e : (k0_off11 i) = ![(i 0).val % 2, 0, 0] := congrArg (fun n => ![n, 0, 0]) (par_eq (i 0))
  funext a
  refine Fin.ext ((Rect.emb_apply _ _ _).trans ?_)
  show k0_off11 i a + 1 * (y a).val = _
  rw [e]
  have : (y 0).val < 1 := (y 0).isLt
  fin_cases a
  · show (i 0).val % 2 + 1 * (y 0).val = (i 0).val % 2; omega
  · show 0 + 1 * (y 1).val = (y 1).val; omega
  · show 0 + 1 * (y 2).val = (y 2).val; omega

/-- Loading the gathered rows. -/
theorem wp_loadX (i : grid0.Coords) (w : S512.Idx → Elt F .i32) {hl} {α : Type} {Q : α → sProp 𝕄}
    {k : (S1x512x1024.Idx → Elt F .f32) → Prog (TpuEff nD τ sig (Elt F) Λ₀ .tc) α} :
    Land K c (slot (i 0).val) w h
      ⊢ iprop((Land K c (slot (i 0).val) w h -∗ wp frame (wpE defs₀ Variants.none (c : Thread nD τ) none) Set.univ (k (gath h w)) Q)
        -∗ wp frame (wpE defs₀ Variants.none (c : Thread nD τ) none) Set.univ
          (.op (.load (Memref.whole cc0_scratch0) (Rect.unit (s := S2x512x1024) (k0_off11 i) S1x512x1024.size (k0_off11_inb i)).toLoadRect hl) k) Q) := by
  have hr : ∀ y, ((Rect.unit (s := S2x512x1024) (k0_off11 i) S1x512x1024.size (k0_off11_inb i)).emb y 0).val = (slot (i 0).val).val := fun y =>
    congrArg (fun z : S2x512x1024.Idx => (z 0).val) (off11_emb i y)
  have e : (fun y : S1x512x1024.Idx => rows (τ := τ) K c w h ((Rect.unit (s := S2x512x1024) (k0_off11 i) S1x512x1024.size (k0_off11_inb i)).emb y)) = gath h w := by
    funext y
    exact congrArg (rows (τ := τ) K c w h) (off11_emb i y)
  rw [← e]
  exact wp_loadRows K c (slot (i 0).val) w h (defs := defs₀) (r := Rect.unit (s := S2x512x1024) (k0_off11 i) S1x512x1024.size (k0_off11_inb i)) (hl := hl) hr (Q := Q) (k := k)

section
variable (i : grid0.Coords) (arg1 : Memref sig .tc .smem S288 .i32) (harg1 : arg1.IsWhole) (arg2 : Memref sig .tc .vmem S1x1x512 .i32) (harg2 : arg2.IsWhole) (arg3 : Memref sig .tc .vmem S1x1x512 .i32) (harg3 : arg3.IsWhole) (arg5 : Memref sig .tc .vmem S1x1024x2048 .bf16) (harg5 : arg5.IsWhole) (arg6 : Memref sig .tc .vmem S1x1x2048 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S512x1024 .f32) (harg9 : arg9.IsWhole)

/-- This block's rows awaited and loaded, and the first of its expert's weights. -/
theorem rest (w : S512.Idx → Elt F .i32) (G : S1x1024x2048.Idx → Elt F .bf16) (B : S1x1x2048.Idx → Elt F .f32)
    {α : Type} {Q : α → sProp 𝕄} {hl hl' hl''} {k : (S1x512x1024.Idx → Elt F .f32) → (S1x1024x512.Idx → Elt F .bf16) → (S1x1x512.Idx → Elt F .f32) → Prog (TpuEff nD τ sig (Elt F) Λ₀ .tc) α} :
    (iprop(Fly K c (slot (i 0).val) w h ∗ (∃ W, owes (c : Thread nD τ) 0 W) ∗ owns (c : Thread nD τ) arg5 fullShare G ∗ owns (c : Thread nD τ) arg6 fullShare B) : sProp 𝕄)
      ⊢ iprop((iprop(Idle K c (slot (i 0).val) h ∗ (∃ W, owes (c : Thread nD τ) 0 W) ∗ owns (c : Thread nD τ) arg5 fullShare G ∗ owns (c : Thread nD τ) arg6 fullShare B)
          -∗ wp frame (wpE defs₀ Variants.none (c : Thread nD τ) none) Set.univ (k (gath h w)
              (fun y => G ((Rect.unit (s := S1x1024x2048) ![0, 0, 0] S1x1024x512.size inb_S1x1024x2048_S1x1024x512_0_0_0).emb y))
              (fun y => B ((Rect.unit (s := S1x1x2048) ![0, 0, 0] S1x1x512.size inb_S1x1x2048_S1x1x512_0_0_0).emb y))) Q)
        -∗ wp frame (wpE defs₀ Variants.none (c : Thread nD τ) none) Set.univ
          (Scf.Loop.for k0_t3_loop k0_t3_ok PUnit.unit (k0_t3_body (F := F) i arg1 harg1 arg2 harg2 arg3 harg3 (Memref.whole main_arg2) (Memref.isWhole_whole _) arg5 harg5 arg6 harg6 arg7 harg7 arg8 harg8 arg9 harg9 (Memref.whole cc0_scratch0) (Memref.isWhole_whole _) (Memref.whole cc0_scratch1) (Memref.isWhole_whole _) cc0_scratch2 cc0_scratch3) >>= fun _ =>
            .op (.load (Memref.whole cc0_scratch0) (Rect.unit (s := S2x512x1024) (k0_off11 i) S1x512x1024.size (k0_off11_inb i)).toLoadRect hl) fun v19 =>
            .op (.load arg5 (Rect.unit (s := S1x1024x2048) ![0, 0, 0] S1x1024x512.size inb_S1x1024x2048_S1x1024x512_0_0_0).toLoadRect hl') fun v22 =>
            .op (.load arg6 (Rect.unit (s := S1x1x2048) ![0, 0, 0] S1x1x512.size inb_S1x1x2048_S1x1x512_0_0_0).toLoadRect hl'') fun v25 => k v19 v22 v25) Q) := by
  iintro ⟨HF, HO, HG, HB⟩ Hk
  iapply (drain K c (slot (i 0).val) w h (L := k0_t3_loop) loop3 (ok := k0_t3_ok) (trip3 c w h i arg1 harg1 arg2 harg2 arg3 harg3 arg5 harg5 arg6 harg6 arg7 harg7 arg8 harg8 arg9 harg9)) $$ [HF HO]
  · isplitl [HF] <;> iassumption
  iintro ⟨HL, HO⟩
  iapply (wp_loadX c h i w) $$ HL
  iintro HL
  iapply (wp_loadO c G) $$ HG
  iintro HG
  iapply (wp_loadO c B) $$ HB
  iintro HB
  iapply Hk
  isplitl [HL]; · iapply (land_idle K c (slot (i 0).val) w h) $$ HL
  isplitl [HO]; · iexact HO
  isplitl [HG] <;> iassumption

theorem part1 (X2 X3 : S1x1x512.Idx → Elt F .i32) (G : S1x1024x2048.Idx → Elt F .bf16) (B : S1x1x2048.Idx → Elt F .f32)
    (w : S512.Idx → Elt F .i32) (hw : (i 0).val = 0 → w = words X2)
    (h2 : ∀ r : Fin 512, (words X2 (ix1 r)).toNat < 32768) (h3 : ∀ r : Fin 512, (words X3 (ix1 r)).toNat < 32768) :
    (iprop(owns (c : Thread nD τ) arg2 fullShare X2 ∗ owns (c : Thread nD τ) arg3 fullShare X3 ∗ kit K c ∗ At K c w h 288 (i 0).val ∗ Idle K c (slot ((i 0).val + 1)) h
        ∗ owns (c : Thread nD τ) arg5 fullShare G ∗ owns (c : Thread nD τ) arg6 fullShare B) : sProp 𝕄)
      ⊢ wp frame (wpE defs₀ Variants.none (c : Thread nD τ) none) Set.univ
        (k0_part1 (F := F) i arg1 harg1 arg2 harg2 arg3 harg3 (Memref.whole main_arg2) (Memref.isWhole_whole _) arg5 harg5 arg6 harg6 arg7 harg7 arg8 harg8 arg9 harg9 (Memref.whole cc0_scratch0) (Memref.isWhole_whole _) (Memref.whole cc0_scratch1) (Memref.isWhole_whole _) cc0_scratch2 cc0_scratch3)
        (fun v => iprop(⌜v = ⟨k0_pay2 (gath h w), k0_pay3 (gath h w)
              (fun y => G ((Rect.unit (s := S1x1024x2048) ![0, 0, 0] S1x1024x512.size inb_S1x1024x2048_S1x1024x512_0_0_0).emb y))
              (fun y => B ((Rect.unit (s := S1x1x2048) ![0, 0, 0] S1x1x512.size inb_S1x1x2048_S1x1x512_0_0_0).emb y))⟩⌝
          ∗ owns (c : Thread nD τ) arg2 fullShare X2 ∗ owns (c : Thread nD τ) arg3 fullShare X3 ∗ kit K c ∗ Idle K c (slot (i 0).val) h ∗ At K c (words X3) h 288 ((i 0).val + 1)
          ∗ owns (c : Thread nD τ) arg5 fullShare G ∗ owns (c : Thread nD τ) arg6 fullShare B)) := by
  rw [k0_part1_eq_skeleton]
  unfold k0_part1_skel
  iintro ⟨H2, H3, HK, HA, HI, HG, HBi⟩
  iapply (first c w h i arg1 harg1 arg2 harg2 arg3 harg3 arg5 harg5 arg6 harg6 arg7 harg7 arg8 harg8 arg9 harg9 X2 h2 hw _) $$ [H2 HK HA]
  · isplitl [H2]; · iexact H2
    isplitl [HK] <;> iassumption
  iintro ⟨H2, HK, HF⟩
  iapply (next c h i arg1 harg1 arg2 harg2 arg3 harg3 arg5 harg5 arg6 harg6 arg7 harg7 arg8 harg8 arg9 harg9 X3 h3 _) $$ [H3 HK HI]
  · isplitl [H3]; · iexact H3
    isplitl [HK] <;> iassumption
  iintro ⟨H3, HK, HA⟩
  unfold kit
  icases HK with ⟨Hw, Hc, HO⟩
  iapply (rest c h i arg1 harg1 arg2 harg2 arg3 harg3 arg5 harg5 arg6 harg6 arg7 harg7 arg8 harg8 arg9 harg9 _ G B) $$ [HF HO HG HBi]
  · isplitl [HF]; · iexact HF
    isplitl [HO]; · iexact HO
    isplitl [HG] <;> iassumption
  iintro ⟨HI, HO, HG, HBi⟩
  iapply (wp_give c)
  isplitr
  · ipureintro; rfl
  isplitl [H2]; · iexact H2
  isplitl [H3]; · iexact H3
  isplitl [Hw Hc HO]
  · isplitl [Hw]; · iexact Hw
    isplitl [Hc] <;> iassumption
  isplitl [HI]; · iexact HI
  isplitl [HA]; · iexact HA
  isplitl [HG] <;> iassumption

/-- The kernel's arithmetic on a block's gathered rows and its expert's weights. -/
def tile (xs : S1x512x1024.Idx → Elt F .f32) (G : S1x1024x2048.Idx → Elt F .bf16) (B : S1x1x2048.Idx → Elt F .f32)
    (D : S1x1024x1024.Idx → Elt F .bf16) (b : S1x1x1024.Idx → Elt F .f32) : S512x1024.Idx → Elt F .f32 :=
  k0_pay1 (k0_pay4 (k0_pay2 xs) (k0_pay3 xs (fun y => G ((Rect.unit (s := S1x1024x2048) ![0, 0, 0] S1x1024x512.size inb_S1x1024x2048_S1x1024x512_0_0_0).emb y)) (fun y => B ((Rect.unit (s := S1x1x2048) ![0, 0, 0] S1x1x512.size inb_S1x1x2048_S1x1x512_0_0_0).emb y)))
      (fun y => G ((Rect.unit (s := S1x1024x2048) ![0, 0, 1024] S1x1024x512.size inb_S1x1024x2048_S1x1024x512_0_0_1024).emb y))
      (fun y => B ((Rect.unit (s := S1x1x2048) ![0, 0, 1024] S1x1x512.size inb_S1x1x2048_S1x1x512_0_0_1024).emb y)) (fun y => D ((Rect.unit (s := S1x1024x1024) ![0, 0, 0] S1x512x1024.size inb_S1x1024x1024_S1x512x1024_0_0_0).emb y)))
    (k0_pay5 (k0_pay2 xs) (fun y => G ((Rect.unit (s := S1x1024x2048) ![0, 0, 512] S1x1024x512.size inb_S1x1024x2048_S1x1024x512_0_0_512).emb y)) (fun y => B ((Rect.unit (s := S1x1x2048) ![0, 0, 512] S1x1x512.size inb_S1x1x2048_S1x1x512_0_0_512).emb y)))
    (k0_pay6 (k0_pay2 xs) (fun y => G ((Rect.unit (s := S1x1024x2048) ![0, 0, 1536] S1x1024x512.size inb_S1x1024x2048_S1x1024x512_0_0_1536).emb y))) (fun y => B ((Rect.unit (s := S1x1x2048) ![0, 0, 1536] S1x1x512.size inb_S1x1x2048_S1x1x512_0_0_1536).emb y))
    (fun y => D ((Rect.unit (s := S1x1024x1024) ![0, 512, 0] S1x512x1024.size inb_S1x1024x1024_S1x512x1024_0_512_0).emb y)) (fun y => b ((Rect.unit (s := S1x1x1024) ![0, 0, 0] S1x1x1024.size inb_S1x1x1024_S1x1x1024_0_0_0).emb y))

theorem store_read (m : Memref sig .tc .vmem S512x1024 .f32) (f : Buf (Elt F) (m.view.loc (c : Thread nD τ))) (v : S512x1024.Idx → Elt F .f32) {hb} :
    m.view.read (Elt F) ((m.access (Rect.unit (s := S512x1024) ![0, 0] S512x1024.size hb)).write (Elt F) f v Finset.univ) = v := by
  have e : ∀ x : S512x1024.Idx, (Rect.unit (s := S512x1024) ![0, 0] S512x1024.size hb).emb x = x := fun x => by
    funext a
    refine Fin.ext ((Rect.emb_apply _ _ _).trans ?_)
    fin_cases a
    · show 0 + 1 * (x 0).val = (x 0).val; omega
    · show 0 + 1 * (x 1).val = (x 1).val; omega
  funext x
  have e1 := congrFun (View.read_write_univ (v := m.access (Rect.unit (s := S512x1024) ![0, 0] S512x1024.size hb)) f v) x
  refine Eq.trans ?_ e1
  show m.view.read (Elt F) _ x = m.view.read (Elt F) _ ((Rect.unit (s := S512x1024) ![0, 0] S512x1024.size hb).emb x)
  rw [e]

theorem body (X2 X3 : S1x1x512.Idx → Elt F .i32) (G : S1x1024x2048.Idx → Elt F .bf16) (B : S1x1x2048.Idx → Elt F .f32)
    (D : S1x1024x1024.Idx → Elt F .bf16) (b : S1x1x1024.Idx → Elt F .f32)
    (w : S512.Idx → Elt F .i32) (hw : (i 0).val = 0 → w = words X2)
    (h2 : ∀ r : Fin 512, (words X2 (ix1 r)).toNat < 32768) (h3 : ∀ r : Fin 512, (words X3 (ix1 r)).toNat < 32768) :
    (iprop(owns (c : Thread nD τ) arg2 fullShare X2 ∗ owns (c : Thread nD τ) arg3 fullShare X3 ∗ owns (c : Thread nD τ) arg5 fullShare G ∗ owns (c : Thread nD τ) arg6 fullShare B
        ∗ owns (c : Thread nD τ) arg7 fullShare D ∗ owns (c : Thread nD τ) arg8 fullShare b ∗ (∃ d, owns (c : Thread nD τ) arg9 fullShare d)
        ∗ kit K c ∗ At K c w h 288 (i 0).val ∗ Idle K c (slot ((i 0).val + 1)) h) : sProp 𝕄)
      ⊢ wp frame (wpE defs₀ Variants.none (c : Thread nD τ) none) Set.univ
        (cc0_experts (F := F) i arg1 harg1 arg2 harg2 arg3 harg3 (Memref.whole main_arg2) (Memref.isWhole_whole _) arg5 harg5 arg6 harg6 arg7 harg7 arg8 harg8 arg9 harg9 (Memref.whole cc0_scratch0) (Memref.isWhole_whole _) (Memref.whole cc0_scratch1) (Memref.isWhole_whole _) cc0_scratch2 cc0_scratch3)
        (fun _ => iprop(owns (c : Thread nD τ) arg2 fullShare X2 ∗ owns (c : Thread nD τ) arg3 fullShare X3 ∗ owns (c : Thread nD τ) arg5 fullShare G ∗ owns (c : Thread nD τ) arg6 fullShare B
          ∗ owns (c : Thread nD τ) arg7 fullShare D ∗ owns (c : Thread nD τ) arg8 fullShare b
          ∗ owns (c : Thread nD τ) arg9 fullShare (tile (gath h w) G B D b)
          ∗ kit K c ∗ Idle K c (slot (i 0).val) h ∗ At K c (words X3) h 288 ((i 0).val + 1))) := by
  rw [cc0_experts_eq_skeleton]
  unfold cc0_experts_skel
  rw [wp_bind]
  iintro ⟨H2, H3, HG, HB, HD, Hb, ⟨%d, Ho⟩, HK, HS, HI⟩
  iapply (wp_wand frame (wpE defs₀ Variants.none (c : Thread nD τ) none) Set.univ) $$ [H2 H3 HG HB HK HS HI]
  · iapply (part1 c h i arg1 harg1 arg2 harg2 arg3 harg3 arg5 harg5 arg6 harg6 arg7 harg7 arg8 harg8 arg9 harg9 X2 X3 G B w hw h2 h3)
    isplitl [H2]; · iexact H2
    isplitl [H3]; · iexact H3
    isplitl [HK]; · iexact HK
    isplitl [HS]; · iexact HS
    isplitl [HI]; · iexact HI
    isplitl [HG] <;> iassumption
  iintro %v ⟨%hv, H2, H3, HK, HS, HI, HG, HB⟩
  subst hv
  rw [k0_part2_eq_skeleton]
  unfold k0_part2_skel
  iapply (wp_loadO c G) $$ HG
  iintro HG
  iapply (wp_loadO c B) $$ HB
  iintro HB
  iapply (wp_loadO c D) $$ HD
  iintro HD
  iapply (wp_loadO c G) $$ HG
  iintro HG
  iapply (wp_loadO c B) $$ HB
  iintro HB
  iapply (wp_loadO c G) $$ HG
  iintro HG
  iapply (wp_loadO c B) $$ HB
  iintro HB
  iapply (wp_loadO c D) $$ HD
  iintro HD
  iapply (wp_loadO c b) $$ Hb
  iintro Hb
  iapply (wp_loadO c d) $$ Ho
  iintro Ho
  unfold owns
  icases Ho with ⟨%f, -, Ho⟩
  iapply (wp_store (m := arg9) (r := Rect.unit (s := S512x1024) ![0, 0] S512x1024.size inb_S512x1024_S512x1024_0_0) (S := arg9.view.set) (f := f) Variants.none (c : Thread nD τ) none Set.univ ((View.setOn_subset_set _ _).trans (View.set_slice_subset _ _))) $$ Ho
  iintro Ho
  iapply (wp_give c)
  isplitl [H2]; · iexact H2
  isplitl [H3]; · iexact H3
  isplitl [HG]; · iexact HG
  isplitl [HB]; · iexact HB
  isplitl [HD]; · iexact HD
  isplitl [Hb]; · iexact Hb
  isplitl [Ho]
  · iexists _
    isplitr
    swap; · iexact Ho
    ipureintro
    exact store_read c _ _ _
  isplitl [HK]; · iexact HK
  isplitl [HS] <;> iassumption

end

end Cert.ExpertKernelIdeal.Rows
-- ==== Proof.Run.lean ====
/-
  The experts' kernel launched: what each window holds, what passes from one grid point to the next, and the run of the whole call.
-/
module

public import proofs.«01_k».proof.Proof.Tile
public import proofs.«01_k».proof.Proof.Gen.ExpertKernelIdeal.Launch
public import Idealize.ShloMosaic.Lib.Pipeline.FrameBody
public import Idealize.ShloMosaic.Lib.Claim
public import Idealize.ShloMosaic.Lib.Pipeline.ValueKit

@[expose] public section

noncomputable section

namespace Cert.ExpertKernelIdeal.Rows

open Cert.ExpertKernelIdeal Cert.ExpertKernelIdeal.Gen Cert.RowGather
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- What a buffer holds at the call's entry. -/
abbrev V (c : Dev nD) (b : Ref sig .tc) : Buf (Elt F) ((c : Thread nD τ).loc b) := m ((c : Thread nD τ).loc b)

/-! ## The table of experts -/

/-- The expert of each block. -/
def table : S288.Idx → BitVec 32 := m (((0 : Dev nD) : Thread nD τ).loc main_arg0)
/-- The token of each row of each block. -/
def rowTable (c : Dev nD) : S288x1x512.Idx → BitVec 32 := m ((c : Thread nD τ).loc main_arg1)
/-- The tokens. -/
def tokens (c : Dev nD) : S32768x1024.Idx → Elt F .f32 := m ((c : Thread nD τ).loc main_arg2)

def pf0 : pre0.Contents (Elt F) := fun k => m (((0 : Dev nD) : Thread nD τ).loc (pre0.ref k))

theorem inb3 {s t : Shape} {v : BitVec 32} {A B : ℕ} (hv : v.toNat < 32) :
    ∀ a : Fin 3, ((![v.toNat, 0, 0] : Fin 3 → ℕ) a + 1) * (![1, A, B] : Fin 3 → ℕ) a ≤ (![32, A, B] : Fin 3 → ℕ) a := fun a => by
  fin_cases a
  · show (v.toNat + 1) * 1 ≤ 32; omega
  · show (0 + 1) * A ≤ A; omega
  · show (0 + 1) * B ≤ B; omega

variable (hT : ∀ x, (table m x).toNat < 32)
include hT in
theorem ok_pf0 : ok0 (pf0 m) := by
  unfold ok0
  refine ⟨fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  · exact inb3 (s := S1) (t := S1) (hT _)
  · exact inb3 (s := S1) (t := S1) (hT _)
  · exact inb3 (s := S1) (t := S1) (hT _)
  · exact inb3 (s := S1) (t := S1) (hT _)

/-- The table as the call reads it, every expert there. -/
def adm : (pcfg0 (F := F)).Adm := ⟨pf0 m, ok_pf0 m hT⟩
abbrev cfgA : Pipeline.Cfg sig Λ₀ := cfg0 (adm m hT)
abbrev pcs : Fin 1 → Pipeline.Cfg sig Λ₀ := Pipeline.pin pcfgs fun _ => adm m hT

/-! ## The kernel's own buffers and semaphores -/

abbrev osem0 : Fin 3 → SemLoc sig := fun j => (![SemLoc.dma (cell 0), SemLoc.dma (cell 1), SemLoc.dma cc0_scratch3.sem] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0
          ∗ semVal ((c : Thread nD τ), SemLoc.dma cc0_scratch3.sem) 0) := by
  rw [Pipeline.ownSems0_eq_of_list c osem0 [0, 1, 2] (by decide) (by decide)]; rfl
/-- The tokens' matrix, read by the kernel's own copies. -/
def H0 : Finset (Ref sig .tc) := {main_arg2}
theorem H0_sub : H0 ⊆ Pipeline.restRefsP sig pre0 spec0 := by decide
theorem H0_eq (c : Dev nD) :
    (bigSep H0 (fun b => ((c : Thread nD τ).loc b) ↦{fullShare} V m c b) : sProp 𝕄) = iprop(tableLoc K c ↦{fullShare} tokens m c) := by
  rw [BI.bigSep_eq_bigSepL_of_eq [main_arg2] (by decide) (by decide)]; rfl

/-! ## Between the points -/

section
variable (c : Dev nD)

/-- The words of a block's rows (of the first block past the last). -/
def wordsOf (p : ℕ) : S512.Idx → BitVec 32 :=
  fun x => rowTable m c (ix3 (⟨p % 288, Nat.mod_lt _ (by decide)⟩ : Fin 288) (0 : Fin 1) (x 0))
/-- What is kept beside the slots: the words' buffer and semaphore, the generator's register, the table. -/
def side : sProp 𝕄 :=
  iprop((∃ v, owns (c : Thread nD τ) K.list fullShare v) ∗ semVal ((c : Thread nD τ), SemLoc.dma K.fetched) 0 ∗ (∃ r, prngReg c r)
    ∗ Pipeline.ΦT pre0 (pf0 m) c)
/-- What holds between the points. -/
def inv (p : ℕ) : sProp 𝕄 := iprop(At K c (wordsOf m c p) (tokens m c) 288 p ∗ Idle K c (slot (p + 1)) (tokens m c) ∗ side m c)

/-- A block's words count only before the last. -/
theorem at_congr {p : ℕ} {w : S512.Idx → BitVec 32} (hw : p < 288 → w = wordsOf m c p) :
    (At K c w (tokens m c) 288 p : sProp 𝕄) = At K c (wordsOf m c p) (tokens m c) 288 p := by
  by_cases h0 : p < 288
  · rw [hw h0]
  · unfold At; rw [if_pos (.inr (by omega)), if_pos (.inr (by omega))]

theorem buf_set : K.buf.view.set = Finset.univ := View.set_whole _
theorem list_owns (v : Buf (Elt F) ((c : Thread nD τ).loc cc0_scratch1)) :
    (owns (c : Thread nD τ) (Memref.whole cc0_scratch1) fullShare v : sProp 𝕄) = ((c : Thread nD τ).loc cc0_scratch1) ↦{fullShare} v :=
  owns_whole (c : Thread nD τ) cc0_scratch1 fullShare v

theorem inv_in : iprop(Pipeline.ΦD osem0 spec0 H0 (V m) c ∗ Pipeline.ΦT pre0 (pf0 m) c) ⊢ (inv m c 0 : sProp 𝕄) := by
  rw [Pipeline.ΦD_eq, scopedRest0_eq, ownSems00_eq, H0_eq]
  unfold inv side
  rw [at_first]
  iintro ⟨⟨⟨⟨%f, Hx⟩, ⟨%v, Hw⟩⟩, Hg, ⟨Hc0, Hc1, Hc2⟩, Hh⟩, HT⟩
  ihave HI := (idle_split K c (tokens m c) f) $$ [Hx Hh Hc0 Hc1]
  · rw [buf_set]
    isplitl [Hx]; · iexact Hx
    isplitl [Hh]; · iexact Hh
    isplitl [Hc0] <;> iassumption
  icases HI with ⟨H0, H1⟩
  isplitl [H0]; · iexact H0
  isplitl [H1]; · iexact H1
  isplitl [Hw]
  · iexists v
    ihave Hv := (Entails.of_eq (list_owns c v).symm) $$ Hw
    iexact Hv
  isplitl [Hc2]; · iexact Hc2
  isplitl [Hg]; · iexact Hg
  iexact HT

theorem inv_out : (inv m c 288 : sProp 𝕄) ⊢ Pipeline.ΦD osem0 spec0 H0 (V m) c := by
  rw [Pipeline.ΦD_eq, scopedRest0_eq, ownSems00_eq, H0_eq]
  unfold inv side
  rw [at_last]
  have HJ := idle_join (τ := τ) K c (tokens m c)
  rw [buf_set] at HJ
  iintro ⟨H0, H1, ⟨%v, Hw⟩, Hc2, Hg, -⟩
  ihave HI := HJ $$ [H0 H1]
  · isplitl [H0]; · iexact H0
    iexact H1
  ihave Hv := (Entails.of_eq (list_owns c v)) $$ Hw
  icases HI with ⟨Hx, Hh, Hc0, Hc1⟩
  isplitl [Hx Hv]
  · isplitl [Hx]; · iexact Hx
    iexists v
    iexact Hv
  isplitl [Hg]; · iexact Hg
  isplitl [Hc0 Hc1 Hc2]
  · isplitl [Hc0]; · iexact Hc0
    isplitl [Hc1] <;> iassumption
  iexact Hh
end

/-! ## The windows -/

/-- A window's block at a point. -/
def blkOf (c : Dev nD) (w : Fin (cfgA m hT).W) (t : Fin (cfgA m hT).N) :
    (((cfgA m hT).win w).xblock ((cfgA m hT).grid.coords t)).Idx → Elt F ((cfgA m hT).win w).elt :=
  (((cfgA m hT).win w).blk t).view.read (Elt F) (V m c (Pipeline.arrRef spec0 w))

/-- The output's block of a point: its rows' tokens through its expert. -/
def outAt (c : Dev nD) (t : Fin (cfgA m hT).N) : S512x1024.Idx → Elt F .f32 :=
  tile (gath (tokens m c) (wordsOf m c t.val)) (blkOf m hT c 2 t) (blkOf m hT c 3 t) (blkOf m hT c 4 t) (blkOf m hT c 5 t)

/-- The proof data of the call. -/
def dats (_ : Fin 1) (c : Dev nD) : Dat τ (Elt F) Unit ℕ (Pipeline.UD sig nD τ) ℕ (cfgA m hT) c where
  A w := V m c (Pipeline.arrRef spec0 w)
  after w t := match w with
    | ⟨0, _⟩ => blkOf m hT c 0 t
    | ⟨1, _⟩ => blkOf m hT c 1 t
    | ⟨2, _⟩ => blkOf m hT c 2 t
    | ⟨3, _⟩ => blkOf m hT c 3 t
    | ⟨4, _⟩ => blkOf m hT c 4 t
    | ⟨5, _⟩ => blkOf m hT c 5 t
    | ⟨6, _⟩ => outAt m hT c t
  Φ t := inv m c t.val
  q w := Pipeline.shareOf spec0 w
  owed _ := 0

theorem A_eq (c : Dev nD) (w : Fin (cfgA m hT).W) : (dats m hT 0 c).A w = V m c (Pipeline.arrRef spec0 w) := by
  dsimp only [dats]
theorem after_0 (c : Dev nD) (t : Fin (cfgA m hT).N) : (dats m hT 0 c).after 0 t = blkOf m hT c 0 t := by dsimp only [dats]; try rfl
theorem after_1 (c : Dev nD) (t : Fin (cfgA m hT).N) : (dats m hT 0 c).after 1 t = blkOf m hT c 1 t := by dsimp only [dats]; try rfl
theorem after_2 (c : Dev nD) (t : Fin (cfgA m hT).N) : (dats m hT 0 c).after 2 t = blkOf m hT c 2 t := by dsimp only [dats]; try rfl
theorem after_3 (c : Dev nD) (t : Fin (cfgA m hT).N) : (dats m hT 0 c).after 3 t = blkOf m hT c 3 t := by dsimp only [dats]; try rfl
theorem after_4 (c : Dev nD) (t : Fin (cfgA m hT).N) : (dats m hT 0 c).after 4 t = blkOf m hT c 4 t := by dsimp only [dats]; try rfl
theorem after_5 (c : Dev nD) (t : Fin (cfgA m hT).N) : (dats m hT 0 c).after 5 t = blkOf m hT c 5 t := by dsimp only [dats]; try rfl
theorem after_6 (c : Dev nD) (t : Fin (cfgA m hT).N) : (dats m hT 0 c).after 6 t = outAt m hT c t := by dsimp only [dats]; try rfl

/-- An input window holds its block at every point. -/
theorem before_of (c : Dev nD) (w : Fin (cfgA m hT).W) (hw : ((cfgA m hT).win w).isOut = false) (hlive : ∀ i, (cfgA m hT).idle w i = false)
    (hclip : ∀ t t' : Fin (cfgA m hT).N, ((cfgA m hT).win w).index t = ((cfgA m hT).win w).index t' →
      ((cfgA m hT).win w).clip ((cfgA m hT).grid.coords t) = ((cfgA m hT).win w).clip ((cfgA m hT).grid.coords t'))
    (hcut : ∀ t, ((cfgA m hT).win w).cut ((cfgA m hT).grid.coords t) ((dats m hT 0 c).after w t) = (dats m hT 0 c).blockOf w t)
    (t : Fin (cfgA m hT).N) (d) : (dats m hT 0 c).before w t d = (dats m hT 0 c).fetched w t d :=
  (dats m hT 0 c).before_in_eq_fetched w hw hlive hclip hcut t d

theorem before_0 (c : Dev nD) (t : Fin (cfgA m hT).N) (d) : (dats m hT 0 c).before 0 t d = blkOf m hT c 0 t :=
  (before_of m hT c 0 rfl (fun _ => rfl) (fun _ _ _ => rfl) (fun t => by rw [after_0]; unfold Dat.blockOf blkOf; rw [A_eq]; try rfl) t d).trans
    (by unfold Dat.fetched Dat.blockOf blkOf; rw [A_eq]; try rfl)
theorem before_1 (c : Dev nD) (t : Fin (cfgA m hT).N) (d) : (dats m hT 0 c).before 1 t d = blkOf m hT c 1 t :=
  (before_of m hT c 1 rfl (fun _ => rfl) (fun _ _ _ => rfl) (fun t => by rw [after_1]; unfold Dat.blockOf blkOf; rw [A_eq]; try rfl) t d).trans
    (by unfold Dat.fetched Dat.blockOf blkOf; rw [A_eq]; try rfl)
theorem before_2 (c : Dev nD) (t : Fin (cfgA m hT).N) (d) : (dats m hT 0 c).before 2 t d = blkOf m hT c 2 t :=
  (before_of m hT c 2 rfl (fun _ => rfl) (fun _ _ _ => rfl) (fun t => by rw [after_2]; unfold Dat.blockOf blkOf; rw [A_eq]; try rfl) t d).trans
    (by unfold Dat.fetched Dat.blockOf blkOf; rw [A_eq]; try rfl)
theorem before_3 (c : Dev nD) (t : Fin (cfgA m hT).N) (d) : (dats m hT 0 c).before 3 t d = blkOf m hT c 3 t :=
  (before_of m hT c 3 rfl (fun _ => rfl) (fun _ _ _ => rfl) (fun t => by rw [after_3]; unfold Dat.blockOf blkOf; rw [A_eq]; try rfl) t d).trans
    (by unfold Dat.fetched Dat.blockOf blkOf; rw [A_eq]; try rfl)
theorem before_4 (c : Dev nD) (t : Fin (cfgA m hT).N) (d) : (dats m hT 0 c).before 4 t d = blkOf m hT c 4 t :=
  (before_of m hT c 4 rfl (fun _ => rfl) (fun _ _ _ => rfl) (fun t => by rw [after_4]; unfold Dat.blockOf blkOf; rw [A_eq]; try rfl) t d).trans
    (by unfold Dat.fetched Dat.blockOf blkOf; rw [A_eq]; try rfl)
theorem before_5 (c : Dev nD) (t : Fin (cfgA m hT).N) (d) : (dats m hT 0 c).before 5 t d = blkOf m hT c 5 t :=
  (before_of m hT c 5 rfl (fun _ => rfl) (fun _ _ _ => rfl) (fun t => by rw [after_5]; unfold Dat.blockOf blkOf; rw [A_eq]; try rfl) t d).trans
    (by unfold Dat.fetched Dat.blockOf blkOf; rw [A_eq]; try rfl)

/-! ## Where the windows stand -/

theorem coord : ∀ t : Fin grid0.N, (grid0.coords t 0).val = t.val := by decide +kernel
theorem next_index : ∀ t : Fin grid0.N, cc0_transform_1 (grid0.coords t) = ![min (t.val + 1) 287, 0, 0] := by decide +kernel
theorem out_index : ∀ t : Fin grid0.N, cc0_transform_7 (grid0.coords t) = ![t.val, 0] := by decide +kernel

/-- The first window stands at the first block's words, -/
theorem words_first (c : Dev nD) (t : Fin (cfgA m hT).N) : words (F := F) (blkOf m hT c 0 t) = wordsOf m c 0 := by
  funext x
  refine congrArg (rowTable m c) ?_
  funext a
  refine Fin.ext ?_
  fin_cases a
  · rfl
  · rfl
  · show 0 * 512 + 1 * (x 0).val = (x 0).val; omega
/-- the second at the next block's. -/
theorem words_next (c : Dev nD) (t : Fin (cfgA m hT).N) : words (F := F) (blkOf m hT c 1 t) = wordsOf m c (min (t.val + 1) 287) := by
  funext x
  refine congrArg (rowTable m c) ?_
  funext a
  refine Fin.ext ?_
  have e := next_index t
  fin_cases a
  · show cc0_transform_1 (grid0.coords t) 0 * 1 + 1 * 0 = min (t.val + 1) 287 % 288
    rw [e]; show min (t.val + 1) 287 * 1 + 1 * 0 = min (t.val + 1) 287 % 288; omega
  · show cc0_transform_1 (grid0.coords t) 1 * 1 + 1 * 0 = 0
    rw [e]; rfl
  · show cc0_transform_1 (grid0.coords t) 2 * 512 + 1 * (x 0).val = (x 0).val
    rw [e]; show 0 * 512 + 1 * (x 0).val = (x 0).val; omega

/-! ## The body at every point, and the run -/

variable (hR : ∀ c x, (rowTable m c x).toNat < 32768)

abbrev ms (w : Fin 7) (t : Fin (cfgA m hT).N) := (spec0 w).stage ((cfgA m hT).slots t w)

def bodyAt (t : Fin (cfgA m hT).N) : Prog (TpuEff nD τ sig (Elt F) Λ₀ .tc) PUnit :=
  cc0_experts (grid0.coords t) (Memref.whole main_arg0) (Memref.isWhole_whole _)
    (spec0_0.stage ((cfgA m hT).slots t 0)) (hstage0_0 (((cfgA m hT).slots t 0).cast nbuf0_0))
    (spec0_1.stage ((cfgA m hT).slots t 1)) (hstage0_1 (((cfgA m hT).slots t 1).cast nbuf0_1))
    (Memref.whole main_arg2) (Memref.isWhole_whole _)
    (spec0_2.stage ((cfgA m hT).slots t 2)) (hstage0_2 (((cfgA m hT).slots t 2).cast nbuf0_2))
    (spec0_3.stage ((cfgA m hT).slots t 3)) (hstage0_3 (((cfgA m hT).slots t 3).cast nbuf0_3))
    (spec0_4.stage ((cfgA m hT).slots t 4)) (hstage0_4 (((cfgA m hT).slots t 4).cast nbuf0_4))
    (spec0_5.stage ((cfgA m hT).slots t 5)) (hstage0_5 (((cfgA m hT).slots t 5).cast nbuf0_5))
    (spec0_6.stage ((cfgA m hT).slots t 6)) (hstage0_6 (((cfgA m hT).slots t 6).cast nbuf0_6))
    (Memref.whole cc0_scratch0) (Memref.isWhole_whole _) (Memref.whole cc0_scratch1) (Memref.isWhole_whole _) cc0_scratch2 cc0_scratch3

def bodyPre (c : Dev nD) (t : Fin (cfgA m hT).N) : sProp 𝕄 :=
  iprop((dats m hT 0 c).Φ t.castSucc ∗ (dats m hT 0 c).owesAt () t.castSucc
    ∗ (∃ d, owns (c : Thread nD τ) (spec0_0.stage ((cfgA m hT).slots t 0)) fullShare ((dats m hT 0 c).before 0 t d))
    ∗ (∃ d, owns (c : Thread nD τ) (spec0_1.stage ((cfgA m hT).slots t 1)) fullShare ((dats m hT 0 c).before 1 t d))
    ∗ (∃ d, owns (c : Thread nD τ) (spec0_2.stage ((cfgA m hT).slots t 2)) fullShare ((dats m hT 0 c).before 2 t d))
    ∗ (∃ d, owns (c : Thread nD τ) (spec0_3.stage ((cfgA m hT).slots t 3)) fullShare ((dats m hT 0 c).before 3 t d))
    ∗ (∃ d, owns (c : Thread nD τ) (spec0_4.stage ((cfgA m hT).slots t 4)) fullShare ((dats m hT 0 c).before 4 t d))
    ∗ (∃ d, owns (c : Thread nD τ) (spec0_5.stage ((cfgA m hT).slots t 5)) fullShare ((dats m hT 0 c).before 5 t d))
    ∗ (∃ d, owns (c : Thread nD τ) (spec0_6.stage ((cfgA m hT).slots t 6)) fullShare ((dats m hT 0 c).before 6 t d)))
def bodyPost (c : Dev nD) (t : Fin (cfgA m hT).N) : sProp 𝕄 :=
  iprop((dats m hT 0 c).Φ t.succ ∗ (dats m hT 0 c).owesAt () t.succ
    ∗ owns (c : Thread nD τ) (spec0_0.stage ((cfgA m hT).slots t 0)) fullShare ((dats m hT 0 c).after 0 t)
    ∗ owns (c : Thread nD τ) (spec0_1.stage ((cfgA m hT).slots t 1)) fullShare ((dats m hT 0 c).after 1 t)
    ∗ owns (c : Thread nD τ) (spec0_2.stage ((cfgA m hT).slots t 2)) fullShare ((dats m hT 0 c).after 2 t)
    ∗ owns (c : Thread nD τ) (spec0_3.stage ((cfgA m hT).slots t 3)) fullShare ((dats m hT 0 c).after 3 t)
    ∗ owns (c : Thread nD τ) (spec0_4.stage ((cfgA m hT).slots t 4)) fullShare ((dats m hT 0 c).after 4 t)
    ∗ owns (c : Thread nD τ) (spec0_5.stage ((cfgA m hT).slots t 5)) fullShare ((dats m hT 0 c).after 5 t)
    ∗ owns (c : Thread nD τ) (spec0_6.stage ((cfgA m hT).slots t 6)) fullShare ((dats m hT 0 c).after 6 t))

include hR in
theorem sound_body (c : Dev nD) (t : Fin (cfgA m hT).N) :
    bodyPre m hT c t ⊢ wp frame (wpE (defs₀ (F := F)) Variants.none (c : Thread nD τ) none) Set.univ (bodyAt m hT t) (fun _ => bodyPost m hT c t) := by
  have ht : t.val < 288 := t.isLt
  have hc := coord t
  have h2 : ∀ r : Fin 512, (words (F := F) (blkOf m hT c 0 t) (ix1 r)).toNat < 32768 := fun r => by rw [words_first]; exact hR _ _
  have h3 : ∀ r : Fin 512, (words (F := F) (blkOf m hT c 1 t) (ix1 r)).toNat < 32768 := fun r => by rw [words_next]; exact hR _ _
  have hw : (grid0.coords t 0).val = 0 → wordsOf m c t.val = words (F := F) (blkOf m hT c 0 t) := fun h0 => by
    rw [words_first, ← hc, h0]
  have eA : (At K c (words (F := F) (blkOf m hT c 1 t)) (tokens m c) 288 (t.val + 1) : sProp 𝕄) = At K c (wordsOf m c (t.val + 1)) (tokens m c) 288 (t.val + 1) :=
    at_congr m c fun h => by rw [words_next, Nat.min_eq_left (by omega)]
  have HB := body c (tokens m c) (grid0.coords t) (Memref.whole main_arg0) (Memref.isWhole_whole _)
    (spec0_0.stage ((cfgA m hT).slots t 0)) (hstage0_0 (((cfgA m hT).slots t 0).cast nbuf0_0)) (spec0_1.stage ((cfgA m hT).slots t 1)) (hstage0_1 (((cfgA m hT).slots t 1).cast nbuf0_1))
    (spec0_2.stage ((cfgA m hT).slots t 2)) (hstage0_2 (((cfgA m hT).slots t 2).cast nbuf0_2)) (spec0_3.stage ((cfgA m hT).slots t 3)) (hstage0_3 (((cfgA m hT).slots t 3).cast nbuf0_3))
    (spec0_4.stage ((cfgA m hT).slots t 4)) (hstage0_4 (((cfgA m hT).slots t 4).cast nbuf0_4)) (spec0_5.stage ((cfgA m hT).slots t 5)) (hstage0_5 (((cfgA m hT).slots t 5).cast nbuf0_5))
    (spec0_6.stage ((cfgA m hT).slots t 6)) (hstage0_6 (((cfgA m hT).slots t 6).cast nbuf0_6))
    (blkOf m hT c 0 t) (blkOf m hT c 1 t) (blkOf m hT c 2 t) (blkOf m hT c 3 t) (blkOf m hT c 4 t) (blkOf m hT c 5 t) (wordsOf m c t.val) hw h2 h3
  rw [hc, eA] at HB
  unfold kit at HB
  unfold bodyPre bodyPost bodyAt
  simp only [before_0, before_1, before_2, before_3, before_4, before_5]
  rw [after_0, after_1, after_2, after_3, after_4, after_5, after_6]
  rw [show (dats m hT 0 c).Φ t.castSucc = inv m c t.val from rfl, show (dats m hT 0 c).Φ t.succ = inv m c (t.val + 1) from rfl]
  unfold Dat.owesAt Pipeline.owesWithin
  rw [show (dats m hT 0 c).owed t.castSucc = 0 from rfl, show (dats m hT 0 c).owed t.succ = 0 from rfl]
  unfold inv side
  rw [slot_two]
  iintro ⟨⟨HA, HI, Hw, Hc, Hg, HT⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (wp_wand frame (wpE defs₀ Variants.none (c : Thread nD τ) none) Set.univ) $$ [HA HI Hw Hc HW H0 H1 H2 H3 H4 H5 H6]
  · iapply HB
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hw Hc HW]
    · isplitl [Hw]; · iexact Hw
      isplitl [Hc]; · iexact Hc
      iexists _; iexact HW
    isplitl [HA]; · iexact HA
    iexact HI
  iintro %v ⟨H0, H1, H2, H3, H4, H5, H6, ⟨Hw, Hc, ⟨%W', HW'⟩⟩, HI, HA⟩
  isplitl [HA HI Hw Hc Hg HT]
  · isplitl [HA]; · iexact HA
    isplitl [HI]; · iexact HI
    isplitl [Hw]; · iexact Hw
    isplitl [Hc]; · iexact Hc
    isplitl [Hg]; · iexact Hg
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfgA m hT).N) :
    defs₀ (F := F) .tc (cfgA m hT).body ((cfgA m hT).bodyArgs t ((cfgA m hT).slots t)) = bodyAt m hT t := by
  unfold defs₀; rw [Defs.onTc_tc]; rfl

include hR in
theorem body_obligation (c : Dev nD) : BodyObligation (dats m hT 0 c) (defs₀ (F := F)) Variants.none () Set.univ := fun t => by
  rw [bigSep_W0, bigSep_W0, defs₀_row]
  exact triple_restated (sound_body m hT hR c t) rfl .rfl fun _ => .rfl

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

include hR in
set_option backward.isDefEq.respectTransparency.types false in
/-- The run of the call: every window's array at what the points left in it, everything else as it was. -/
theorem run : θ_run defs (onTc (τ := τ) (main (F := F))) (s₀ m ρ) (fun r => Pipeline.FramePost (pcs m hT) (dats m hT) 0 (V m) r ∧ r.2.sem = fun _ => 0) :=
  Pipeline.θ_run_frameP_dma_shared (Q' := _) pcfgs (fun _ => adm m hT) (dats m hT) (0 : Fin 1) launch₀0 osem0 defs₀ Variants.none ownSemFacts0 H0 H0_sub m ρ main
    (hbody := fun c => (body_obligation m hT hR c).loose) (hq := fun c w _ => rfl)
    (howed := fun _ _ => rfl) (V := V m) (hmain := hmain m Variants.none) (hA := A_eq m hT)
    (hpf := fun c k => by rw [Subsingleton.elim c 0]; rfl)
    (hin := fun c => inv_in m c) (hout := fun c => inv_out m c)

end Cert.ExpertKernelIdeal.Rows

end
-- ==== Proof.Swiglu.lean ====
/-
  One row of one expert, as a formula: the gated activation of a token by an expert's weights; and the tile the kernel computes, read at
  a row and a column, as that formula.
-/
module

public import proofs.«01_k».proof.Proof.Tile
public import Idealize.ShloMosaic.Lib.Pointwise

@[expose] public section

set_option maxRecDepth 16384

noncomputable section

open Idealize.ShloMosaic Idealize.ShloMosaic.TcCoe Idealize.SL.Sem

namespace Cert.Swiglu

variable (x : Fin 1024 → EReal) (G : Fin 1024 → Fin 2048 → EReal) (B : Fin 2048 → EReal) (D : Fin 1024 → Fin 1024 → EReal) (b : Fin 1024 → EReal)

/-- The token's product with column `f` of the first weights, with its bias. -/
def gu (f : Fin 2048) : EReal := (∑ d, x d * G d f) + B f

/-- The gate `g`, cut at 7 and weighed by its logistic, times the linear part `u`, cut to `[-7, 7]`, plus one. -/
def glu (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + 1)

/-- The gated activation of column `f`: its first half gates, its second half is the linear part. -/
def act (f : Fin 1024) : EReal := glu (gu x G B ⟨f, by omega⟩) (gu x G B ⟨1024 + f, by omega⟩)

/-- The expert's result for the token, at column `l`. -/
def out (l : Fin 1024) : EReal := (∑ f, act x G B f * D f l) + b l

end Cert.Swiglu

namespace Cert.ExpertKernelIdeal.Rows

open Cert.ExpertKernelIdeal Cert.ExpertKernelIdeal.Gen

/-- Where a load of a box of a three-axis array reads. -/
theorem emb3 {a b c a' b' c' o0 o1 o2 : Nat} (h : ∀ k, (![o0, o1, o2] : Fin 3 → Nat) k + (![a', b', c'] : Fin 3 → Nat) k ≤ (⟨3, ![a, b, c]⟩ : Shape).size k) (x : Fin a') (y : Fin b') (z : Fin c')
    (p : Fin a) (q : Fin b) (r : Fin c) (hp : p.val = o0 + x.val) (hq : q.val = o1 + y.val) (hr : r.val = o2 + z.val) :
    (Rect.unit (s := ⟨3, ![a, b, c]⟩) ![o0, o1, o2] ![a', b', c'] h).emb (ix3 x y z) = ix3 p q r := by
  funext k
  refine Fin.ext ((Rect.emb_apply _ _ _).trans ?_)
  fin_cases k
  · show o0 + 1 * x.val = p.val; omega
  · show o1 + 1 * y.val = q.val; omega
  · show o2 + 1 * z.val = r.val; omega

/-- The kernel's tile at a row and a column. -/
theorem tile_row (xs : S1x512x1024.Idx → Elt Ideal .f32) (G : S1x1024x2048.Idx → Elt Ideal .bf16) (B : S1x1x2048.Idx → Elt Ideal .f32)
    (D : S1x1024x1024.Idx → Elt Ideal .bf16) (b : S1x1x1024.Idx → Elt Ideal .f32) (r : Fin 512) (l : Fin 1024) :
    (tile (F := Ideal) xs G B D b (ix2 r l) : EReal)
      = Swiglu.out (fun d => xs (ix3 (0 : Fin 1) r d)) (fun d f => G (ix3 (0 : Fin 1) d f)) (fun f => B (ix3 (0 : Fin 1) (0 : Fin 1) f))
          (fun f l => D (ix3 (0 : Fin 1) f l)) (fun l => b (ix3 (0 : Fin 1) (0 : Fin 1) l)) l := by
  pointwise [tile, k0_pay1, k0_pay2, k0_pay3, k0_pay4, k0_pay5, k0_pay6]
  refine congrArg₂ (· + ·) ((congrArg₂ (· + ·) (Finset.sum_congr rfl fun k _ => ?_) (Finset.sum_congr rfl fun k _ => ?_)).trans
    (Fin.sum_univ_add (a := 512) (b := 512) _).symm) (congrArg b (emb3 _ _ _ _ _ _ _ (by simp) (by simp) (by simp)))
  · refine congrArg₂ (· * ·) (congrArg₂ Swiglu.glu (congrArg₂ (· + ·) (Finset.sum_congr rfl fun d _ => congrArg (xs (ix3 0 r d) * ·) (congrArg G (emb3 _ _ _ _ _ _ _ ?_ ?_ ?_)))
      (congrArg B (emb3 _ _ _ _ _ _ _ ?_ ?_ ?_)))
      (congrArg₂ (· + ·) (Finset.sum_congr rfl fun d _ => congrArg (xs (ix3 0 r d) * ·) (congrArg G (emb3 _ _ _ _ _ _ _ ?_ ?_ ?_)))
      (congrArg B (emb3 _ _ _ _ _ _ _ ?_ ?_ ?_)))) (congrArg D (emb3 _ _ _ _ _ _ _ ?_ ?_ ?_))
    all_goals simp
  · refine congrArg₂ (· * ·) (congrArg₂ Swiglu.glu (congrArg₂ (· + ·) (Finset.sum_congr rfl fun d _ => congrArg (xs (ix3 0 r d) * ·) (congrArg G (emb3 _ _ _ _ _ _ _ ?_ ?_ ?_)))
      (congrArg B (emb3 _ _ _ _ _ _ _ ?_ ?_ ?_)))
      (congrArg₂ (· + ·) (Finset.sum_congr rfl fun d _ => congrArg (xs (ix3 0 r d) * ·) (congrArg G (emb3 _ _ _ _ _ _ _ ?_ ?_ ?_)))
      (congrArg B (emb3 _ _ _ _ _ _ _ ?_ ?_ ?_)))) (congrArg D (emb3 _ _ _ _ _ _ _ ?_ ?_ ?_))
    all_goals simp
    all_goals omega

end Cert.ExpertKernelIdeal.Rows

end
-- ==== Proof.Gathers.lean ====
/-
  The reference's gathers read at an entry: a row of the tokens' table, and an expert's slab of a table of weights.
-/
module

public import Idealize.ShloMosaic.Lib.Pointwise
public import Idealize.ShloMosaic.PureOps.ShapeOps

@[expose] public section

noncomputable section

open Idealize.ShloMosaic

namespace Cert.Gathers

variable {α : Type}

/-- Taking slab `idx[p, 0]` of an `[N, A, B]` table for every `p`. -/
abbrev slabDims (N P A B : Nat) (wf : GatherDims.WF ⟨3, ![N, A, B]⟩ ⟨2, ![P, 1]⟩ ⟨3, ![P, A, B]⟩ [1, 2] [0] [] [0] [] 1 ![1, A, B]) :
    GatherDims ⟨3, ![N, A, B]⟩ ⟨2, ![P, 1]⟩ ⟨3, ![P, A, B]⟩ where
  offsetDims := [1, 2]
  collapsedSliceDims := [0]
  operandBatchingDims := []
  startIndicesBatchingDims := []
  startIndexMap := [0]
  indexVectorDim := 1
  sliceSizes := ![1, A, B]
  wf := wf

/-- The slab taken is the one of the index where the index is in range. -/
theorem slab_apply {N P A B : Nat} (hN : N < 2 ^ 31) (wf) (x : (⟨3, ![N, A, B]⟩ : Shape).Idx → α) (idx : IVec ⟨2, ![P, 1]⟩ 32)
    (p : Fin P) (i : Fin A) (j : Fin B) (e : Fin N) (he : (idx (ix2 p (0 : Fin 1))).toNat = e.val) :
    Host.gather (slabDims N P A B wf) x idx (ix3 p i j) = x (ix3 e i j) := by
  unfold Host.gather
  refine congrArg x (funext fun a => Fin.ext ?_)
  show (slabDims N P A B wf).start (ix3 p i j) idx a + (slabDims N P A B wf).batchCoord (ix3 p i j) a + (slabDims N P A B wf).offCoord (ix3 p i j) a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (slabDims N P A B wf).startIndexMap from List.mem_singleton.mpr rfl)]
    have hsi : (slabDims N P A B wf).siIdx (ix3 p i j) ⟨List.idxOf (0 : Fin 3) (slabDims N P A B wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    have hi : (idx (ix2 p (0 : Fin 1))).toInt.toNat = e.val := by
      rw [BitVec.toInt_eq_toNat_of_lt (by have := e.isLt; omega), he]; rfl
    rw [hsi]
    show min (idx (ix2 p (0 : Fin 1))).toInt.toNat (N - 1) + 0 + 0 = e.val
    have := e.isLt
    omega
  · unfold GatherDims.start
    rw [dif_neg (show (1 : Fin 3) ∉ ([0] : List (Fin 3)) from by decide)]
    show 0 + 0 + i.val = i.val
    omega
  · unfold GatherDims.start
    rw [dif_neg (show (2 : Fin 3) ∉ ([0] : List (Fin 3)) from by decide)]
    show 0 + 0 + j.val = j.val
    omega

/-- Taking row `idx[p, r, 0]` of an `[N, C]` table for every `p` and `r`. -/
abbrev rowDims (N P R C : Nat) (wf : GatherDims.WF ⟨2, ![N, C]⟩ ⟨3, ![P, R, 1]⟩ ⟨3, ![P, R, C]⟩ [2] [0] [] [0] [] 2 ![1, C]) :
    GatherDims ⟨2, ![N, C]⟩ ⟨3, ![P, R, 1]⟩ ⟨3, ![P, R, C]⟩ where
  offsetDims := [2]
  collapsedSliceDims := [0]
  operandBatchingDims := []
  startIndicesBatchingDims := []
  startIndexMap := [0]
  indexVectorDim := 2
  sliceSizes := ![1, C]
  wf := wf

/-- The row taken is the one of the index where the index is in range. -/
theorem row_apply {N P R C : Nat} (hN : N < 2 ^ 31) (wf) (x : (⟨2, ![N, C]⟩ : Shape).Idx → α) (idx : IVec ⟨3, ![P, R, 1]⟩ 32)
    (p : Fin P) (r : Fin R) (j : Fin C) (e : Fin N) (he : (idx (ix3 p r (0 : Fin 1))).toNat = e.val) :
    Host.gather (rowDims N P R C wf) x idx (ix3 p r j) = x (ix2 e j) := by
  unfold Host.gather
  refine congrArg x (funext fun a => Fin.ext ?_)
  show (rowDims N P R C wf).start (ix3 p r j) idx a + (rowDims N P R C wf).batchCoord (ix3 p r j) a + (rowDims N P R C wf).offCoord (ix3 p r j) a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N P R C wf).startIndexMap from List.mem_singleton.mpr rfl)]
    have hsi : (rowDims N P R C wf).siIdx (ix3 p r j) ⟨List.idxOf (0 : Fin 2) (rowDims N P R C wf).startIndexMap,
        List.idxOf_lt_length_iff.2 (List.mem_singleton.mpr rfl)⟩ = ix3 p r (0 : Fin 1) := by
      funext b; refine Fin.ext ?_
      match b with
      | ⟨0, _⟩ => rfl
      | ⟨1, _⟩ => rfl
      | ⟨2, _⟩ => rfl
    have hi : (idx (ix3 p r (0 : Fin 1))).toInt.toNat = e.val := by
      rw [BitVec.toInt_eq_toNat_of_lt (by have := e.isLt; omega), he]; rfl
    rw [hsi]
    show min (idx (ix3 p r (0 : Fin 1))).toInt.toNat (N - 1) + 0 + 0 = e.val
    have := e.isLt
    omega
  · unfold GatherDims.start
    rw [dif_neg (show (1 : Fin 2) ∉ ([0] : List (Fin 2)) from by decide)]
    show 0 + 0 + j.val = j.val
    omega

end Cert.Gathers

end
-- ==== Proof.Reference.lean ====
/-
  The experts' reference: its result, named stage by stage, and read at an entry as the formula of `Swiglu`.
-/
module

public import proofs.«01_k».proof.Proof.Swiglu
public import proofs.«01_k».proof.Proof.Gathers
public import proofs.«01_k».proof.Proof.Gen.ExpertReferenceIdeal.Run

@[expose] public section

set_option maxRecDepth 16384

noncomputable section

open Idealize.ShloMosaic Idealize.ShloMosaic.TcCoe Idealize.SL.Sem

namespace Cert.ExpertReferenceIdeal.Terms

open Cert.ExpertReferenceIdeal Cert.ExpertReferenceIdeal.Gen

variable (A0 : IVec S288 32) (A1 : IVec S288x1x512 32) (A2 : FVec Ideal S32768x1024 .f32) (A3 : FVec Ideal S32x1024x2048 .bf16)
  (A4 : FVec Ideal S32x1x2048 .f32) (A5 : FVec Ideal S32x1024x1024 .bf16) (A6 : FVec Ideal S32x1x1024 .f32)

/-- The rows' tokens, a negative one counted from the end. -/
def rowIdx : IVec S288x512x1 32 :=
  broadcastInDim S288x512x1 ![0, 1] bcast_S288x512_S288x512x1_0_1 (select (cmpi .slt (shapeCast _ A1 shapeCasts_S288x1x512_S288x512) (broadcastInDim S288x512 ![] bcast_S_S288x512 (constantI S_ 32 0#32))) (addi (shapeCast _ A1 shapeCasts_S288x1x512_S288x512) (broadcastInDim S288x512 ![] bcast_S_S288x512 (constantI S_ 32 32768#32))) (shapeCast _ A1 shapeCasts_S288x1x512_S288x512))

/-- The blocks' experts, a negative one counted from the end. -/
def blkIdx : IVec S288x1 32 :=
  broadcastInDim S288x1 ![0] bcast_S288_S288x1_0 (select (cmpi .slt A0 (broadcastInDim S288 ![] bcast_S_S288 (constantI S_ 32 0#32))) (addi A0 (broadcastInDim S288 ![] bcast_S_S288 (constantI S_ 32 32#32))) A0)

/-- The rows the blocks gather, and the four slabs of weights of the blocks' experts. -/
def rows : FVec Ideal S288x512x1024 .f32 := Host.gather gather_S32768x1024_S288x512x1_S288x512x1024_2_0_n_n_0_2_11024 A2 (rowIdx A1)
def upW : FVec Ideal S288x1024x2048 .f32 := Host.gather gather_S32x1024x2048_S288x1_S288x1024x2048_12_0_n_n_0_1_110242048 (extf .f32 A3 bitsLt_bf16_f32) (blkIdx A0)
def upB : FVec Ideal S288x1x2048 .f32 := Host.gather gather_S32x1x2048_S288x1_S288x1x2048_12_0_n_n_0_1_112048 A4 (blkIdx A0)
def downW : FVec Ideal S288x1024x1024 .f32 := Host.gather gather_S32x1024x1024_S288x1_S288x1024x1024_12_0_n_n_0_1_110241024 (extf .f32 A5 bitsLt_bf16_f32) (blkIdx A0)
def downB : FVec Ideal S288x1x1024 .f32 := Host.gather gather_S32x1x1024_S288x1_S288x1x1024_12_0_n_n_0_1_111024 A6 (blkIdx A0)

/-- The first product and its bias, the gate cut at 7, the activation and the second product, of gathered arrays. -/
def first (X : FVec Ideal S288x512x1024 .f32) (W : FVec Ideal S288x1024x2048 .f32) (Bi : FVec Ideal S288x1x2048 .f32) : FVec Ideal S288x512x2048 .f32 :=
  addf (Host.dotGeneral dot_S288x512x1024_S288x1024x2048_S288x512x2048_2_1_1_2_0_0 none X W) (broadcastInDim S288x512x2048 ![0, 1, 2] bcast_S288x1x2048_S288x512x2048_0_1_2 Bi)
def gate (Y : FVec Ideal S288x512x2048 .f32) : FVec Ideal S288x512x1024 .f32 :=
  minimumf (extractStridedSlice S288x512x1024 ![0, 0, 0] Y slices_S288x512x2048_S288x512x1024_0_0_0) (broadcastInDim S288x512x1024 ![] bcast_S_S288x512x1024 (constant S_ .f32 0x40E00000#32))
def active (Y : FVec Ideal S288x512x2048 .f32) : FVec Ideal S288x512x1024 .f32 :=
  mulf (mulf (gate Y) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (gate Y))))))) (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] Y slices_S288x512x2048_S288x512x1024_0_0_1024))) (broadcastInDim S288x512x1024 ![] bcast_S_S288x512x1024 (constant S_ .f32 0x3F800000#32)))
def second (X : FVec Ideal S288x512x1024 .f32) (W : FVec Ideal S288x1024x1024 .f32) (Bi : FVec Ideal S288x1x1024 .f32) : FVec Ideal S288x512x1024 .f32 :=
  addf (Host.dotGeneral dot_S288x512x1024_S288x1024x1024_S288x512x1024_2_1_1_2_0_0 none X W) (broadcastInDim S288x512x1024 ![0, 1, 2] bcast_S288x1x1024_S288x512x1024_0_1_2 Bi)

/-- The reference's result, of its seven arguments. -/
def result : FVec Ideal S147456x1024 .f32 :=
  shapeCast _ (second (active (first (rows A1 A2) (upW A0 A3) (upB A0 A4))) (downW A0 A5) (downB A0 A6)) shapeCasts_S288x512x1024_S147456x1024

/-- What a run of the reference leaves in its result is `result` of the arguments. -/
theorem run_eq (m : (ℓ : Loc nD τ sig) → Buf (Elt Ideal) ℓ) (c : Dev nD) : Value.res_main_v61 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

/-- A word below `2 ^ 31` is not negative: counting it from the end leaves it as it is. -/
theorem wrap {x k : BitVec 32} {n : Nat} (h : x.toNat < n) (hn : n ≤ 2 ^ 31) :
    Scalar.select (IntOp.cmpi .slt x 0#32) (IntOp.addi x k) x = x := by
  have e : IntOp.cmpi .slt x 0#32 = 0#1 := by
    have hx : ¬ x.toInt < 0 := by rw [BitVec.toInt_eq_toNat_of_lt (by omega)]; omega
    simp [IntOp.cmpi, BitVec.slt, hx]
  rw [e]
  rfl

variable (h0 : ∀ x, (A0 x).toNat < 32) (h1 : ∀ x, (A1 x).toNat < 32768)

include h1 in
theorem rowIdx_apply (p : Fin 288) (r : Fin 512) : rowIdx A1 (ix3 p r (0 : Fin 1)) = A1 (ix3 p (0 : Fin 1) r) := by
  pointwise [rowIdx]
  exact wrap (h1 _) (by norm_num)

include h0 in
theorem blkIdx_apply (p : Fin 288) : blkIdx A0 (ix2 p (0 : Fin 1)) = A0 (ix1 p) := by
  pointwise [blkIdx]
  exact wrap (h0 _) (by norm_num)

/-- The stages of gathered arrays, read at an entry. -/
theorem stages_apply (X : FVec Ideal S288x512x1024 .f32) (W : FVec Ideal S288x1024x2048 .f32) (Bi : FVec Ideal S288x1x2048 .f32)
    (W' : FVec Ideal S288x1024x1024 .f32) (Bi' : FVec Ideal S288x1x1024 .f32) (p : Fin 288) (r : Fin 512) (l : Fin 1024) :
    (second (active (first X W Bi)) W' Bi' (ix3 p r l) : EReal)
      = Swiglu.out (fun d => X (ix3 p r d)) (fun d f => W (ix3 p d f)) (fun f => Bi (ix3 p (0 : Fin 1) f)) (fun f l => W' (ix3 p f l))
          (fun l => Bi' (ix3 p (0 : Fin 1) l)) l := by
  pointwise [second, active, gate, first]
  rfl

/-- The token of a row and the expert of a block. -/
def tokenOf (p : Fin 288) (r : Fin 512) : Fin 32768 := ⟨(A1 (ix3 p (0 : Fin 1) r)).toNat, h1 _⟩
def expertOf (p : Fin 288) : Fin 32 := ⟨(A0 (ix1 p)).toNat, h0 _⟩

/-- The reference's result at row `r` of block `p`: the block's expert applied to the row's token. -/
theorem result_apply (p : Fin 288) (r : Fin 512) (l : Fin 1024) :
    (result A0 A1 A2 A3 A4 A5 A6 (ix2 (⟨p.val * 512 + r.val, by omega⟩ : Fin 147456) l) : EReal)
      = Swiglu.out (fun d => A2 (ix2 (tokenOf A1 h1 p r) d)) (fun d f => A3 (ix3 (expertOf A0 h0 p) d f)) (fun f => A4 (ix3 (expertOf A0 h0 p) (0 : Fin 1) f))
          (fun f l => A5 (ix3 (expertOf A0 h0 p) f l)) (fun l => A6 (ix3 (expertOf A0 h0 p) (0 : Fin 1) l)) l := by
  have e : result A0 A1 A2 A3 A4 A5 A6 (ix2 (⟨p.val * 512 + r.val, by omega⟩ : Fin 147456) l)
      = second (active (first (rows A1 A2) (upW A0 A3) (upB A0 A4))) (downW A0 A5) (downB A0 A6) (ix3 p r l) := by
    unfold result
    generalize second (active (first (rows A1 A2) (upW A0 A3) (upB A0 A4))) (downW A0 A5) (downB A0 A6) = Z
    pointwise
  have hb : ((blkIdx A0) (ix2 p (0 : Fin 1))).toNat = (expertOf A0 h0 p).val := by rw [blkIdx_apply A0 h0]; rfl
  have hr : ((rowIdx A1) (ix3 p r (0 : Fin 1))).toNat = (tokenOf A1 h1 p r).val := by rw [rowIdx_apply A1 h1]; rfl
  rw [e, stages_apply]
  congr 1
  · funext d; exact Gathers.row_apply (by norm_num) _ A2 (rowIdx A1) p r d _ hr
  · funext d f; exact Gathers.slab_apply (by norm_num) _ _ (blkIdx A0) p d f _ hb
  · funext f; exact Gathers.slab_apply (by norm_num) _ A4 (blkIdx A0) p 0 f _ hb
  · funext f l; exact Gathers.slab_apply (by norm_num) _ _ (blkIdx A0) p f l _ hb
  · funext l; exact Gathers.slab_apply (by norm_num) _ A6 (blkIdx A0) p 0 l _ hb

end Cert.ExpertReferenceIdeal.Terms

end
-- ==== Proof.Experts.lean ====
/-
  The experts' call: from the run, that its arguments end as they were and what its result holds; and that this is the reference's result.
-/
module

public import proofs.«01_k».proof.Proof.Run
public import proofs.«01_k».proof.Proof.Reference
public import Idealize.ShloMosaic.Lib.Pipeline.Covers

@[expose] public section

set_option maxRecDepth 16384

noncomputable section

open Idealize.ShloMosaic Idealize.ShloMosaic.TcCoe Idealize.SL.Sem

namespace Cert.ExpertKernelIdeal.Rows

open Cert.ExpertKernelIdeal Cert.ExpertKernelIdeal.Gen Cert.RowGather

section
variable {F : FTy → Type} [FloatOps F] (m : (ℓ : Loc nD τ sig) → Buf (Elt F) ℓ) (ρ : Dev nD → PrngReg)
  (hT : ∀ x, (table m x).toNat < 32) (hR : ∀ c x, (rowTable m c x).toNat < 32768)

/-- The arguments end as they were. -/
def Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

theorem args_kept (c : Dev nD) (r : PUnit × MemSt nD τ sig (Elt F)) (h : Pipeline.FramePost (pcs m hT) (dats m hT) 0 (V m) r) : Kept m r c :=
  ⟨(h c).2 main_arg0 (Pipeline.mem_restRefs_of (win := spec0) main_arg0 (by decide) (by decide)),
    ((h c).1 (0 : Fin 7)).trans (((dats m hT 0 c).arrAt_in (0 : Fin 7) rfl _).trans (A_eq m hT c (0 : Fin 7))),
    (h c).2 main_arg2 (Pipeline.mem_restRefs_of (win := spec0) main_arg2 (by decide) (by decide)),
    ((h c).1 (2 : Fin 7)).trans (((dats m hT 0 c).arrAt_in (2 : Fin 7) rfl _).trans (A_eq m hT c (2 : Fin 7))),
    ((h c).1 (3 : Fin 7)).trans (((dats m hT 0 c).arrAt_in (3 : Fin 7) rfl _).trans (A_eq m hT c (3 : Fin 7))),
    ((h c).1 (4 : Fin 7)).trans (((dats m hT 0 c).arrAt_in (4 : Fin 7) rfl _).trans (A_eq m hT c (4 : Fin 7))),
    ((h c).1 (5 : Fin 7)).trans (((dats m hT 0 c).arrAt_in (5 : Fin 7) rfl _).trans (A_eq m hT c (5 : Fin 7)))⟩

include hT hR in
/-- The call runs, its arguments end as they were, and every counter ends at zero. -/
theorem quiet : θ_run (defs (F := F)) (onTc (τ := τ) (main (F := F))) ⟨m, fun _ => 0, ρ⟩ (fun r => (∀ c, Kept m r c) ∧ r.2.sem = fun _ => 0) :=
  (θ_run defs _ _).mono (fun r h => ⟨fun c => args_kept m hT c r h.1, h.2⟩) (run m ρ hT hR)

include hR in
/-- The call runs, and its result is what the points left in it. -/
theorem left : θ_run (defs (F := F)) (onTc (τ := τ) (main (F := F))) ⟨m, fun _ => 0, ρ⟩
    (fun r => ∀ c : Dev nD, r.2.mem ((c.tc : Thread nD τ).loc main_v0) = (dats m hT 0 c).arrAt (6 : Fin 7) (cfgA m hT).N ∧ Kept m r c) :=
  (θ_run defs _ _).mono (fun r h c => ⟨(h.1 c).1 (6 : Fin 7), args_kept m hT c r h.1⟩) (run m ρ hT hR)

/-! ## What the weights' windows hold -/

/-- A point's block, and its expert. -/
def pt (t : Fin grid0.N) : Fin 288 := ⟨t.val, t.isLt.trans_eq (by decide)⟩
def expert (p : Fin 288) : Fin 32 := ⟨(table m (ix1 p)).toNat, hT _⟩

theorem weights_index (t : Fin grid0.N) : cc0_transform_3 k0_off1_inb numel1_S1 (pf0 m) (grid0.coords t) = ![(expert m hT (pt t)).val, 0, 0] := by
  have e : (pf0 m).at 0 (Rect.unit (s := S288) ![(Scalar.indexCast (BitVec.ofNat 32 (grid0.coords t 0).val)).toNat] S1.size (k0_off1_inb (grid0.coords t))) numel1_S1
      = table m (ix1 (pt t)) := by
    refine congrArg (table m) ?_
    funext a
    refine Fin.ext ?_
    fin_cases a
    show (BitVec.ofNat 32 (grid0.coords t 0).val).toNat + 1 * 0 = t.val
    have := (pt t).isLt
    rw [coord t, BitVec.toNat_ofNat, Nat.mod_eq_of_lt (by show t.val < _; have : t.val < 288 := this; omega)]
    omega
  unfold cc0_transform_3
  dsimp only
  rw [e]
  rfl

theorem blk_2 (c : Dev nD) (t : Fin grid0.N) (d : Fin 1024) (f : Fin 2048) :
    blkOf m hT c (2 : Fin 7) t (ix3 (0 : Fin 1) d f) = m ((c : Thread nD τ).loc main_arg3) (ix3 (expert m hT (pt t)) d f) := by
  refine congrArg (m ((c : Thread nD τ).loc main_arg3)) ?_
  funext a
  refine Fin.ext ?_
  have e := weights_index m hT t
  fin_cases a
  · show cc0_transform_3 k0_off1_inb numel1_S1 (pf0 m) (grid0.coords t) 0 * 1 + 1 * 0 = (expert m hT (pt t)).val
    rw [e]; show (expert m hT (pt t)).val * 1 + 1 * 0 = _; omega
  · show cc0_transform_3 k0_off1_inb numel1_S1 (pf0 m) (grid0.coords t) 1 * 1024 + 1 * d.val = d.val
    rw [e]; show 0 * 1024 + 1 * d.val = _; omega
  · show cc0_transform_3 k0_off1_inb numel1_S1 (pf0 m) (grid0.coords t) 2 * 2048 + 1 * f.val = f.val
    rw [e]; show 0 * 2048 + 1 * f.val = _; omega

theorem blk_3 (c : Dev nD) (t : Fin grid0.N) (f : Fin 2048) :
    blkOf m hT c (3 : Fin 7) t (ix3 (0 : Fin 1) (0 : Fin 1) f) = m ((c : Thread nD τ).loc main_arg4) (ix3 (expert m hT (pt t)) (0 : Fin 1) f) := by
  refine congrArg (m ((c : Thread nD τ).loc main_arg4)) ?_
  funext a
  refine Fin.ext ?_
  have e := weights_index m hT t
  fin_cases a
  · show cc0_transform_3 k0_off1_inb numel1_S1 (pf0 m) (grid0.coords t) 0 * 1 + 1 * 0 = (expert m hT (pt t)).val
    rw [e]; show (expert m hT (pt t)).val * 1 + 1 * 0 = _; omega
  · show cc0_transform_3 k0_off1_inb numel1_S1 (pf0 m) (grid0.coords t) 1 * 1 + 1 * 0 = 0
    rw [e]; rfl
  · show cc0_transform_3 k0_off1_inb numel1_S1 (pf0 m) (grid0.coords t) 2 * 2048 + 1 * f.val = f.val
    rw [e]; show 0 * 2048 + 1 * f.val = _; omega

theorem blk_4 (c : Dev nD) (t : Fin grid0.N) (d : Fin 1024) (f : Fin 1024) :
    blkOf m hT c (4 : Fin 7) t (ix3 (0 : Fin 1) d f) = m ((c : Thread nD τ).loc main_arg5) (ix3 (expert m hT (pt t)) d f) := by
  refine congrArg (m ((c : Thread nD τ).loc main_arg5)) ?_
  funext a
  refine Fin.ext ?_
  have e := weights_index m hT t
  fin_cases a
  · show cc0_transform_3 k0_off1_inb numel1_S1 (pf0 m) (grid0.coords t) 0 * 1 + 1 * 0 = (expert m hT (pt t)).val
    rw [e]; show (expert m hT (pt t)).val * 1 + 1 * 0 = _; omega
  · show cc0_transform_3 k0_off1_inb numel1_S1 (pf0 m) (grid0.coords t) 1 * 1024 + 1 * d.val = d.val
    rw [e]; show 0 * 1024 + 1 * d.val = _; omega
  · show cc0_transform_3 k0_off1_inb numel1_S1 (pf0 m) (grid0.coords t) 2 * 1024 + 1 * f.val = f.val
    rw [e]; show 0 * 1024 + 1 * f.val = _; omega

theorem blk_5 (c : Dev nD) (t : Fin grid0.N) (f : Fin 1024) :
    blkOf m hT c (5 : Fin 7) t (ix3 (0 : Fin 1) (0 : Fin 1) f) = m ((c : Thread nD τ).loc main_arg6) (ix3 (expert m hT (pt t)) (0 : Fin 1) f) := by
  refine congrArg (m ((c : Thread nD τ).loc main_arg6)) ?_
  funext a
  refine Fin.ext ?_
  have e := weights_index m hT t
  fin_cases a
  · show cc0_transform_3 k0_off1_inb numel1_S1 (pf0 m) (grid0.coords t) 0 * 1 + 1 * 0 = (expert m hT (pt t)).val
    rw [e]; show (expert m hT (pt t)).val * 1 + 1 * 0 = _; omega
  · show cc0_transform_3 k0_off1_inb numel1_S1 (pf0 m) (grid0.coords t) 1 * 1 + 1 * 0 = 0
    rw [e]; rfl
  · show cc0_transform_3 k0_off1_inb numel1_S1 (pf0 m) (grid0.coords t) 2 * 1024 + 1 * f.val = f.val
    rw [e]; show 0 * 1024 + 1 * f.val = _; omega

include hR in
/-- The gathered rows: each row its token's. -/
theorem gath_row (c : Dev nD) (t : Fin grid0.N) (r : Fin 512) (d : Fin 1024) :
    gath (tokens m c) (wordsOf m c t.val) (ix3 (0 : Fin 1) r d) = tokens m c (ix2 (⟨(rowTable m c (ix3 (pt t) (0 : Fin 1) r)).toNat, hR c _⟩ : Fin 32768) d) := by
  have hp : (⟨t.val % 288, Nat.mod_lt _ (by decide)⟩ : Fin 288) = pt t := Fin.ext (Nat.mod_eq_of_lt (pt t).isLt)
  have hw : wordsOf m c t.val (ix1 r) = rowTable m c (ix3 (pt t) (0 : Fin 1) r) := by
    unfold wordsOf; rw [hp]
    rfl
  unfold gath
  refine congrArg (tokens m c) (congrArg₂ ix2 (Fin.ext ?_) rfl)
  show min (wordsOf m c t.val (ix1 r)).toNat 32767 = _
  rw [hw]
  have := hR c (ix3 (pt t) (0 : Fin 1) r)
  show _ = (rowTable m c (ix3 (pt t) (0 : Fin 1) r)).toNat
  omega

/-- The result's windows cover it. -/
theorem covers : ((cfgA m hT).win (6 : Fin 7)).Covers := by
  refine ⟨(by decide : ∀ a : Fin 2, 0 < (![512, 1024] : Fin 2 → Nat) a), fun β => ?_⟩
  have n0 : ((cfgA m hT).win (6 : Fin 7)).nblk (0 : Fin 2) = 288 := by show (147456 + 512 - 1) / 512 = 288; norm_num
  have n1 : ((cfgA m hT).win (6 : Fin 7)).nblk (1 : Fin 2) = 1 := by show (1024 + 1024 - 1) / 1024 = 1; norm_num
  have h0 : (β (0 : Fin 2)).val < 288 := (β (0 : Fin 2)).isLt.trans_eq n0
  have h1 : (β (1 : Fin 2)).val < 1 := (β (1 : Fin 2)).isLt.trans_eq n1
  obtain ⟨t, -, ht, hi⟩ := Pipeline.Window.exists_flush_same_index ((cfgA m hT).win (6 : Fin 7)) rfl (⟨(β (0 : Fin 2)).val, h0.trans_eq (by decide)⟩ : Fin grid0.N)
  refine ⟨t, ht, fun a => ⟨?_, .inl rfl⟩⟩
  rw [hi]
  refine (congrFun (out_index ⟨(β (0 : Fin 2)).val, h0.trans_eq (by decide)⟩) a).trans ?_
  fin_cases a
  · rfl
  · show 0 = (β (1 : Fin 2)).val; omega

end

/-! ## The result -/

variable (m : (ℓ : Loc nD τ sig) → Buf (Elt Ideal) ℓ)
  (hT : ∀ x, (table m x).toNat < 32) (hR : ∀ c x, (rowTable m c x).toNat < 32768)

include hR in
/-- What the points leave in the result is the reference's result. -/
theorem final (c : Dev nD) : (dats m hT 0 c).arrAt (6 : Fin 7) (cfgA m hT).N
    = ExpertReferenceIdeal.Terms.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m hT 0 c).arrAt_eq_of_covers (6 : Fin 7) _ (covers m hT) fun t _ y => ?_
  rw [after_6]
  obtain ⟨r, l, rfl⟩ : ∃ (r : Fin 512) (l : Fin 1024), y = ix2 r l := ⟨y 0, y 1, eq_ix2 y⟩
  have hy : (((cfgA m hT).win (6 : Fin 7)).blk t).view.emb (ix2 r l) = ix2 (⟨(pt t).val * 512 + r.val, by omega⟩ : Fin 147456) l := by
    funext a
    refine Fin.ext ?_
    have e := out_index t
    fin_cases a
    · show cc0_transform_7 (grid0.coords t) 0 * 512 + 1 * r.val = t.val * 512 + r.val
      rw [e]; show t.val * 512 + 1 * r.val = _; omega
    · show cc0_transform_7 (grid0.coords t) 1 * 1024 + 1 * l.val = l.val
      rw [e]; show 0 * 1024 + 1 * l.val = _; omega
  rw [hy]
  have hc : c = (0 : Dev nD) := Subsingleton.elim _ _
  have h0 : ∀ x, (m ((c : Thread nD τ).loc main_arg0) x).toNat < 32 := by rw [hc]; exact hT
  refine Eq.trans ?_ (ExpertReferenceIdeal.Terms.result_apply _ _ _ _ _ _ _ h0 (hR c) (pt t) r l).symm
  have he : ExpertReferenceIdeal.Terms.expertOf _ h0 (pt t) = expert m hT (pt t) := by subst hc; rfl
  rw [he]
  show (tile (F := Ideal) (gath (tokens m c) (wordsOf m c t.val)) (blkOf m hT c (2 : Fin 7) t) (blkOf m hT c (3 : Fin 7) t) (blkOf m hT c (4 : Fin 7) t) (blkOf m hT c (5 : Fin 7) t) (ix2 r l) : EReal) = _
  rw [tile_row]
  congr 1
  · funext d; exact gath_row m hR c t r d
  · funext d f; exact blk_2 m hT c t d f
  · funext f; exact blk_3 m hT c t f
  · funext d f; exact blk_4 m hT c t d f
  · funext f; exact blk_5 m hT c t f

end Cert.ExpertKernelIdeal.Rows

end
-- ==== Proof.Transfer.lean ====
/-
  The experts' program as it is printed at bits is the program the run was proved for: the same text under another name.
-/
module

public import proofs.«01_k».proof.Proof.Experts
public import proofs.«01_k».proof.Proof.Gen.ExpertKernel

@[expose] public section

set_option maxRecDepth 16384

noncomputable section

open Idealize.ShloMosaic Idealize.ShloMosaic.TcCoe Idealize.SL.Sem

namespace Cert.ExpertKernel.Transfer

open Cert.ExpertKernel Cert.ExpertKernel.Gen

variable {F : FTy → Type} [FloatOps F]

set_option maxHeartbeats 1000000

/-! Part by part, the two programs are equal. -/

theorem part1_eq : @Cert.ExpertKernel.k0_part1 F _ _ = @Cert.ExpertKernelIdeal.k0_part1 F _ _ := by
  delta Cert.ExpertKernel.k0_part1 Cert.ExpertKernelIdeal.k0_part1
  rfl
theorem part2_eq : @Cert.ExpertKernel.k0_part2 F _ _ = @Cert.ExpertKernelIdeal.k0_part2 F _ _ := by
  delta Cert.ExpertKernel.k0_part2 Cert.ExpertKernelIdeal.k0_part2
  rfl

theorem experts_eq : @Cert.ExpertKernel.cc0_experts F _ _ = @Cert.ExpertKernelIdeal.cc0_experts F _ _ := by
  delta Cert.ExpertKernel.cc0_experts Cert.ExpertKernelIdeal.cc0_experts
  rw [part1_eq, part2_eq]
  rfl
theorem defs₀_eq : @Cert.ExpertKernel.defs₀ F _ _ = @Cert.ExpertKernelIdeal.defs₀ F _ _ := by
  delta Cert.ExpertKernel.defs₀ Cert.ExpertKernelIdeal.defs₀
  rw [experts_eq]
  refine congrArg Defs.onTc ?_
  funext p x
  match p, x with
  | ⟨0, _⟩, (t, s) => rfl
theorem main_eq : @Cert.ExpertKernel.main F _ _ = @Cert.ExpertKernelIdeal.main F _ _ := rfl
theorem defs_eq : @Cert.ExpertKernel.defs F _ _ = @Cert.ExpertKernelIdeal.defs F _ _ := by
  delta Cert.ExpertKernel.defs Cert.ExpertKernelIdeal.defs
  rw [defs₀_eq]
  rfl

variable (m : (ℓ : Loc nD τ sig) → Buf (Elt F) ℓ)

/-- So what was proved of the one holds of the other: it runs, its arguments end as they were, every counter ends at zero. -/
theorem quiet (g : Dev nD → PrngReg) (hT : ∀ x, (Cert.ExpertKernelIdeal.Rows.table m x).toNat < 32)
    (hR : ∀ c x, (Cert.ExpertKernelIdeal.Rows.rowTable m c x).toNat < 32768) :
    θ_run (defs (F := F)) (onTc (τ := τ) (main (F := F))) ⟨m, fun _ => 0, g⟩ (fun r => (∀ c, Cert.ExpertKernelIdeal.Rows.Kept m r c) ∧ r.2.sem = fun _ => 0) := by
  rw [defs_eq, main_eq]
  exact Cert.ExpertKernelIdeal.Rows.quiet m g hT hR

end Cert.ExpertKernel.Transfer

end
-- ==== Proof.CombineBody.lean ====
/-
  The body of the combining kernel at one grid point: this block's gathered rows awaited, the next block's copies started, and the
  two outputs' blocks at the arithmetic of the rows, the gates and the carried values.
-/
module

public import proofs.«01_k».proof.Proof.RowGather
public import proofs.«01_k».proof.Proof.Gen.CombineKernelIdeal.Skeleton

@[expose] public section

noncomputable section

namespace Cert.CombineKernelIdeal.Body

open Cert.CombineKernelIdeal Cert.CombineKernelIdeal.Gen Cert.RowGather
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The cell that the copies into a slot are awaited on. -/
def cell (s : Fin 2) : DmaSem sig := ⟨13 + s.val, by have := s.isLt; show 13 + s.val < 16; omega⟩

theorem sem_eq (off : Fin 1 → Nat) (h) (s : Fin 2) (ho : off = ![s.val]) :
    ((cc0_scratch2.slice (Rect.unit (s := S2) off S1.size h)).squeeze S_ squeezes_S1_S_).sem = cell s := by
  subst ho
  revert h; revert s
  decide

/-- What this kernel's gather works on. -/
@[reducible] def K : Setup sig where
  N := 147456
  pos := by decide
  buf := Memref.whole cc0_scratch0
  table := Memref.whole main_arg1
  list := Memref.whole cc0_scratch1
  cell := cell
  fetched := cc0_scratch3.sem

variable (c : Dev nD) (w : S512.Idx → Elt F .i32) (h : S147456x1024.Idx → Elt F .f32)

/-- A grid point as a number below the bound of the facts about the kernels' counters. -/
def pt (i : grid0.Coords) : Fin 288 := ⟨(i 0).val, lt_of_lt_of_le (i 0).isLt (by decide)⟩
theorem cond1_eq (i : grid0.Coords) : k0_cond1 i = 1#1 ↔ (i 0).val = 0 := first_eq (pt i)
theorem next_eq : ∀ p : Fin 256, (Scalar.cmpi .ne (Scalar.extui (Scalar.cmpi .slt (Scalar.addi (BitVec.ofNat 32 p.val) 1#32) 256#32) : BitVec 32) 0#32
    = 1#1) ↔ p.val + 1 < 256 := by
  decide +kernel
theorem cond2_eq (i : grid0.Coords) : k0_cond2 i = 1#1 ↔ (i 0).val + 1 < 256 := next_eq (i 0)

section
variable (i : grid0.Coords) (arg1 : Memref sig .tc .vmem S1x1x512 .i32) (harg1 : arg1.IsWhole) (arg2 : Memref sig .tc .vmem S1x1x512 .i32) (harg2 : arg2.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole) (arg9 : Memref sig .tc .vmem S128x1024 .bf16) (harg9 : arg9.IsWhole)

theorem trip1 (hw : ∀ r : Fin 512, (w (ix1 r)).toNat < 147456) (k0_h1 : k0_cond1 i = 1#1) (f) (k : Fin k0_t1_loop.trips) (acc : Unit) :
    issueI K c 0 w h f k.val acc ⊢ wp frame (wpE defs₀ Variants.none (c : Thread nD τ) none) Set.univ
      (k0_t1_body (F := F) i arg1 harg1 arg2 harg2 (Memref.whole main_arg1) (Memref.isWhole_whole _) arg4 harg4 arg5 harg5 arg6 harg6 arg7 harg7 arg8 harg8 arg9 harg9 (Memref.whole cc0_scratch0) (Memref.isWhole_whole _) (Memref.whole cc0_scratch1) (Memref.isWhole_whole _) cc0_scratch2 cc0_scratch3 k0_h1 k acc) (issueI K c 0 w h f (k.val + 1)) := by
  have hk : k.val < 512 := k.isLt.trans_eq trips_eq
  have hiv : (Scf.iv 0#32 1#32 k.val).toNat = k.val := iv_toNat ⟨k.val, hk⟩
  exact issue_trip K c 0 w h f ⟨k.val, hk⟩ (off := k0_off2 k) (hd := k0_off2_inb i k k0_h1) (off' := k0_off3 (w (ix1 ⟨k.val, hk⟩)))
    (sem := ((cc0_scratch2.slice (Rect.unit (s := S2) ![0] S1.size inb_S2_S1_0)).squeeze S_ squeezes_S1_S_).sem) (chk := k0_chk1 i (w (ix1 ⟨k.val, hk⟩)))
    (dec := k0_chk1.dec i _) (hsrc := View.wordExact_bits rfl) (hdst := (View.wordExact_bits rfl).reshape _ _) (hsem := ⟨Or.inl rfl, trivial⟩) (hs := word_inb K hw ⟨k.val, hk⟩) (fun _ => word_inb K hw ⟨k.val, hk⟩) acc rfl
    (congrArg (fun n => ![n]) hiv) (congrArg (fun n => ![0, n, 0]) hiv) (congrArg (fun n => ![n, 0]) (pick_val K hw _)) (sem_eq _ _ 0 rfl)
theorem trip2 (hw : ∀ r : Fin 512, (w (ix1 r)).toNat < 147456) (k0_h2 : k0_cond2 i = 1#1) (f) (k : Fin k0_t2_loop.trips) (acc : Unit) :
    issueI K c (slot ((i 0).val + 1)) w h f k.val acc ⊢ wp frame (wpE defs₀ Variants.none (c : Thread nD τ) none) Set.univ
      (k0_t2_body (F := F) i arg1 harg1 arg2 harg2 (Memref.whole main_arg1) (Memref.isWhole_whole _) arg4 harg4 arg5 harg5 arg6 harg6 arg7 harg7 arg8 harg8 arg9 harg9 (Memref.whole cc0_scratch0) (Memref.isWhole_whole _) (Memref.whole cc0_scratch1) (Memref.isWhole_whole _) cc0_scratch2 cc0_scratch3 k0_h2 k acc) (issueI K c (slot ((i 0).val + 1)) w h f (k.val + 1)) := by
  have hk : k.val < 512 := k.isLt.trans_eq trips_eq
  have hiv : (Scf.iv 0#32 1#32 k.val).toNat = k.val := iv_toNat ⟨k.val, hk⟩
  exact issue_trip K c (slot ((i 0).val + 1)) w h f ⟨k.val, hk⟩ (off := k0_off6 i k) (hd := k0_off6_inb i k k0_h2) (off' := k0_off7 (w (ix1 ⟨k.val, hk⟩)))
    (sem := ((cc0_scratch2.slice (Rect.unit (s := S2) (k0_off5 i) S1.size (k0_off5_inb i k0_h2))).squeeze S_ squeezes_S1_S_).sem) (chk := k0_chk2 i (w (ix1 ⟨k.val, hk⟩)))
    (dec := k0_chk2.dec i _) (hsrc := View.wordExact_bits rfl) (hdst := (View.wordExact_bits rfl).reshape _ _) (hsem := ⟨Or.inl rfl, trivial⟩) (hs := word_inb K hw ⟨k.val, hk⟩) (fun _ => word_inb K hw ⟨k.val, hk⟩) acc rfl
    (congrArg (fun n => ![n]) hiv) (congrArg₂ (fun m n => ![m, n, 0]) (par_sub (pt i)) hiv) (congrArg (fun n => ![n, 0]) (pick_val K hw _))
    (sem_eq _ _ _ (congrArg (fun n => ![n]) (par_sub (pt i))))
theorem trip3 (f) (k : Fin k0_t3_loop.trips) (acc : Unit) :
    drainI K c (slot (i 0).val) w h f k.val acc ⊢ wp frame (wpE defs₀ Variants.none (c : Thread nD τ) none) Set.univ
      (k0_t3_body (F := F) i arg1 harg1 arg2 harg2 (Memref.whole main_arg1) (Memref.isWhole_whole _) arg4 harg4 arg5 harg5 arg6 harg6 arg7 harg7 arg8 harg8 arg9 harg9 (Memref.whole cc0_scratch0) (Memref.isWhole_whole _) (Memref.whole cc0_scratch1) (Memref.isWhole_whole _) cc0_scratch2 cc0_scratch3 k acc) (drainI K c (slot (i 0).val) w h f (k.val + 1)) :=
  drain_trip K c (slot (i 0).val) w h f k.val (k.isLt.trans_eq trips_eq) acc (sem_eq _ _ _ (congrArg (fun n => ![n]) (par_eq (pt i))))

theorem loop1 : k0_t1_loop.trips = 512 := trips_eq
theorem loop2 : k0_t2_loop.trips = 512 := trips_eq
theorem loop3 : k0_t3_loop.trips = 512 := trips_eq

/-- The first block's copies, started at the first point: from then on every block's are under way when its point comes. -/
theorem first (X : S1x1x512.Idx → Elt F .i32) (hX : ∀ r : Fin 512, (words X (ix1 r)).toNat < 147456) (hw : (i 0).val = 0 → w = words X)
    {α : Type} {Q : α → sProp 𝕄} {hs hd ht hs' hd'} (k : Prog (TpuEff nD τ sig (Elt F) Λ₀ .tc) α) :
    (iprop(owns (c : Thread nD τ) arg1 fullShare X ∗ kit K c ∗ At K c w h 256 (i 0).val) : sProp 𝕄)
      ⊢ iprop((iprop(owns (c : Thread nD τ) arg1 fullShare X ∗ kit K c ∗ Fly K c (slot (i 0).val) w h) -∗ wp frame (wpE defs₀ Variants.none (c : Thread nD τ) none) Set.univ k Q)
        -∗ wp frame (wpE defs₀ Variants.none (c : Thread nD τ) none) Set.univ
          (if k0_h1 : k0_cond1 i = 1#1 then
            .op (.enqueueDma (blk arg1) (.here (Memref.whole cc0_scratch1)) (.dma cc0_scratch3.sem) hs hd ht) fun _ =>
            .op (.waitDma2 cc0_scratch3.sem (blk arg1) (Memref.whole cc0_scratch1) hs' hd') fun _ =>
              Scf.Loop.for k0_t1_loop (k0_t1_ok i k0_h1) ⟨⟩ (k0_t1_body (F := F) i arg1 harg1 arg2 harg2 (Memref.whole main_arg1) (Memref.isWhole_whole _) arg4 harg4 arg5 harg5 arg6 harg6 arg7 harg7 arg8 harg8 arg9 harg9 (Memref.whole cc0_scratch0) (Memref.isWhole_whole _) (Memref.whole cc0_scratch1) (Memref.isWhole_whole _) cc0_scratch2 cc0_scratch3 k0_h1) >>= fun _ => k
          else k) Q) := by
  have hlt : (i 0).val < 256 := (i 0).isLt
  by_cases k0_h1 : k0_cond1 i = 1#1
  · have h0 : (i 0).val = 0 := (cond1_eq i).mp k0_h1
    obtain rfl := hw h0
    rw [dif_pos k0_h1, h0, at_first, show slot 0 = 0 from rfl]
    exact launch K c 0 h arg1 X (L := k0_t1_loop) loop1 (ok := k0_t1_ok i k0_h1) (trip1 c _ h i arg1 harg1 arg2 harg2 arg4 harg4 arg5 harg5 arg6 harg6 arg7 harg7 arg8 harg8 arg9 harg9 hX k0_h1) (hs := hs) (hd := hd) (ht := ht) (hs' := hs') (hd' := hd') (Q := Q) (k := fun _ => k)
  · rw [dif_neg k0_h1, at_later K c w h (fun h0 => k0_h1 ((cond1_eq i).mpr h0)) hlt]
    iintro H Hk
    iapply Hk $$ H

/-- The next block's copies started, where there is a next block. -/
theorem next (X : S1x1x512.Idx → Elt F .i32) (hX : ∀ r : Fin 512, (words X (ix1 r)).toNat < 147456)
    {α : Type} {Q : α → sProp 𝕄} {hs hd ht hs' hd'} (k : Prog (TpuEff nD τ sig (Elt F) Λ₀ .tc) α) :
    (iprop(owns (c : Thread nD τ) arg2 fullShare X ∗ kit K c ∗ Idle K c (slot ((i 0).val + 1)) h) : sProp 𝕄)
      ⊢ iprop((iprop(owns (c : Thread nD τ) arg2 fullShare X ∗ kit K c ∗ At K c (words X) h 256 ((i 0).val + 1)) -∗ wp frame (wpE defs₀ Variants.none (c : Thread nD τ) none) Set.univ k Q)
        -∗ wp frame (wpE defs₀ Variants.none (c : Thread nD τ) none) Set.univ
          (if k0_h2 : k0_cond2 i = 1#1 then
            .op (.enqueueDma (blk arg2) (.here (Memref.whole cc0_scratch1)) (.dma cc0_scratch3.sem) hs hd ht) fun _ =>
            .op (.waitDma2 cc0_scratch3.sem (blk arg2) (Memref.whole cc0_scratch1) hs' hd') fun _ =>
              Scf.Loop.for k0_t2_loop (k0_t2_ok i k0_h2) ⟨⟩ (k0_t2_body (F := F) i arg1 harg1 arg2 harg2 (Memref.whole main_arg1) (Memref.isWhole_whole _) arg4 harg4 arg5 harg5 arg6 harg6 arg7 harg7 arg8 harg8 arg9 harg9 (Memref.whole cc0_scratch0) (Memref.isWhole_whole _) (Memref.whole cc0_scratch1) (Memref.isWhole_whole _) cc0_scratch2 cc0_scratch3 k0_h2) >>= fun _ => k
          else k) Q) := by
  by_cases k0_h2 : k0_cond2 i = 1#1
  · rw [dif_pos k0_h2, at_later K c _ h (Nat.succ_ne_zero _) ((cond2_eq i).mp k0_h2)]
    exact launch K c (slot ((i 0).val + 1)) h arg2 X (L := k0_t2_loop) loop2 (ok := k0_t2_ok i k0_h2) (trip2 c _ h i arg1 harg1 arg2 harg2 arg4 harg4 arg5 harg5 arg6 harg6 arg7 harg7 arg8 harg8 arg9 harg9 hX k0_h2) (hs := hs) (hd := hd) (ht := ht) (hs' := hs') (hd' := hd') (Q := Q) (k := fun _ => k)
  · rw [dif_neg k0_h2, show (At K c (words X) h 256 ((i 0).val + 1) : sProp 𝕄) = Idle K c (slot ((i 0).val + 1)) h from
      if_pos (.inr (Nat.le_of_not_lt fun e => k0_h2 ((cond2_eq i).mpr e)))]
    iintro H Hk
    iapply Hk $$ H

/-- The `j`-th rows of a block's 128 tokens, as the kernel loads them. -/
def gath (j : Fin 4) : S1x128x1024.Idx → Elt F .f32 :=
  fun y => h (ix2 (pick K w ⟨128 * j.val + (y 1).val, by have : (y 1).val < 128 := (y 1).isLt; omega⟩) (y 2))

/-- Loading them. -/
theorem wp_loadG (j : Fin 4) {off : Fin 3 → Nat} {hb hl} (ho : off = ![(i 0).val % 2, 128 * j.val, 0]) {α : Type} {Q : α → sProp 𝕄}
    {k : (S1x128x1024.Idx → Elt F .f32) → Prog (TpuEff nD τ sig (Elt F) Λ₀ .tc) α} :
    Land K c (slot (i 0).val) w h
      ⊢ iprop((Land K c (slot (i 0).val) w h -∗ wp frame (wpE defs₀ Variants.none (c : Thread nD τ) none) Set.univ (k (gath w h j)) Q)
        -∗ wp frame (wpE defs₀ Variants.none (c : Thread nD τ) none) Set.univ (.op (.load (Memref.whole cc0_scratch0) (Rect.unit (s := S2x512x1024) off S1x128x1024.size hb).toLoadRect hl) k) Q) := by
  subst ho
  have hr : ∀ y : S1x128x1024.Idx, ((Rect.unit (s := S2x512x1024) ![(i 0).val % 2, 128 * j.val, 0] S1x128x1024.size hb).emb y 0).val = (slot (i 0).val).val := fun y => by
    have : (y 0).val < 1 := (y 0).isLt
    refine (Rect.emb_apply _ _ _).trans ?_
    show (i 0).val % 2 + 1 * (y 0).val = (i 0).val % 2
    omega
  have e : (fun y : S1x128x1024.Idx => rows (τ := τ) K c w h ((Rect.unit (s := S2x512x1024) ![(i 0).val % 2, 128 * j.val, 0] S1x128x1024.size hb).emb y)) = gath w h j := by
    funext y
    have h1 : (y 1).val < 128 := (y 1).isLt
    have e1 : (Rect.unit (s := S2x512x1024) ![(i 0).val % 2, 128 * j.val, 0] S1x128x1024.size hb).emb y 1 = (⟨128 * j.val + (y 1).val, by omega⟩ : Fin 512) :=
      Fin.ext ((Rect.emb_apply _ _ _).trans (by show 128 * j.val + 1 * (y 1).val = 128 * j.val + (y 1).val; omega))
    have e2 : (Rect.unit (s := S2x512x1024) ![(i 0).val % 2, 128 * j.val, 0] S1x128x1024.size hb).emb y 2 = (y 2 : Fin 1024) :=
      Fin.ext ((Rect.emb_apply _ _ _).trans (by show 0 + 1 * (y 2).val = (y 2).val; omega))
    exact congrArg₂ (fun (a : Fin 512) (b : Fin 1024) => h (ix2 (pick K w a) b)) e1 e2
  rw [← e]
  exact wp_loadRows K c (slot (i 0).val) w h (defs := defs₀) (r := Rect.unit (s := S2x512x1024) ![(i 0).val % 2, 128 * j.val, 0] S1x128x1024.size hb) (hl := hl) hr (Q := Q) (k := k)

theorem part1 (X1 X2 : S1x1x512.Idx → Elt F .i32) (G : S128x128.Idx → Elt F .f32) (hw : (i 0).val = 0 → w = words X1)
    (h1 : ∀ r : Fin 512, (words X1 (ix1 r)).toNat < 147456) (h2 : ∀ r : Fin 512, (words X2 (ix1 r)).toNat < 147456) :
    (iprop(owns (c : Thread nD τ) arg1 fullShare X1 ∗ owns (c : Thread nD τ) arg2 fullShare X2 ∗ kit K c ∗ At K c w h 256 (i 0).val
        ∗ Idle K c (slot ((i 0).val + 1)) h ∗ owns (c : Thread nD τ) arg4 fullShare G) : sProp 𝕄)
      ⊢ wp frame (wpE defs₀ Variants.none (c : Thread nD τ) none) Set.univ (k0_part1 (F := F) i arg1 harg1 arg2 harg2 (Memref.whole main_arg1) (Memref.isWhole_whole _) arg4 harg4 arg5 harg5 arg6 harg6 arg7 harg7 arg8 harg8 arg9 harg9 (Memref.whole cc0_scratch0) (Memref.isWhole_whole _) (Memref.whole cc0_scratch1) (Memref.isWhole_whole _) cc0_scratch2 cc0_scratch3)
        (fun v => iprop(⌜v.2.1 = (fun y => G ((Rect.unit (s := S128x128) ![0, 0] S128x128.size inb_S128x128_S128x128_0_0).emb y)) ∧ v.2.2 = k0_pay1 v.2.1 (gath w h 0) (gath w h 1)⌝
          ∗ owns (c : Thread nD τ) arg1 fullShare X1 ∗ owns (c : Thread nD τ) arg2 fullShare X2 ∗ kit K c ∗ Land K c (slot (i 0).val) w h
          ∗ At K c (words X2) h 256 ((i 0).val + 1) ∗ owns (c : Thread nD τ) arg4 fullShare G)) := by
  rw [k0_part1_eq_skeleton]
  unfold k0_part1_skel
  iintro ⟨H1, H2, HK, HA, HI, HG⟩
  iapply (first c w h i arg1 harg1 arg2 harg2 arg4 harg4 arg5 harg5 arg6 harg6 arg7 harg7 arg8 harg8 arg9 harg9 X1 h1 hw _) $$ [H1 HK HA]
  · isplitl [H1]; · iexact H1
    isplitl [HK] <;> iassumption
  iintro ⟨H1, HK, HF⟩
  iapply (next c h i arg1 harg1 arg2 harg2 arg4 harg4 arg5 harg5 arg6 harg6 arg7 harg7 arg8 harg8 arg9 harg9 X2 h2 _) $$ [H2 HK HI]
  · isplitl [H2]; · iexact H2
    isplitl [HK] <;> iassumption
  iintro ⟨H2, HK, HA⟩
  unfold kit
  icases HK with ⟨Hw, Hc, HO⟩
  iapply (drain K c (slot (i 0).val) w h (L := k0_t3_loop) loop3 (ok := k0_t3_ok) (trip3 c w h i arg1 harg1 arg2 harg2 arg4 harg4 arg5 harg5 arg6 harg6 arg7 harg7 arg8 harg8 arg9 harg9)) $$ [HF HO]
  · isplitl [HF] <;> iassumption
  iintro ⟨HL, HO⟩
  iapply (wp_loadO c G) $$ HG
  iintro HG
  iapply (wp_loadG c w h i 0 (congrArg (fun n => ![n, 0, 0]) (par_eq (pt i)))) $$ HL
  iintro HL
  iapply (wp_loadG c w h i 1 (congrArg (fun n => ![n, 128, 0]) (par_eq (pt i)))) $$ HL
  iintro HL
  iapply (wp_give c)
  isplitr
  · ipureintro; exact ⟨rfl, rfl⟩
  isplitl [H1]; · iexact H1
  isplitl [H2]; · iexact H2
  isplitl [Hw Hc HO]
  · isplitl [Hw]; · iexact Hw
    isplitl [Hc] <;> iassumption
  isplitl [HL]; · iexact HL
  isplitl [HA] <;> iassumption

/-- The kernel's arithmetic on a block's gathered rows, its gates and its carried values. -/
def tile (xs : Fin 4 → S1x128x1024.Idx → Elt F .f32) (G : S128x128.Idx → Elt F .f32) (H : S128x1024.Idx → Elt F .f32) (lg lb : S1x1024.Idx → Elt F .f32) : S128x1024.Idx → Elt F .f32 :=
  k0_pay2 G (k0_pay1 G (xs 0) (xs 1)) (xs 2) (xs 3) H lg lb

/-- A rectangle that is the whole of a matrix. -/
theorem emb_full {a b : ℕ} (hb) (x : (⟨2, ![a, b]⟩ : Shape).Idx) : (Rect.unit (s := ⟨2, ![a, b]⟩) ![0, 0] ![a, b] hb).emb x = x := by
  funext d
  refine Fin.ext ((Rect.emb_apply _ _ _).trans ?_)
  fin_cases d
  · show 0 + 1 * (x 0).val = (x 0).val; omega
  · show 0 + 1 * (x 1).val = (x 1).val; omega
theorem load_full {a b : ℕ} {β : Type} (X : (⟨2, ![a, b]⟩ : Shape).Idx → β) (hb) : (fun y => X ((Rect.unit (s := ⟨2, ![a, b]⟩) ![0, 0] ![a, b] hb).emb y)) = X :=
  funext fun y => congrArg X (emb_full hb y)
theorem store_full {a b : ℕ} {e : EltTy} (m : Memref sig .tc .vmem ⟨2, ![a, b]⟩ e) (f : Buf (Elt F) (m.view.loc (c : Thread nD τ))) (v : (⟨2, ![a, b]⟩ : Shape).Idx → Elt F e) (hb) :
    m.view.read (Elt F) ((m.access (Rect.unit (s := ⟨2, ![a, b]⟩) ![0, 0] ![a, b] hb)).write (Elt F) f v Finset.univ) = v := by
  funext x
  refine Eq.trans ?_ (congrFun (View.read_write_univ (v := m.access (Rect.unit (s := ⟨2, ![a, b]⟩) ![0, 0] ![a, b] hb)) f v) x)
  show m.view.read (Elt F) _ x = m.view.read (Elt F) _ ((Rect.unit (s := ⟨2, ![a, b]⟩) ![0, 0] ![a, b] hb).emb x)
  rw [emb_full]

/-- A store over the whole of a block. -/
theorem wp_storeAll {a b : ℕ} {e : EltTy} {m : Memref sig .tc .vmem ⟨2, ![a, b]⟩ e} {hb} {v : (⟨2, ![a, b]⟩ : Shape).Idx → Elt F e} {hs he} {α : Type} {Q : α → sProp 𝕄} {d}
    {k : PUnit → Prog (TpuEff nD τ sig (Elt F) Λ₀ .tc) α} :
    (owns (c : Thread nD τ) m fullShare d : sProp 𝕄)
      ⊢ iprop((owns (c : Thread nD τ) m fullShare v -∗ wp frame (wpE defs₀ Variants.none (c : Thread nD τ) none) Set.univ (k ⟨⟩) Q)
        -∗ wp frame (wpE defs₀ Variants.none (c : Thread nD τ) none) Set.univ (.op (.store m (Rect.unit (s := ⟨2, ![a, b]⟩) ![0, 0] ![a, b] hb) v Finset.univ hs he) k) Q) := by
  unfold owns
  iintro ⟨%f, -, H⟩ Hk
  iapply (wp_store (m := m) (r := Rect.unit (s := ⟨2, ![a, b]⟩) ![0, 0] ![a, b] hb) (S := m.view.set) (f := f) Variants.none (c : Thread nD τ) none Set.univ ((View.setOn_subset_set _ _).trans (View.set_slice_subset _ _))) $$ H
  iintro H
  iapply Hk
  iexists _
  isplitr
  swap; · iexact H
  ipureintro
  exact store_full c _ _ _ _

theorem body (X1 X2 : S1x1x512.Idx → Elt F .i32) (G : S128x128.Idx → Elt F .f32) (H : S128x1024.Idx → Elt F .f32) (lg lb : S1x1024.Idx → Elt F .f32)
    (hw : (i 0).val = 0 → w = words X1)
    (h1 : ∀ r : Fin 512, (words X1 (ix1 r)).toNat < 147456) (h2 : ∀ r : Fin 512, (words X2 (ix1 r)).toNat < 147456) :
    (iprop(owns (c : Thread nD τ) arg1 fullShare X1 ∗ owns (c : Thread nD τ) arg2 fullShare X2 ∗ owns (c : Thread nD τ) arg4 fullShare G
        ∗ owns (c : Thread nD τ) arg5 fullShare H ∗ owns (c : Thread nD τ) arg6 fullShare lg ∗ owns (c : Thread nD τ) arg7 fullShare lb
        ∗ (∃ d, owns (c : Thread nD τ) arg8 fullShare d) ∗ (∃ d, owns (c : Thread nD τ) arg9 fullShare d)
        ∗ kit K c ∗ At K c w h 256 (i 0).val ∗ Idle K c (slot ((i 0).val + 1)) h) : sProp 𝕄)
      ⊢ wp frame (wpE defs₀ Variants.none (c : Thread nD τ) none) Set.univ (cc0_combine (F := F) i arg1 harg1 arg2 harg2 (Memref.whole main_arg1) (Memref.isWhole_whole _) arg4 harg4 arg5 harg5 arg6 harg6 arg7 harg7 arg8 harg8 arg9 harg9 (Memref.whole cc0_scratch0) (Memref.isWhole_whole _) (Memref.whole cc0_scratch1) (Memref.isWhole_whole _) cc0_scratch2 cc0_scratch3)
        (fun _ => iprop(owns (c : Thread nD τ) arg1 fullShare X1 ∗ owns (c : Thread nD τ) arg2 fullShare X2 ∗ owns (c : Thread nD τ) arg4 fullShare G
          ∗ owns (c : Thread nD τ) arg5 fullShare H ∗ owns (c : Thread nD τ) arg6 fullShare lg ∗ owns (c : Thread nD τ) arg7 fullShare lb
          ∗ owns (c : Thread nD τ) arg8 fullShare (tile (gath w h) G H lg lb)
          ∗ owns (c : Thread nD τ) arg9 fullShare (truncf .bf16 (tile (gath w h) G H lg lb) bitsLt_bf16_f32)
          ∗ kit K c ∗ Idle K c (slot (i 0).val) h ∗ At K c (words X2) h 256 ((i 0).val + 1))) := by
  rw [cc0_combine_eq_skeleton]
  unfold cc0_combine_skel
  rw [wp_bind]
  iintro ⟨H1, H2, HG, HH, Hlg, Hlb, ⟨%d8, H8⟩, ⟨%d9, H9⟩, HK, HA, HI⟩
  iapply (wp_wand frame (wpE defs₀ Variants.none (c : Thread nD τ) none) Set.univ) $$ [H1 H2 HK HA HI HG]
  · iapply (part1 c w h i arg1 harg1 arg2 harg2 arg4 harg4 arg5 harg5 arg6 harg6 arg7 harg7 arg8 harg8 arg9 harg9 X1 X2 G hw h1 h2)
    isplitl [H1]; · iexact H1
    isplitl [H2]; · iexact H2
    isplitl [HK]; · iexact HK
    isplitl [HA]; · iexact HA
    isplitl [HI] <;> iassumption
  iintro %v ⟨%hv, H1, H2, HK, HL, HA, HG⟩
  obtain ⟨v9, v18, v31⟩ := v
  obtain ⟨e1, e2⟩ := hv
  dsimp only at e1 e2
  rw [load_full] at e1
  subst e1 e2
  rw [k0_part2_eq_skeleton]
  unfold k0_part2_skel
  iapply (wp_loadG c w h i 2 (congrArg (fun n => ![n, 256, 0]) (par_eq (pt i)))) $$ HL
  iintro HL
  iapply (wp_loadG c w h i 3 (congrArg (fun n => ![n, 384, 0]) (par_eq (pt i)))) $$ HL
  iintro HL
  iapply (wp_loadO c H) $$ HH
  iintro HH
  iapply (wp_loadO c lg) $$ Hlg
  iintro Hlg
  iapply (wp_loadO c lb) $$ Hlb
  iintro Hlb
  iapply (wp_loadO c d8) $$ H8
  iintro H8
  iapply (wp_storeAll c) $$ H8
  iintro H8
  iapply (wp_loadO c d9) $$ H9
  iintro H9
  iapply (wp_storeAll c) $$ H9
  iintro H9
  iapply (wp_give c)
  rw [load_full, load_full, load_full]
  unfold k0_pay3
  isplitl [H1]; · iexact H1
  isplitl [H2]; · iexact H2
  isplitl [HG]; · iexact HG
  isplitl [HH]; · iexact HH
  isplitl [Hlg]; · iexact Hlg
  isplitl [Hlb]; · iexact Hlb
  isplitl [H8]; · iexact H8
  isplitl [H9]; · iexact H9
  isplitl [HK]; · iexact HK
  isplitl [HL]; · iapply (land_idle K c (slot (i 0).val) w h) $$ HL
  iexact HA

end

end Cert.CombineKernelIdeal.Body
-- ==== Proof.CombineRun.lean ====
/-
  The combination's kernel launched: what each window holds, what passes from one grid point to the next, and the run of the whole call.
-/
module

public import proofs.«01_k».proof.Proof.CombineBody
public import proofs.«01_k».proof.Proof.Gen.CombineKernelIdeal.Launch
public import proofs.«01_k».proof.Proof.Gen.CombineKernelIdeal.Points
public import Idealize.ShloMosaic.Lib.Pipeline.FrameBody
public import Idealize.ShloMosaic.Lib.Claim
public import Idealize.ShloMosaic.Lib.Pipeline.ValueKit

@[expose] public section

noncomputable section

namespace Cert.CombineKernelIdeal.Body

open Cert.CombineKernelIdeal Cert.CombineKernelIdeal.Gen Cert.RowGather
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- What a buffer holds at the call's entry. -/
abbrev W (c : Dev nD) (b : Ref sig .tc) : Buf (Elt F) ((c : Thread nD τ).loc b) := m ((c : Thread nD τ).loc b)
/-- The place of each token's rows, tile by tile. -/
def places (c : Dev nD) : S256x1x512.Idx → BitVec 32 := m ((c : Thread nD τ).loc main_arg0)
/-- The experts' rows. -/
def table (c : Dev nD) : S147456x1024.Idx → Elt F .f32 := m ((c : Thread nD τ).loc main_arg1)

/-! ## The kernel's own buffers and semaphores -/

abbrev osem0 : Fin 3 → SemLoc sig := fun j => (![SemLoc.dma (cell 0), SemLoc.dma (cell 1), SemLoc.dma cc0_scratch3.sem] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0
          ∗ semVal ((c : Thread nD τ), SemLoc.dma cc0_scratch3.sem) 0) := by
  rw [Pipeline.ownSems0_eq_of_list c osem0 [0, 1, 2] (by decide) (by decide)]; rfl
/-- The experts' rows, read by the kernel's own copies. -/
def H0 : Finset (Ref sig .tc) := {main_arg1}
theorem H0_sub : H0 ⊆ Pipeline.restRefs sig spec0 := by decide
theorem H0_eq (c : Dev nD) :
    (bigSep H0 (fun b => ((c : Thread nD τ).loc b) ↦{fullShare} W m c b) : sProp 𝕄) = iprop(tableLoc K c ↦{fullShare} table m c) := by
  rw [BI.bigSep_eq_bigSepL_of_eq [main_arg1] (by decide) (by decide)]; rfl

/-! ## Between the points -/

section
variable (c : Dev nD)

/-- The words of a tile's rows (of the first tile past the last). -/
def wordsOf (p : ℕ) : S512.Idx → BitVec 32 :=
  fun x => places m c (ix3 (⟨p % 256, Nat.mod_lt _ (by decide)⟩ : Fin 256) (0 : Fin 1) (x 0))
/-- What is kept beside the slots: the list's buffer and semaphore, the generator's register. -/
def side : sProp 𝕄 :=
  iprop((∃ v, owns (c : Thread nD τ) K.list fullShare v) ∗ semVal ((c : Thread nD τ), SemLoc.dma K.fetched) 0 ∗ (∃ r, prngReg c r))
/-- What holds between the points. -/
def inv (p : ℕ) : sProp 𝕄 :=
  iprop(At K c (wordsOf m c p) (table m c) 256 p ∗ Idle K c (slot (p + 1)) (table m c) ∗ side (F := F) c)

/-- A tile's words count only before the last. -/
theorem at_congr {p : ℕ} {w : S512.Idx → BitVec 32} (hw : p < 256 → w = wordsOf m c p) :
    (At K c w (table m c) 256 p : sProp 𝕄) = At K c (wordsOf m c p) (table m c) 256 p := by
  by_cases h0 : p < 256
  · rw [hw h0]
  · unfold At; rw [if_pos (.inr (by omega)), if_pos (.inr (by omega))]

theorem buf_set : K.buf.view.set = Finset.univ := View.set_whole _
theorem list_owns (v : Buf (Elt F) ((c : Thread nD τ).loc cc0_scratch1)) :
    (owns (c : Thread nD τ) (Memref.whole cc0_scratch1) fullShare v : sProp 𝕄) = ((c : Thread nD τ).loc cc0_scratch1) ↦{fullShare} v :=
  owns_whole (c : Thread nD τ) cc0_scratch1 fullShare v

theorem inv_in : Pipeline.ΦD osem0 spec0 H0 (W m) c ⊢ (inv m c 0 : sProp 𝕄) := by
  rw [Pipeline.ΦD_eq, scopedRest0_eq, ownSems00_eq, H0_eq]
  unfold inv side
  rw [at_first]
  iintro ⟨⟨⟨%f, Hx⟩, ⟨%v, Hw⟩⟩, Hg, ⟨Hc0, Hc1, Hc2⟩, Hh⟩
  ihave HI := (idle_split K c (table m c) f) $$ [Hx Hh Hc0 Hc1]
  · rw [buf_set]
    isplitl [Hx]; · iexact Hx
    isplitl [Hh]; · iexact Hh
    isplitl [Hc0] <;> iassumption
  icases HI with ⟨H0, H1⟩
  isplitl [H0]; · iexact H0
  isplitl [H1]; · iexact H1
  isplitl [Hw]
  · iexists v
    ihave Hv := (Entails.of_eq (list_owns c v).symm) $$ Hw
    iexact Hv
  isplitl [Hc2]; · iexact Hc2
  iexact Hg

theorem inv_out : (inv m c 256 : sProp 𝕄) ⊢ Pipeline.ΦD osem0 spec0 H0 (W m) c := by
  rw [Pipeline.ΦD_eq, scopedRest0_eq, ownSems00_eq, H0_eq]
  unfold inv side
  rw [at_last]
  have HJ := idle_join (τ := τ) K c (table m c)
  rw [buf_set] at HJ
  iintro ⟨H0, H1, ⟨%v, Hw⟩, Hc2, Hg⟩
  ihave HI := HJ $$ [H0 H1]
  · isplitl [H0]; · iexact H0
    iexact H1
  ihave Hv := (Entails.of_eq (list_owns c v)) $$ Hw
  icases HI with ⟨Hx, Hh, Hc0, Hc1⟩
  isplitl [Hx Hv]
  · isplitl [Hx]; · iexact Hx
    iexists v
    iexact Hv
  isplitl [Hg]; · iexact Hg
  isplitl [Hc0 Hc1 Hc2]
  · isplitl [Hc0]; · iexact Hc0
    isplitl [Hc1] <;> iassumption
  iexact Hh
end

/-! ## The windows -/

/-- A window's block at a point. -/
def blkOf (c : Dev nD) (w : Fin cfg0.W) (t : Fin cfg0.N) : ((cfg0.win w).xblock (cfg0.grid.coords t)).Idx → Elt F (cfg0.win w).elt :=
  ((cfg0.win w).blk t).view.read (Elt F) (W m c (Pipeline.arrRef spec0 w))

/-- The output's block of a point: its tokens' rows combined and normalized. -/
def outAt (c : Dev nD) (t : Fin cfg0.N) : S128x1024.Idx → Elt F .f32 :=
  tile (gath (wordsOf m c t.val) (table m c)) (blkOf m c 2 t) (blkOf m c 3 t) (blkOf m c 4 t) (blkOf m c 5 t)

/-- The proof data of the call. -/
def dats (_ : Fin 1) (c : Dev nD) : Dat τ (Elt F) Unit ℕ (Pipeline.UD sig nD τ) ℕ cfg0 c where
  A w := W m c (Pipeline.arrRef spec0 w)
  after w t := match w with
    | ⟨0, _⟩ => blkOf m c 0 t
    | ⟨1, _⟩ => blkOf m c 1 t
    | ⟨2, _⟩ => blkOf m c 2 t
    | ⟨3, _⟩ => blkOf m c 3 t
    | ⟨4, _⟩ => blkOf m c 4 t
    | ⟨5, _⟩ => blkOf m c 5 t
    | ⟨6, _⟩ => outAt m c t
    | ⟨7, _⟩ => truncf .bf16 (outAt m c t) bitsLt_bf16_f32
  Φ t := inv m c t.val
  q w := Pipeline.shareOf spec0 w
  owed _ := 0

theorem A_eq (c : Dev nD) (w : Fin cfg0.W) : (dats m 0 c).A w = W m c (Pipeline.arrRef spec0 w) := by
  dsimp only [dats]
theorem after_0 (c : Dev nD) (t : Fin cfg0.N) : (dats m 0 c).after 0 t = blkOf m c 0 t := by dsimp only [dats]; try rfl
theorem after_1 (c : Dev nD) (t : Fin cfg0.N) : (dats m 0 c).after 1 t = blkOf m c 1 t := by dsimp only [dats]; try rfl
theorem after_2 (c : Dev nD) (t : Fin cfg0.N) : (dats m 0 c).after 2 t = blkOf m c 2 t := by dsimp only [dats]; try rfl
theorem after_3 (c : Dev nD) (t : Fin cfg0.N) : (dats m 0 c).after 3 t = blkOf m c 3 t := by dsimp only [dats]; try rfl
theorem after_4 (c : Dev nD) (t : Fin cfg0.N) : (dats m 0 c).after 4 t = blkOf m c 4 t := by dsimp only [dats]; try rfl
theorem after_5 (c : Dev nD) (t : Fin cfg0.N) : (dats m 0 c).after 5 t = blkOf m c 5 t := by dsimp only [dats]; try rfl
theorem after_6 (c : Dev nD) (t : Fin cfg0.N) : (dats m 0 c).after 6 t = outAt m c t := by dsimp only [dats]; try rfl
theorem after_7 (c : Dev nD) (t : Fin cfg0.N) : (dats m 0 c).after 7 t = truncf .bf16 (outAt m c t) bitsLt_bf16_f32 := by dsimp only [dats]; try rfl

/-- An input window that the points leave as it was holds its block at every point. -/
theorem before_of (c : Dev nD) (w : Fin cfg0.W) (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hcut : ∀ t, (cfg0.win w).cut (cfg0.grid.coords t) ((dats m 0 c).after w t) = (dats m 0 c).blockOf w t)
    (t : Fin cfg0.N) (d) : (dats m 0 c).before w t d = (dats m 0 c).fetched w t d :=
  (dats m 0 c).before_in_eq_fetched w hw hlive hclip hcut t d

theorem before_0 (c : Dev nD) (t : Fin cfg0.N) (d) : (dats m 0 c).before 0 t d = blkOf m c 0 t :=
  (before_of m c 0 rfl (fun _ => rfl) (fun _ _ _ => rfl) (fun t => by rw [after_0]; unfold Dat.blockOf blkOf; rw [A_eq]; try rfl) t d).trans
    (by unfold Dat.fetched Dat.blockOf blkOf; rw [A_eq]; try rfl)
theorem before_1 (c : Dev nD) (t : Fin cfg0.N) (d) : (dats m 0 c).before 1 t d = blkOf m c 1 t :=
  (before_of m c 1 rfl (fun _ => rfl) (fun _ _ _ => rfl) (fun t => by rw [after_1]; unfold Dat.blockOf blkOf; rw [A_eq]; try rfl) t d).trans
    (by unfold Dat.fetched Dat.blockOf blkOf; rw [A_eq]; try rfl)
theorem before_2 (c : Dev nD) (t : Fin cfg0.N) (d) : (dats m 0 c).before 2 t d = blkOf m c 2 t :=
  (before_of m c 2 rfl (fun _ => rfl) (fun _ _ _ => rfl) (fun t => by rw [after_2]; unfold Dat.blockOf blkOf; rw [A_eq]; try rfl) t d).trans
    (by unfold Dat.fetched Dat.blockOf blkOf; rw [A_eq]; try rfl)
theorem before_3 (c : Dev nD) (t : Fin cfg0.N) (d) : (dats m 0 c).before 3 t d = blkOf m c 3 t :=
  (before_of m c 3 rfl (fun _ => rfl) (fun _ _ _ => rfl) (fun t => by rw [after_3]; unfold Dat.blockOf blkOf; rw [A_eq]; try rfl) t d).trans
    (by unfold Dat.fetched Dat.blockOf blkOf; rw [A_eq]; try rfl)
theorem before_4 (c : Dev nD) (t : Fin cfg0.N) (d) : (dats m 0 c).before 4 t d = blkOf m c 4 t :=
  (before_of m c 4 rfl (fun _ => rfl) (fun _ _ _ => rfl) (fun t => by rw [after_4]; unfold Dat.blockOf blkOf; rw [A_eq]; try rfl) t d).trans
    (by unfold Dat.fetched Dat.blockOf blkOf; rw [A_eq]; try rfl)
theorem before_5 (c : Dev nD) (t : Fin cfg0.N) (d) : (dats m 0 c).before 5 t d = blkOf m c 5 t :=
  (before_of m c 5 rfl (fun _ => rfl) (fun _ _ _ => rfl) (fun t => by rw [after_5]; unfold Dat.blockOf blkOf; rw [A_eq]; try rfl) t d).trans
    (by unfold Dat.fetched Dat.blockOf blkOf; rw [A_eq]; try rfl)

/-! ## Where the windows stand -/

theorem coord : ∀ t : Fin grid0.N, (grid0.coords t 0).val = t.val := by decide +kernel
theorem next_index : ∀ t : Fin grid0.N, cc0_transform_1 (grid0.coords t) = ![min (t.val + 1) 255, 0, 0] := by decide +kernel

/-- The first window stands at the first tile's words, -/
theorem words_first (c : Dev nD) (t : Fin cfg0.N) : words (F := F) (blkOf m c 0 t) = wordsOf m c 0 := by
  funext x
  refine congrArg (places m c) ?_
  funext a
  refine Fin.ext ?_
  fin_cases a
  · rfl
  · rfl
  · show 0 * 512 + 1 * (x 0).val = (x 0).val; omega
/-- the second at the next tile's. -/
theorem words_next (c : Dev nD) (t : Fin cfg0.N) : words (F := F) (blkOf m c 1 t) = wordsOf m c (min (t.val + 1) 255) := by
  funext x
  refine congrArg (places m c) ?_
  funext a
  refine Fin.ext ?_
  have e := next_index t
  fin_cases a
  · show cc0_transform_1 (grid0.coords t) 0 * 1 + 1 * 0 = min (t.val + 1) 255 % 256
    rw [e]; show min (t.val + 1) 255 * 1 + 1 * 0 = min (t.val + 1) 255 % 256; omega
  · show cc0_transform_1 (grid0.coords t) 1 * 1 + 1 * 0 = 0
    rw [e]; rfl
  · show cc0_transform_1 (grid0.coords t) 2 * 512 + 1 * (x 0).val = (x 0).val
    rw [e]; show 0 * 512 + 1 * (x 0).val = (x 0).val; omega

/-! ## The body at every point, and the run -/

variable (hR : ∀ c x, (places m c x).toNat < 147456)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

include hR in
theorem sound_body (c : Dev nD) (t : Fin cfg0.N) :
    bodyPre m c t ⊢ wp frame (wpE (defs₀ (F := F)) Variants.none (c : Thread nD τ) none) Set.univ (bodyAt0 t) (fun _ => bodyPost m c t) := by
  have ht : t.val < 256 := t.isLt.trans_eq N_0
  have hc := coord t
  have h1 : ∀ r : Fin 512, (words (F := F) (blkOf m c 0 t) (ix1 r)).toNat < 147456 := fun r => by rw [words_first]; exact hR _ _
  have h2 : ∀ r : Fin 512, (words (F := F) (blkOf m c 1 t) (ix1 r)).toNat < 147456 := fun r => by rw [words_next]; exact hR _ _
  have hw : (grid0.coords t 0).val = 0 → wordsOf m c t.val = words (F := F) (blkOf m c 0 t) := fun h0 => by
    rw [words_first, ← hc, h0]
  have eA : (At K c (words (F := F) (blkOf m c 1 t)) (table m c) 256 (t.val + 1) : sProp 𝕄) = At K c (wordsOf m c (t.val + 1)) (table m c) 256 (t.val + 1) :=
    at_congr m c fun h => by rw [words_next, Nat.min_eq_left (by omega)]
  have HB := body c (wordsOf m c t.val) (table m c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (blkOf m c 0 t) (blkOf m c 1 t) (blkOf m c 2 t) (blkOf m c 3 t) (blkOf m c 4 t) (blkOf m c 5 t) hw h1 h2
  rw [hc, eA] at HB
  unfold bodyPre bodyPost
  simp only [before_0, before_1, before_2, before_3, before_4, before_5]
  rw [after_0, after_1, after_2, after_3, after_4, after_5, after_6, after_7]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv side
  rw [slot_two]
  unfold kit at HB
  iintro ⟨⟨HA, HI, Hw, Hc, Hg⟩, ⟨%O, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand frame (wpE defs₀ Variants.none (c : Thread nD τ) none) Set.univ) $$ [HA HI Hw Hc HW H0 H1 H2 H3 H4 H5 H6 H7]
  · iapply HB
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hw Hc HW]
    · isplitl [Hw]; · iexact Hw
      isplitl [Hc]; · iexact Hc
      iexists _; iexact HW
    isplitl [HA]; · iexact HA
    iexact HI
  iintro %v ⟨H0, H1, H2, H3, H4, H5, H6, H7, ⟨Hw, Hc, ⟨%W', HW'⟩⟩, HI, HA⟩
  isplitl [HA HI Hw Hc Hg]
  · isplitl [HA]; · iexact HA
    isplitl [HI]; · iexact HI
    isplitl [Hw]; · iexact Hw
    isplitl [Hc]; · iexact Hc
    iexact Hg
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

include hR in
theorem body_obligation (c : Dev nD) : BodyObligation (dats m 0 c) (defs₀ (F := F)) Variants.none () Set.univ := fun t => by
  rw [bigSep_W0, bigSep_W0, defs₀_row]
  exact triple_restated (sound_body m hR c t) rfl .rfl fun _ => .rfl

theorem hmain (𝒱₀ : Variants) : Pipeline.HMain (Ix := Unit) (Name := ℕ) (U := Pipeline.UD sig nD τ) (Lvl := ℕ) cfgs 0 defs₀ 𝒱₀ m (main (F := F)) (W m) :=
  Pipeline.hmain_region cfgs 0 defs₀ 𝒱₀ m main fun c => (main_chain c).trans rfl

include hR in
set_option backward.isDefEq.respectTransparency.types false in
/-- The run of the call: every window's array at what the points left in it, everything else as it was. -/
theorem run : θ_run defs (onTc (τ := τ) (main (F := F))) (s₀ m ρ) (fun r => Pipeline.FramePost cfgs (dats m) 0 (W m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m hR c).loose) (hq := fun c w _ => rfl)
    (howed := fun _ _ => rfl) (V := W m) (hmain := hmain m Variants.none) (hA := A_eq m)
    (hin := fun c => inv_in m c) (hout := fun c => inv_out m c)

end Cert.CombineKernelIdeal.Body

end
-- ==== Proof.CombineReference.lean ====
/-
  The combination's reference: its results, named stage by stage, the sum before the layer norm read at an entry, and the kernel's
  arithmetic on a row as the layer norm of that sum.
-/
module

public import proofs.«01_k».proof.Proof.Reference
public import proofs.«01_k».proof.Proof.CombineBody
public import proofs.«01_k».proof.Proof.Gen.CombineReferenceIdeal.Run

@[expose] public section

set_option maxRecDepth 16384

noncomputable section

open Idealize.ShloMosaic Idealize.ShloMosaic.TcCoe Idealize.SL.Sem

namespace Cert.CombineReferenceIdeal.Terms

open Cert.CombineReferenceIdeal Cert.CombineReferenceIdeal.Gen

variable (A0 : IVec S256x1x512 32) (A1 : FVec Ideal S147456x1024 .f32) (A2 : FVec Ideal S32768x128 .f32) (A3 : FVec Ideal S32768x1024 .f32)
  (A4 A5 : FVec Ideal S1x1024 .f32)

/-- The places of every token's four rows. -/
def dest : IVec S32768x4 32 :=
  shapeCast _ (transpose S256x128x4 [0, 2, 1] (shapeCast _ A0 shapeCasts_S256x1x512_S256x4x128) transposes_S256x4x128_S256x128x4_0_2_1) shapeCasts_S256x128x4_S32768x4

/-- The same, a negative one counted from the end. -/
def rowIdx : IVec S32768x4x1 32 :=
  broadcastInDim S32768x4x1 ![0, 1] bcast_S32768x4_S32768x4x1_0_1 (select (cmpi .slt (dest A0) (broadcastInDim S32768x4 ![] bcast_S_S32768x4 (constantI S_ 32 0#32))) (addi (dest A0) (broadcastInDim S32768x4 ![] bcast_S_S32768x4 (constantI S_ 32 147456#32))) (dest A0))

/-- Every token's four rows. -/
def rows : FVec Ideal S32768x4x1024 .f32 := Host.gather gather_S147456x1024_S32768x4x1_S32768x4x1024_2_0_n_n_0_2_11024 A1 (rowIdx A0)

/-- The scaled token plus its rows, each times its gate. -/
def summed (X : FVec Ideal S32768x4x1024 .f32) : FVec Ideal S32768x1024 .f32 :=
  addf (mulf (broadcastInDim S32768x1024 ![] bcast_S_S32768x1024 (constant S_ .f32 0x3FB504F3#32)) A3) (Host.reduceAdd (mulf X (broadcastInDim S32768x4x1024 ![0, 1, 2] bcast_S32768x4x1_S32768x4x1024_0_1_2 (broadcastInDim S32768x4x1 ![0, 1] bcast_S32768x4_S32768x4x1_0_1 (extractStridedSlice S32768x4 ![0, 0] A2 slices_S32768x128_S32768x4_0_0)))) (constant S_ .f32 0x00000000#32) reducesTo_S32768x4x1024_S32768x1024_d1 h_S_)

/-- The mean of every row. -/
def rowMean (Z : FVec Ideal S32768x1024 .f32) : FVec Ideal S32768x1 .f32 :=
  Host.divf (broadcastInDim S32768x1 ![0] bcast_S32768_S32768x1_0 (Host.reduceAdd Z (constant S_ .f32 0x00000000#32) reducesTo_S32768x1024_S32768_d1 h_S_)) (broadcastInDim S32768x1 ![] bcast_S_S32768x1 (constant S_ .f32 0x44800000#32))

/-- The layer norm of every row. -/
def normed (Z : FVec Ideal S32768x1024 .f32) : FVec Ideal S32768x1024 .f32 :=
  addf (mulf (mulf (subf Z (broadcastInDim S32768x1024 ![0, 1] bcast_S32768x1_S32768x1024_0_1 (rowMean Z))) (broadcastInDim S32768x1024 ![0, 1] bcast_S32768x1_S32768x1024_0_1 (Host.rsqrt (addf (Host.divf (broadcastInDim S32768x1 ![0] bcast_S32768_S32768x1_0 (Host.reduceAdd (mulf (subf Z (broadcastInDim S32768x1024 ![0, 1] bcast_S32768x1_S32768x1024_0_1 (rowMean Z))) (subf Z (broadcastInDim S32768x1024 ![0, 1] bcast_S32768x1_S32768x1024_0_1 (rowMean Z)))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 A4)) (broadcastInDim S32768x1024 ![0, 1] bcast_S1x1024_S32768x1024_0_1 A5)

/-- The reference's first result, of its six arguments; the second is the same in the narrower format. -/
def result : FVec Ideal S32768x1024 .f32 := normed A4 A5 (summed A2 A3 (rows A0 A1))

/-- What a run of the reference leaves in its results. -/
theorem run_eq (m : (ℓ : Loc nD τ sig) → Buf (Elt Ideal) ℓ) (c : Dev nD) : Value.res_main_v39 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl
theorem run_eq_narrow (m : (ℓ : Loc nD τ sig) → Buf (Elt Ideal) ℓ) (c : Dev nD) : Value.res_main_v40 (F := Ideal) m c
    = truncf .bf16 (result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))) bitsLt_bf16_f32 := rfl

variable (h0 : ∀ x, (A0 x).toNat < 147456)

/-- Token `q` of tile `p`, and where the tile's list has the place of its `j`-th row. -/
def token (p : Fin 256) (q : Fin 128) : Fin 32768 := ⟨p.val * 128 + q.val, by omega⟩
def entry (q : Fin 128) (j : Fin 4) : Fin 512 := ⟨j.val * 128 + q.val, by omega⟩

theorem dest_apply (p : Fin 256) (q : Fin 128) (j : Fin 4) : dest A0 (ix2 (token p q) j) = A0 (ix3 p (0 : Fin 1) (entry q j)) := by
  pointwise [dest, token, entry]

include h0 in
theorem rowIdx_apply (p : Fin 256) (q : Fin 128) (j : Fin 4) : rowIdx A0 (ix3 (token p q) j (0 : Fin 1)) = A0 (ix3 p (0 : Fin 1) (entry q j)) := by
  pointwise [rowIdx]
  rw [dest_apply]
  exact ExpertReferenceIdeal.Terms.wrap (h0 _) (by norm_num)

theorem rows_apply (p : Fin 256) (q : Fin 128) (j : Fin 4) (k : Fin 1024) :
    rows A0 A1 (ix3 (token p q) j k) = A1 (ix2 (⟨(A0 (ix3 p (0 : Fin 1) (entry q j))).toNat, h0 _⟩ : Fin 147456) k) :=
  Gathers.row_apply (by norm_num) _ A1 (rowIdx A0) (token p q) j k _ (by rw [rowIdx_apply A0 h0])

/-- The sum before the layer norm at an entry. -/
theorem summed_apply (X : FVec Ideal S32768x4x1024 .f32) (n : Fin 32768) (k : Fin 1024) :
    (summed A2 A3 X (ix2 n k) : EReal)
      = (Scalar.ofBits (F := Ideal) .f32 0x3FB504F3#32 : EReal) * (A3 (ix2 n k) : EReal)
        + ((X (ix3 n (0 : Fin 4) k) : EReal) * (A2 (ix2 n (0 : Fin 128)) : EReal) + (X (ix3 n (1 : Fin 4) k) : EReal) * (A2 (ix2 n (1 : Fin 128)) : EReal)
          + (X (ix3 n (2 : Fin 4) k) : EReal) * (A2 (ix2 n (2 : Fin 128)) : EReal) + (X (ix3 n (3 : Fin 4) k) : EReal) * (A2 (ix2 n (3 : Fin 128)) : EReal)) := by
  pointwise [summed]
  rw [Fin.sum_univ_four]
  rfl

end Cert.CombineReferenceIdeal.Terms

namespace Cert.CombineKernelIdeal.Body

open Cert.CombineKernelIdeal Cert.CombineKernelIdeal.Gen Cert.CombineReferenceIdeal.Terms

/-- The kernel's arithmetic at a row of a tile is the reference's at a token, where the row's inputs are the token's. -/
theorem tile_row (A2 : FVec Ideal S32768x128 .f32) (A3 : FVec Ideal S32768x1024 .f32) (A4 A5 : FVec Ideal S1x1024 .f32) (X : FVec Ideal Cert.CombineReferenceIdeal.S32768x4x1024 .f32)
    (xs : Fin 4 → S1x128x1024.Idx → Elt Ideal .f32) (G : FVec Ideal S128x128 .f32) (H : FVec Ideal S128x1024 .f32) (r : Fin 128) (n : Fin 32768)
    (hx : ∀ (j : Fin 4) (k : Fin 1024), xs j (ix3 (0 : Fin 1) r k) = X (ix3 n j k)) (hG : ∀ k : Fin 128, G (ix2 r k) = A2 (ix2 n k))
    (hH : ∀ k : Fin 1024, H (ix2 r k) = A3 (ix2 n k)) (l : Fin 1024) :
    (tile (F := Ideal) xs G H A4 A5 (ix2 r l) : EReal) = normed A4 A5 (summed A2 A3 X) (ix2 n l) := by
  have hz := summed_apply A2 A3 X n
  revert hz
  generalize summed A2 A3 X = Z
  intro hz
  pointwise [tile, k0_pay2, k0_pay1, normed, rowMean, hz, hx, hG, hH]

end Cert.CombineKernelIdeal.Body

end
-- ==== Proof.Combine.lean ====
/-
  The combination's call: from the run, that its arguments end as they were and what its two results hold; and that these are the
  reference's results.
-/
module

public import proofs.«01_k».proof.Proof.CombineRun
public import proofs.«01_k».proof.Proof.CombineReference
public import Idealize.ShloMosaic.Lib.Pipeline.Covers

@[expose] public section

set_option maxRecDepth 16384

noncomputable section

open Idealize.ShloMosaic Idealize.ShloMosaic.TcCoe Idealize.SL.Sem

namespace Cert.CombineKernelIdeal.Body

open Cert.CombineKernelIdeal Cert.CombineKernelIdeal.Gen Cert.RowGather

section
variable {F : FTy → Type} [FloatOps F] (m : (ℓ : Loc nD τ sig) → Buf (Elt F) ℓ) (ρ : Dev nD → PrngReg)
  (hR : ∀ c x, (places m c x).toNat < 147456)

/-- The arguments end as they were. -/
def Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

/-- An input window's array ends as it was. -/
theorem input_kept (c : Dev nD) (r : PUnit × MemSt nD τ sig (Elt F)) (h : Pipeline.FramePost cfgs (dats m) 0 (W m) r) (w : Fin 8) (hw : (cfg0.win w).isOut = false) :
    r.2.mem ((c.tc : Thread nD τ).loc (Pipeline.arrRef spec0 w)) = W m c (Pipeline.arrRef spec0 w) :=
  ((h c).1 w).trans (((dats m 0 c).arrAt_in w hw _).trans (A_eq m c w))

theorem args_kept (c : Dev nD) (r : PUnit × MemSt nD τ sig (Elt F)) (h : Pipeline.FramePost cfgs (dats m) 0 (W m) r) : Kept m r c :=
  ⟨input_kept m c r h 0 rfl, (h c).2 main_arg1 (Pipeline.mem_restRefs_of (win := spec0) main_arg1 (by decide) (by decide)), input_kept m c r h 2 rfl,
    input_kept m c r h 3 rfl, input_kept m c r h 4 rfl, input_kept m c r h 5 rfl⟩

include hR in
/-- The call runs, its arguments end as they were, and every counter ends at zero. -/
theorem quiet : θ_run (defs (F := F)) (onTc (τ := τ) (main (F := F))) ⟨m, fun _ => 0, ρ⟩ (fun r => (∀ c, Kept m r c) ∧ r.2.sem = fun _ => 0) :=
  (θ_run defs _ _).mono (fun r h => ⟨fun c => args_kept m c r h.1, h.2⟩) (run m ρ hR)

include hR in
/-- The call runs, and its results are what the points left in them. -/
theorem left : θ_run (defs (F := F)) (onTc (τ := τ) (main (F := F))) ⟨m, fun _ => 0, ρ⟩
    (fun r => ∀ c : Dev nD, r.2.mem ((c.tc : Thread nD τ).loc main_v0_0) = (dats m 0 c).arrAt (6 : Fin 8) cfg0.N
      ∧ r.2.mem ((c.tc : Thread nD τ).loc main_v0_1) = (dats m 0 c).arrAt (7 : Fin 8) cfg0.N ∧ Kept m r c) :=
  (θ_run defs _ _).mono (fun r h c => ⟨(h.1 c).1 (6 : Fin 8), (h.1 c).1 (7 : Fin 8), args_kept m c r h.1⟩) (run m ρ hR)

/-! ## What the windows hold -/

/-- Where the windows of the tokens stand at a point: at the point's tile. -/
theorem idx : ∀ t : Fin cfg0.N, win0_2.index t = ![(grid0.coords t 0).val, 0] ∧ win0_3.index t = ![(grid0.coords t 0).val, 0]
    ∧ win0_4.index t = ![0, 0] ∧ win0_5.index t = ![0, 0]
    ∧ win0_6.index t = ![(grid0.coords t 0).val, 0] ∧ win0_7.index t = ![(grid0.coords t 0).val, 0] :=
  (by decide +kernel : ∀ t : Fin grid0.N, _)

/-- A point's tile. -/
def tileOf (t : Fin cfg0.N) : Fin 256 := ⟨(grid0.coords t 0).val, (grid0.coords t 0).isLt⟩

open Cert.CombineReferenceIdeal.Terms (token entry)

theorem blk_2 (c : Dev nD) (t : Fin cfg0.N) (r : Fin 128) (k : Fin 128) :
    blkOf m c 2 t (ix2 r k) = m ((c : Thread nD τ).loc main_arg2) (ix2 (token (tileOf t) r) k) := by
  blk_ext [blkOf, W, idx t, token, tileOf]
theorem blk_3 (c : Dev nD) (t : Fin cfg0.N) (r : Fin 128) (k : Fin 1024) :
    blkOf m c 3 t (ix2 r k) = m ((c : Thread nD τ).loc main_arg3) (ix2 (token (tileOf t) r) k) := by
  blk_ext [blkOf, W, idx t, token, tileOf]
theorem whole (c : Dev nD) (t : Fin cfg0.N) : blkOf m c 4 t = m ((c : Thread nD τ).loc main_arg4) ∧ blkOf m c 5 t = m ((c : Thread nD τ).loc main_arg5) := by
  refine ⟨?_, ?_⟩ <;> blk_ext! [blkOf, W, idx t]

/-- The gathered rows: each token's from their places. -/
theorem gath_row (c : Dev nD) (t : Fin cfg0.N) (j : Fin 4) (r : Fin 128) (k : Fin 1024) :
    gath (wordsOf m c t.val) (table m c) j (ix3 (0 : Fin 1) r k) = table m c (ix2 (⟨(places m c (ix3 (tileOf t) (0 : Fin 1) (entry r j))).toNat, hR c _⟩ : Fin 147456) k) := by
  have hp : (⟨t.val % 256, Nat.mod_lt _ (by decide)⟩ : Fin 256) = tileOf t :=
    Fin.ext ((Nat.mod_eq_of_lt (t.isLt.trans_eq N_0)).trans (coord t).symm)
  have hb : 128 * j.val + r.val < 512 := by omega
  have he : (⟨128 * j.val + r.val, hb⟩ : Fin 512) = entry r j := Fin.ext (by show 128 * j.val + r.val = j.val * 128 + r.val; omega)
  have hw : ∀ x : Fin 512, wordsOf m c t.val (ix1 x) = places m c (ix3 (tileOf t) (0 : Fin 1) x) := fun x => by
    unfold wordsOf; rw [hp]
    rfl
  unfold gath
  refine congrArg (table m c) (congrArg₂ ix2 (Fin.ext ?_) rfl)
  show (pick K (wordsOf m c t.val) ⟨128 * j.val + r.val, hb⟩).val = _
  rw [he]
  have hv := pick_val (F := Ideal) K (w := wordsOf m c t.val) (fun x => (congrArg BitVec.toNat (hw x)).trans_lt (hR c _)) (entry r j)
  exact hv.symm.trans (congrArg BitVec.toNat (hw (entry r j)))
end

/-! ## The results -/

variable (m : (ℓ : Loc nD τ sig) → Buf (Elt Ideal) ℓ) (hR : ∀ c x, (places m c x).toNat < 147456)

open Cert.CombineReferenceIdeal.Terms (token entry result)

/-- The reference's first result of the call's arguments. -/
abbrev reference (c : Dev nD) :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

include hR in
/-- A point's tile is the reference's at the tile's tokens. -/
theorem point (c : Dev nD) (t : Fin cfg0.N) (r : Fin 128) (l : Fin 1024) : (outAt m c t (ix2 r l) : EReal) = reference m c (ix2 (token (tileOf t) r) l) := by
  obtain ⟨e4, e5⟩ := whole m c t
  unfold outAt
  rw [e4, e5]
  exact tile_row _ _ _ _ _ _ _ _ r (token (tileOf t) r)
    (fun j k => (gath_row m hR c t j r k).trans (CombineReferenceIdeal.Terms.rows_apply _ _ (hR c) (tileOf t) r j k).symm)
    (fun k => blk_2 m c t r k) (fun k => blk_3 m c t r k) l

include hR in
/-- What the points leave in the results are the reference's results. -/
theorem final (c : Dev nD) : (dats m 0 c).arrAt (6 : Fin 8) cfg0.N = reference m c := by
  refine (dats m 0 c).arrAt_eq_of_covers (6 : Fin 8) _ (by decide +kernel) fun t _ y => ?_
  rw [after_6]
  obtain ⟨r, l, rfl⟩ : ∃ (r : Fin 128) (l : Fin 1024), y = ix2 r l := ⟨y 0, y 1, eq_ix2 y⟩
  have hy : ((View.whole main_v0_0).slice (win0_6.rect t)).emb (ix2 r l) = ix2 (token (tileOf t) r) l := by
    blk_ext [idx t, token, tileOf]
  exact (point m hR c t r l).trans (congrArg (reference m c) hy.symm)

include hR in
theorem final_narrow (c : Dev nD) : (dats m 0 c).arrAt (7 : Fin 8) cfg0.N = truncf .bf16 (reference m c) bitsLt_bf16_f32 := by
  refine (dats m 0 c).arrAt_eq_of_covers (7 : Fin 8) _ (by decide +kernel) fun t _ y => ?_
  rw [after_7]
  obtain ⟨r, l, rfl⟩ : ∃ (r : Fin 128) (l : Fin 1024), y = ix2 r l := ⟨y 0, y 1, eq_ix2 y⟩
  have hy : ((View.whole main_v0_1).slice (win0_7.rect t)).emb (ix2 r l) = ix2 (token (tileOf t) r) l := by
    blk_ext [idx t, token, tileOf]
  exact (point m hR c t r l).trans (congrArg (reference m c) hy.symm)

end Cert.CombineKernelIdeal.Body

end
-- ==== Proof.CombineTransfer.lean ====
/-
  The combination's program as it is printed at bits is the program the run was proved for: the same text under another name.  Its range,
  opened: where the function that tests the places says yes, every place is below 147456.
-/
module

public import proofs.«01_k».proof.Proof.Combine
public import proofs.«01_k».proof.Proof.Range
public import proofs.«01_k».proof.Proof.Gen.CombineKernel
public import proofs.«01_k».proof.Pre_rows_in_range
public import proofs.«01_k».proof.Proof.Gen.Pre_rows_in_range

@[expose] public section

set_option maxRecDepth 16384

noncomputable section

open Idealize.ShloMosaic Idealize.ShloMosaic.TcCoe Idealize.SL.Sem

namespace Cert.Pre_rows_in_range

/-- Where the test says yes, the places are in range. -/
theorem in_range {F : FTy → Type} [FloatOps F] (A0 : IVec S256x1x512 32) (A1 : FVec F S147456x1024 .f32) (A2 : FVec F S32768x128 .f32)
    (A3 : FVec F S32768x1024 .f32) (A4 A5 : FVec F S1x1024 .f32) (h : fn A0 A1 A2 A3 A4 A5 = fun _ => 1#1) : ∀ x, (A0 x).toNat < 147456 := by
  obtain ⟨h1, h2⟩ := IntOp.andi_eq_one.1 (congrFun h (fun a => a.elim0))
  haveI : Subsingleton S_.Idx := ⟨fun i j => funext fun a => a.elim0⟩
  exact fun x => Pre_in_range.lt_of_tests (n := 147456#32) (by decide) (Host.reduce_andi_all _ _ _ _ _ h1 x) (Host.reduce_andi_all _ _ _ _ _ h2 x)

end Cert.Pre_rows_in_range

namespace Cert.CombineKernel.Transfer

open Cert.CombineKernel Cert.CombineKernel.Gen

variable {F : FTy → Type} [FloatOps F]

set_option maxHeartbeats 1000000

/-! Part by part, the two programs are equal. -/

theorem part1_eq : @Cert.CombineKernel.k0_part1 F _ _ = @Cert.CombineKernelIdeal.k0_part1 F _ _ := by
  delta Cert.CombineKernel.k0_part1 Cert.CombineKernelIdeal.k0_part1
  rfl
theorem part2_eq : @Cert.CombineKernel.k0_part2 F _ _ = @Cert.CombineKernelIdeal.k0_part2 F _ _ := by
  delta Cert.CombineKernel.k0_part2 Cert.CombineKernelIdeal.k0_part2
  rfl
theorem combine_eq : @Cert.CombineKernel.cc0_combine F _ _ = @Cert.CombineKernelIdeal.cc0_combine F _ _ := by
  delta Cert.CombineKernel.cc0_combine Cert.CombineKernelIdeal.cc0_combine
  rw [part1_eq, part2_eq]
  rfl
theorem defs₀_eq : @Cert.CombineKernel.defs₀ F _ _ = @Cert.CombineKernelIdeal.defs₀ F _ _ := by
  delta Cert.CombineKernel.defs₀ Cert.CombineKernelIdeal.defs₀
  rw [combine_eq]
  refine congrArg Defs.onTc ?_
  funext p x
  match p, x with
  | ⟨0, _⟩, (t, s) => rfl
theorem main_eq : @Cert.CombineKernel.main F _ = @Cert.CombineKernelIdeal.main F _ := rfl
theorem defs_eq : @Cert.CombineKernel.defs F _ _ = @Cert.CombineKernelIdeal.defs F _ _ := by
  delta Cert.CombineKernel.defs Cert.CombineKernelIdeal.defs
  rw [defs₀_eq]
  rfl

variable (m : (ℓ : Loc nD τ sig) → Buf (Elt F) ℓ)

/-- So what was proved of the one holds of the other: it runs, its arguments end as they were, every counter ends at zero. -/
theorem quiet (g : Dev nD → PrngReg) (hR : ∀ c x, (Cert.CombineKernelIdeal.Body.places m c x).toNat < 147456) :
    θ_run (defs (F := F)) (onTc (τ := τ) (main (F := F))) ⟨m, fun _ => 0, g⟩ (fun r => (∀ c, Cert.CombineKernelIdeal.Body.Kept m r c) ∧ r.2.sem = fun _ => 0) := by
  rw [defs_eq, main_eq]
  exact Cert.CombineKernelIdeal.Body.quiet m g hR

end Cert.CombineKernel.Transfer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ProjKernelIdeal.Value
public import proofs.«01_k».proof.Proof.Gen.ProjReferenceIdeal.Run
public import proofs.«01_k».proof.Proof.Gen.MergeKernelIdeal.Value
public import proofs.«01_k».proof.Proof.Gen.MergeReferenceIdeal.Run
public import proofs.«01_k».proof.Proof.Gen.ReferenceIdeal
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.ExpertKernel
public import proofs.«01_k».proof.Proof.Gen.ExpertKernel.Skeleton
public import proofs.«01_k».proof.Proof.Gen.ExpertKernel.Loops
public import proofs.«01_k».proof.Proof.Gen.ExpertKernel.Launch
public import proofs.«01_k».proof.Proof.Gen.ExpertKernel.Flash
public import proofs.«01_k».proof.Proof.Gen.ExpertKernelIdeal
public import proofs.«01_k».proof.Proof.Gen.ExpertKernelIdeal.Skeleton
public import proofs.«01_k».proof.Proof.Gen.ExpertKernelIdeal.Loops
public import proofs.«01_k».proof.Proof.Gen.ExpertKernelIdeal.Launch
public import proofs.«01_k».proof.Proof.Gen.ExpertKernelIdeal.Flash
public import proofs.«01_k».proof.Proof.Gen.ExpertReferenceIdeal
public import proofs.«01_k».proof.Proof.Gen.ExpertReferenceIdeal.Run
public import proofs.«01_k».proof.Proof.Gen.CombineKernel
public import proofs.«01_k».proof.Proof.Gen.CombineKernel.Skeleton
public import proofs.«01_k».proof.Proof.Gen.CombineKernel.Loops
public import proofs.«01_k».proof.Proof.Gen.CombineKernel.Launch
public import proofs.«01_k».proof.Proof.Gen.CombineKernel.Points
public import proofs.«01_k».proof.Proof.Gen.CombineKernelIdeal
public import proofs.«01_k».proof.Proof.Gen.CombineKernelIdeal.Skeleton
public import proofs.«01_k».proof.Proof.Gen.CombineKernelIdeal.Loops
public import proofs.«01_k».proof.Proof.Gen.CombineKernelIdeal.Launch
public import proofs.«01_k».proof.Proof.Gen.CombineKernelIdeal.Points
public import proofs.«01_k».proof.Proof.Gen.CombineReferenceIdeal
public import proofs.«01_k».proof.Proof.Gen.CombineReferenceIdeal.Run
public import proofs.«01_k».proof.Proof.Gen.Pre_in_range
public import proofs.«01_k».proof.Proof.Gen.Pre_rows_in_range
public import proofs.«01_k».proof.Proof.Attention
public import proofs.«01_k».proof.Proof.Finite
public import proofs.«01_k».proof.Proof.Projection
public import proofs.«01_k».proof.Proof.Merge
public import proofs.«01_k».proof.Proof.Range
public import proofs.«01_k».proof.Proof.Experts
public import proofs.«01_k».proof.Proof.Transfer
public import proofs.«01_k».proof.Proof.Combine
public import proofs.«01_k».proof.Proof.CombineTransfer
public import Idealize.ShloMosaic.Adequacy
public import Idealize.ShloMosaic.Init

@[expose] public section

noncomputable section

namespace Cert.Proof

open Idealize.ShloMosaic Idealize.SL.Sem

/-- The attention reference runs, keeps its arguments and ends quiescent. -/
theorem frame_attention_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The projection reference runs, keeps its arguments and ends quiescent. -/
theorem frame_projection_reference : Cert.quiescent_ProjReferenceIdeal := fun m g _ =>
  (θ_run Cert.ProjReferenceIdeal.defs _ _).mono (fun r h => ⟨fun c => (h c).2, Idealize.ShloMosaic.sem_eq_zero_of_no_sems (by decide) r.2⟩)
    (Cert.ProjReferenceIdeal.Value.run (F := Ideal) m g)

/-- The merge reference runs, keeps its arguments and ends quiescent. -/
theorem frame_merge_reference : Cert.quiescent_MergeReferenceIdeal := fun m g _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m g)

/-- The two named constants of the attention kernel. -/
theorem names : Cert.preserves_Kernel_KernelIdeal :=
  ⟨IdealRules.named_const.statement Cert.KernelIdeal.κ "mask" .f32 0xF149F2CA#32 ⊥ rfl,
    IdealRules.named_const.statement Cert.KernelIdeal.κ "scale" .f32 0x3DD105EC#32 (((Real.sqrt 96)⁻¹ : ℝ) : EReal) rfl⟩

/-- The attention kernel and its reference end with equal results where the queries and the keys are finite. -/
theorem attention [Cert.Pre_finite_scores.Facts] : Cert.algebraic_KernelIdeal_ReferenceIdeal_pre_finite_scores := by
  intro m g m' g' hpre hagree
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨h0, h1, h2⟩ := hagree c
  obtain ⟨hQ, hK⟩ := Cert.Pre_finite_scores.finite _ _ _ (hpre c)
  rw [Cert.ReferenceIdeal.Terms.run_eq, h0, h1, h2]
  exact (Cert.KernelIdeal.Tiles.final m c hQ hK).symm

/-- The projection kernel and its reference end with equal results. -/
theorem projection : Cert.algebraic_ProjKernelIdeal_ProjReferenceIdeal := by
  intro m g m' g' _ hagree
  refine ⟨_, Cert.ProjKernelIdeal.Value.run_blocks (F := Ideal) m g, ?_⟩
  refine (θ_run Cert.ProjReferenceIdeal.defs _ _).mono (fun _ h c => ⟨(h c).1.trans ?_, (h c).2⟩)
    (Cert.ProjReferenceIdeal.Value.run (F := Ideal) m' g')
  obtain ⟨h0, h1⟩ := hagree c
  rw [h0, h1]
  exact (Cert.ProjKernelIdeal.Tiles.final m c).symm

/-- The merge kernel and its reference end with equal results. -/
theorem merge : Cert.algebraic_MergeKernelIdeal_MergeReferenceIdeal := by
  intro m g m' g' _ hagree
  refine ⟨_, Cert.MergeKernelIdeal.Value.run_blocks (F := Ideal) m g, ?_⟩
  refine (θ_run Cert.MergeReferenceIdeal.defs _ _).mono (fun _ h c => ⟨(h c).1.trans ?_, (h c).2⟩)
    (Cert.MergeReferenceIdeal.Value.run (F := Ideal) m' g')
  obtain ⟨h0, h1, h2, h3, h4, h5, h6, h7, h8, h9, h10, h11, h12⟩ := hagree c
  rw [Cert.MergeReferenceIdeal.Terms.run_eq, h0, h1, h2, h3, h4, h5, h6, h7, h8, h9, h10, h11, h12]
  exact (Cert.MergeKernelIdeal.Tiles.final m c).symm

/-- The experts' kernel runs where the blocks' experts and the rows' tokens are in range. -/
theorem frame_experts : Cert.quiescent_ExpertKernelIdeal := fun m g hpre =>
  Cert.ExpertKernelIdeal.Rows.quiet m g (Cert.Pre_in_range.in_range _ _ _ _ _ _ _ (hpre 0)).1
    fun c => (Cert.Pre_in_range.in_range _ _ _ _ _ _ _ (hpre c)).2

/-- The same at bits. -/
theorem frame_experts_bits : Cert.quiescent_ExpertKernel := fun m g hpre =>
  Cert.ExpertKernel.Transfer.quiet m g (Cert.Pre_in_range.in_range _ _ _ _ _ _ _ (hpre 0)).1
    fun c => (Cert.Pre_in_range.in_range _ _ _ _ _ _ _ (hpre c)).2

/-- The experts' reference runs, keeps its arguments and ends quiescent. -/
theorem frame_experts_reference : Cert.quiescent_ExpertReferenceIdeal := fun m g _ =>
  (θ_run Cert.ExpertReferenceIdeal.defs _ _).mono (fun r h => ⟨fun c => (h c).2, Idealize.ShloMosaic.sem_eq_zero_of_no_sems (by decide) r.2⟩)
    (Cert.ExpertReferenceIdeal.Value.run (F := Ideal) m g)

/-- The experts' kernel and its reference end with equal results where the blocks' experts and the rows' tokens are in range. -/
theorem experts : Cert.algebraic_ExpertKernelIdeal_ExpertReferenceIdeal := by
  intro m g m' g' hpre hagree
  have hT := (Cert.Pre_in_range.in_range _ _ _ _ _ _ _ (hpre 0)).1
  have hR := fun c => (Cert.Pre_in_range.in_range _ _ _ _ _ _ _ (hpre c)).2
  refine ⟨_, Cert.ExpertKernelIdeal.Rows.left m g hT hR, ?_⟩
  refine (θ_run Cert.ExpertReferenceIdeal.defs _ _).mono (fun _ h c => ⟨(h c).1.trans ?_, (h c).2⟩)
    (Cert.ExpertReferenceIdeal.Value.run (F := Ideal) m' g')
  obtain ⟨h0, h1, h2, h3, h4, h5, h6⟩ := hagree c
  rw [Cert.ExpertReferenceIdeal.Terms.run_eq, h0, h1, h2, h3, h4, h5, h6]
  exact (Cert.ExpertKernelIdeal.Rows.final m hT hR c).symm

/-- The combination's kernel runs where the places are in range. -/
theorem frame_combine : Cert.quiescent_CombineKernelIdeal := fun m g hpre =>
  Cert.CombineKernelIdeal.Body.quiet m g fun c => Cert.Pre_rows_in_range.in_range _ _ _ _ _ _ (hpre c)

/-- The same at bits. -/
theorem frame_combine_bits : Cert.quiescent_CombineKernel := fun m g hpre =>
  Cert.CombineKernel.Transfer.quiet m g fun c => Cert.Pre_rows_in_range.in_range _ _ _ _ _ _ (hpre c)

/-- The combination's reference runs, keeps its arguments and ends quiescent. -/
theorem frame_combine_reference : Cert.quiescent_CombineReferenceIdeal := fun m g _ =>
  (θ_run Cert.CombineReferenceIdeal.defs _ _).mono (fun r h => ⟨fun c => (h c).2.2, Idealize.ShloMosaic.sem_eq_zero_of_no_sems (by decide) r.2⟩)
    (Cert.CombineReferenceIdeal.Value.run (F := Ideal) m g)

/-- The combination's kernel and its reference end with equal results, both of them, where the places are in range. -/
theorem combine : Cert.algebraic_CombineKernelIdeal_CombineReferenceIdeal := by
  intro m g m' g' hpre hagree
  have hR := fun c => Cert.Pre_rows_in_range.in_range _ _ _ _ _ _ (hpre c)
  refine ⟨_, _, Cert.CombineKernelIdeal.Body.left m g hR, ?_⟩
  refine (θ_run Cert.CombineReferenceIdeal.defs _ _).mono (fun _ h c => ⟨(h c).1.trans ?_, (h c).2.1.trans ?_, (h c).2.2⟩)
    (Cert.CombineReferenceIdeal.Value.run (F := Ideal) m' g')
  all_goals obtain ⟨h0, h1, h2, h3, h4, h5⟩ := hagree c
  · rw [Cert.CombineReferenceIdeal.Terms.run_eq, h0, h1, h2, h3, h4, h5]
    exact (Cert.CombineKernelIdeal.Body.final m hR c).symm
  · rw [Cert.CombineReferenceIdeal.Terms.run_eq_narrow, h0, h1, h2, h3, h4, h5]
    exact (Cert.CombineKernelIdeal.Body.final_narrow m hR c).symm

theorem claim : Cert.Claim :=
  ⟨Cert.Kernel.Gen.facts, Cert.KernelIdeal.Gen.facts, Cert.ReferenceIdeal.Gen.facts, Cert.ProjKernel.Gen.facts,
    Cert.ProjKernelIdeal.Gen.facts, Cert.ProjReferenceIdeal.Gen.facts, Cert.MergeKernel.Gen.facts, Cert.MergeKernelIdeal.Gen.facts,
    Cert.MergeReferenceIdeal.Gen.facts, Cert.ExpertKernel.Gen.facts, Cert.ExpertKernelIdeal.Gen.facts,
    Cert.ExpertReferenceIdeal.Gen.facts, Cert.CombineKernel.Gen.facts, Cert.CombineKernelIdeal.Gen.facts,
    Cert.CombineReferenceIdeal.Gen.facts, Cert.Pre_finite_scores.facts, Cert.Pre_in_range.Gen.facts, Cert.Pre_rows_in_range.Gen.facts,
    fun m g _ => Cert.Kernel.Gen.frame m g, fun m g _ => Cert.KernelIdeal.Gen.frame m g, fun m g _ => Cert.KernelIdeal.Gen.frame m g,
    frame_attention_reference, fun m g _ => frame_attention_reference m g trivial,
    fun m g _ => Cert.ProjKernel.Gen.frame m g, fun m g _ => Cert.ProjKernelIdeal.Gen.frame m g, frame_projection_reference,
    fun m g _ => Cert.MergeKernel.Gen.frame m g, fun m g _ => Cert.MergeKernelIdeal.Gen.frame m g, frame_merge_reference,
    frame_experts_bits, frame_experts, frame_experts_reference, fun m g _ => frame_experts_reference m g trivial,
    frame_combine_bits, frame_combine, frame_combine_reference, fun m g _ => frame_combine_reference m g trivial,
    names, @attention Cert.Pre_finite_scores.facts, trivial, projection, trivial, merge, trivial, experts, trivial, combine⟩

end Cert.Proof

end
